-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_StepIdeal (m : (ℓ : Loc Cert.StepIdeal.nD Cert.StepIdeal.τ Cert.StepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Update_UpdateIdeal : Prop :=
  True

def algebraic_UpdateIdeal_StepIdeal [hUpdateIdeal : Cert.UpdateIdeal.Facts] [hStepIdeal : Cert.StepIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.StepIdeal.nD Cert.StepIdeal.τ Cert.StepIdeal.sig) → Buf (Elt Ideal) ℓ) (g' : Dev Cert.StepIdeal.nD → PrngReg), Pre_UpdateIdeal m →
    (∀ c : Dev Cert.UpdateIdeal.nD,
      m' ((c.tc : Thread Cert.StepIdeal.nD Cert.StepIdeal.τ).loc Cert.StepIdeal.main_arg0) = m ((c.tc : Thread Cert.UpdateIdeal.nD Cert.UpdateIdeal.τ).loc Cert.UpdateIdeal.main_arg0)
      ∧ m' ((c.tc : Thread Cert.StepIdeal.nD Cert.StepIdeal.τ).loc Cert.StepIdeal.main_arg1) = m ((c.tc : Thread Cert.UpdateIdeal.nD Cert.UpdateIdeal.τ).loc Cert.UpdateIdeal.main_arg1)
      ∧ m' ((c.tc : Thread Cert.StepIdeal.nD Cert.StepIdeal.τ).loc Cert.StepIdeal.main_arg2) = m ((c.tc : Thread Cert.UpdateIdeal.nD Cert.UpdateIdeal.τ).loc Cert.UpdateIdeal.main_arg2)
      ∧ m' ((c.tc : Thread Cert.StepIdeal.nD Cert.StepIdeal.τ).loc Cert.StepIdeal.main_arg3) = m ((c.tc : Thread Cert.UpdateIdeal.nD Cert.UpdateIdeal.τ).loc Cert.UpdateIdeal.main_arg3)
      ∧ m' ((c.tc : Thread Cert.StepIdeal.nD Cert.StepIdeal.τ).loc Cert.StepIdeal.main_arg4) = m ((c.tc : Thread Cert.UpdateIdeal.nD Cert.UpdateIdeal.τ).loc Cert.UpdateIdeal.main_arg4)
      ∧ m' ((c.tc : Thread Cert.StepIdeal.nD Cert.StepIdeal.τ).loc Cert.StepIdeal.main_arg5) = m ((c.tc : Thread Cert.UpdateIdeal.nD Cert.UpdateIdeal.τ).loc Cert.UpdateIdeal.main_arg5)
      ∧ m' ((c.tc : Thread Cert.StepIdeal.nD Cert.StepIdeal.τ).loc Cert.StepIdeal.main_arg6) = m ((c.tc : Thread Cert.UpdateIdeal.nD Cert.UpdateIdeal.τ).loc Cert.UpdateIdeal.main_arg6)) →
    ∃ (v0 : (c : Dev Cert.UpdateIdeal.nD) → Buf (Elt Ideal) ((c.tc : Thread Cert.UpdateIdeal.nD Cert.UpdateIdeal.τ).loc Cert.UpdateIdeal.main_v5)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v5) = v0 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6))
      ∧ θ_run (Cert.StepIdeal.defs (F := Ideal)) (onTc (τ := Cert.StepIdeal.τ) (Cert.StepIdeal.main (F := Ideal))) ⟨m', fun _ => 0, g'⟩ (fun r => ∀ c : Dev Cert.StepIdeal.nD,
          r.2.mem ((c.tc : Thread Cert.StepIdeal.nD Cert.StepIdeal.τ).loc Cert.StepIdeal.main_v10) = v0 c
          ∧ r.2.mem ((c.tc : Thread Cert.StepIdeal.nD Cert.StepIdeal.τ).loc Cert.StepIdeal.main_arg0) = m' ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m' ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m' ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m' ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m' ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m' ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m' ((c.tc : Thread Cert.StepIdeal.nD Cert.StepIdeal.τ).loc Cert.StepIdeal.main_arg6))

def Claim : Prop :=
  ∃ (hKernel : Cert.Kernel.Facts) (hKernelIdeal : Cert.KernelIdeal.Facts) (hReferenceIdeal : Cert.ReferenceIdeal.Facts) (hUpdate : Cert.Update.Facts) (hUpdateIdeal : Cert.UpdateIdeal.Facts) (hStepIdeal : Cert.StepIdeal.Facts),
    quiescent_Kernel (hKernel := hKernel)
    ∧ quiescent_KernelIdeal (hKernelIdeal := hKernelIdeal)
    ∧ quiescent_ReferenceIdeal (hReferenceIdeal := hReferenceIdeal)
    ∧ quiescent_Update (hUpdate := hUpdate)
    ∧ quiescent_UpdateIdeal (hUpdateIdeal := hUpdateIdeal)
    ∧ quiescent_StepIdeal (hStepIdeal := hStepIdeal)
    ∧ preserves_Kernel_KernelIdeal
    ∧ algebraic_KernelIdeal_ReferenceIdeal (hKernelIdeal := hKernelIdeal) (hReferenceIdeal := hReferenceIdeal)
    ∧ preserves_Update_UpdateIdeal
    ∧ algebraic_UpdateIdeal_StepIdeal (hUpdateIdeal := hUpdateIdeal) (hStepIdeal := hStepIdeal)
-- ==== Kernel.lean ====
abbrev S3x640x49152 : Shape := ⟨3, ![3, 640, 49152]⟩
abbrev S3x640x384 : Shape := ⟨3, ![3, 640, 384]⟩
abbrev S49152x2560 : Shape := ⟨2, ![49152, 2560]⟩
abbrev S49152 : Shape := ⟨1, ![49152]⟩
abbrev S3x640 : Shape := ⟨2, ![3, 640]⟩
abbrev S3x640x2560 : Shape := ⟨3, ![3, 640, 2560]⟩
abbrev S1920x49152 : Shape := ⟨2, ![1920, 49152]⟩
abbrev S1920x384 : Shape := ⟨2, ![1920, 384]⟩
abbrev S48x1x1024 : Shape := ⟨3, ![48, 1, 1024]⟩
abbrev S960x2x2560 : Shape := ⟨3, ![960, 2, 2560]⟩
abbrev S1920 : Shape := ⟨1, ![1920]⟩
abbrev S_ : Shape := ⟨0, ![]⟩
abbrev S1920x2560 : Shape := ⟨2, ![1920, 2560]⟩
abbrev S1920x2x2560 : Shape := ⟨3, ![1920, 2, 2560]⟩
abbrev S1920x1024 : Shape := ⟨2, ![1920, 1024]⟩
abbrev S1920x128 : Shape := ⟨2, ![1920, 128]⟩
abbrev S1024x2560 : Shape := ⟨2, ![1024, 2560]⟩
abbrev S1x1x1024 : Shape := ⟨3, ![1, 1, 1024]⟩
abbrev S1 : Shape := ⟨1, ![1]⟩
abbrev S1x2x2560 : Shape := ⟨3, ![1, 2, 2560]⟩
abbrev S1920x128x1 : Shape := ⟨3, ![1920, 128, 1]⟩
abbrev S1x1x128 : Shape := ⟨3, ![1, 1, 128]⟩
abbrev S1x128 : Shape := ⟨2, ![1, 128]⟩
abbrev S128x128 : Shape := ⟨2, ![128, 128]⟩
abbrev S1920x256 : Shape := ⟨2, ![1920, 256]⟩
abbrev S1024x256 : Shape := ⟨2, ![1024, 256]⟩
abbrev S40x2x2560 : Shape := ⟨3, ![40, 2, 2560]⟩

abbrev nBuf : Space → Nat
  | .hbm => 21
  | .vmem => 12
  | .smem => 1
  | _ => 0

abbrev bufTy : (tb : Table) → Fin (tcTables nBuf tb) → BufTy
  | .hbm, ⟨0, _⟩ => ⟨S3x640x49152, .fp8e5m2⟩
  | .hbm, ⟨1, _⟩ => ⟨S3x640x384, .f32⟩
  | .hbm, ⟨2, _⟩ => ⟨S49152x2560, .i8⟩
  | .hbm, ⟨3, _⟩ => ⟨S49152, .f32⟩
  | .hbm, ⟨4, _⟩ => ⟨S3x640, .i32⟩
  | .hbm, ⟨5, _⟩ => ⟨S3x640x2560, .bf16⟩
  | .hbm, ⟨6, _⟩ => ⟨S1920x49152, .fp8e5m2⟩
  | .hbm, ⟨7, _⟩ => ⟨S1920x384, .f32⟩
  | .hbm, ⟨8, _⟩ => ⟨S48x1x1024, .f32⟩
  | .hbm, ⟨9, _⟩ => ⟨S960x2x2560, .bf16⟩
  | .hbm, ⟨10, _⟩ => ⟨S1920, .i32⟩
  | .hbm, ⟨11, _⟩ => ⟨S_, .i32⟩
  | .hbm, ⟨12, _⟩ => ⟨S1920, .i32⟩
  | .hbm, ⟨13, _⟩ => ⟨S1920, .i32⟩
  | .hbm, ⟨14, _⟩ => ⟨S1920, .i32⟩
  | .hbm, ⟨15, _⟩ => ⟨S1920, .i32⟩
  | .hbm, ⟨16, _⟩ => ⟨S1920, .i32⟩
  | .hbm, ⟨17, _⟩ => ⟨S_, .i32⟩
  | .hbm, ⟨18, _⟩ => ⟨S1920, .i32⟩
  | .hbm, ⟨19, _⟩ => ⟨S1920x2560, .bf16⟩
  | .hbm, ⟨20, _⟩ => ⟨S1920x2x2560, .bf16⟩
  | .local _ .vmem, ⟨0, _⟩ => ⟨S1920x1024, .fp8e5m2⟩
  | .local _ .vmem, ⟨1, _⟩ => ⟨S1920x1024, .fp8e5m2⟩
  | .local _ .vmem, ⟨2, _⟩ => ⟨S1920x128, .f32⟩
  | .local _ .vmem, ⟨3, _⟩ => ⟨S1920x128, .f32⟩
  | .local _ .vmem, ⟨4, _⟩ => ⟨S1024x2560, .i8⟩
  | .local _ .vmem, ⟨5, _⟩ => ⟨S1024x2560, .i8⟩
  | .local _ .vmem, ⟨6, _⟩ => ⟨S1x1x1024, .f32⟩
  | .local _ .vmem, ⟨7, _⟩ => ⟨S1x1x1024, .f32⟩
  | .local _ .vmem, ⟨8, _⟩ => ⟨S1920x2560, .bf16⟩
  | .local _ .vmem, ⟨9, _⟩ => ⟨S1920x2560, .f32⟩
  | .local _ .vmem, ⟨10, _⟩ => ⟨S1920x1024, .bf16⟩
  | .local _ .vmem, ⟨11, _⟩ => ⟨S1024x2560, .bf16⟩
  | .local _ .smem, ⟨0, _⟩ => ⟨S1920, .i32⟩
  | _, _ => ⟨S3x640x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v12_0 : Ref sig .tc := ⟨.hbm, 19, rfl⟩
abbrev main_v12_1 : Ref sig .tc := ⟨.hbm, 20, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c40_i32 : BitVec 32 := 40#32
  let v0 : BitVec 32 := Scalar.muli arg0 c40_i32
  let c0_i32 : BitVec 32 := 0#32
  let v1 : BitVec 32 := Scalar.addi v0 c0_i32
  let v2 : Index := Scalar.indexCast v1
  ![v2.toNat]
def k0_off2 (i : grid0.Coords) : Fin 3 → Nat :=
  let arg0 : BitVec 32 := BitVec.ofNat 32 (i 0).val
  let c40_i32 : BitVec 32 := 40#32
  let v0 : BitVec 32 := Scalar.muli arg0 c40_i32
  let c0_i32 : BitVec 32 := 0#32
  let v1 : BitVec 32 := Scalar.addi v0 c0_i32
  let c0_i32_0 : BitVec 32 := 0#32
  let c0_i32_1 : BitVec 32 := 0#32
  ![v1.toNat, 0, 0]
def k0_off3 (v3 : BitVec 32) : Fin 3 → Nat :=
  let c1_i32 : BitVec 32 := 1#32
  let v4 : BitVec 32 := Scalar.shrsi v3 c1_i32
  let c0_i32_2 : BitVec 32 := 0#32
  let c0_i32_3 : BitVec 32 := 0#32
  ![v4.toNat, 0, 0]

def k0_chk1 (v3 : BitVec 32) : Prop :=
  (∀ a, (k0_off3 v3) a + S1x2x2560.size a ≤ S960x2x2560.size a) ∧
  (∀ (hinb : ∀ a, (k0_off3 v3) a + S1x2x2560.size a ≤ S960x2x2560.size a), (Rect.unit (s := S960x2x2560) (k0_off3 v3) S1x2x2560.size hinb).WholeWords (EltTy.packing .bf16))
theorem k0_off3_inb : ∀ (v3 : BitVec 32) (k0_hw1 : k0_chk1 v3), ∀ a, (k0_off3 v3) a + S1x2x2560.size a ≤ S960x2x2560.size a := fun v3 k0_hw1 => k0_hw1.1
theorem k0_off3_wordsbf16 : ∀ (v3 : BitVec 32) (k0_hw1 : k0_chk1 v3), (Rect.unit (s := S960x2x2560) (k0_off3 v3) S1x2x2560.size (k0_off3_inb v3 k0_hw1)).WholeWords (EltTy.packing .bf16) := fun v3 k0_hw1 => k0_hw1.2 (k0_off3_inb v3 k0_hw1)

def k0_off4 (i : grid0.Coords) : Fin 1 → Nat :=
  let arg0 : BitVec 32 := BitVec.ofNat 32 (i 0).val
  let c40_i32_4 : BitVec 32 := 40#32
  let v7 : BitVec 32 := Scalar.muli arg0 c40_i32_4
  let c1_i32_5 : BitVec 32 := 1#32
  let v8 : BitVec 32 := Scalar.addi v7 c1_i32_5
  let v9 : Index := Scalar.indexCast v8
  ![v9.toNat]
def k0_off5 (i : grid0.Coords) : Fin 3 → Nat :=
  let arg0 : BitVec 32 := BitVec.ofNat 32 (i 0).val
  let c40_i32_4 : BitVec 32 := 40#32
  let v7 : BitVec 32 := Scalar.muli arg0 c40_i32_4
  let c1_i32_5 : BitVec 32 := 1#32
  let v8 : BitVec 32 := Scalar.addi v7 c1_i32_5
  let c0_i32_7 : BitVec 32 := 0#32
  let c0_i32_8 : BitVec 32 := 0#32
  ![v8.toNat, 0, 0]
def k0_off6 (v10 : BitVec 32) : Fin 3 → Nat :=
  let c1_i32_6 : BitVec 32 := 1#32
  let v11 : BitVec 32 := Scalar.shrsi v10 c1_i32_6
  let c0_i32_9 : BitVec 32 := 0#32
  let c0_i32_10 : BitVec 32 := 0#32
  ![v11.toNat, 0, 0]

def k0_chk2 (v10 : BitVec 32) : Prop :=
  (∀ a, (k0_off6 v10) a + S1x2x2560.size a ≤ S960x2x2560.size a) ∧
  (∀ (hinb : ∀ a, (k0_off6 v10) a + S1x2x2560.size a ≤ S960x2x2560.size a), (Rect.unit (s := S960x2x2560) (k0_off6 v10) S1x2x2560.size hinb).WholeWords (EltTy.packing .bf16))
theorem k0_off6_inb : ∀ (v10 : BitVec 32) (k0_hw2 : k0_chk2 v10), ∀ a, (k0_off6 v10) a + S1x2x2560.size a ≤ S960x2x2560.size a := fun v10 k0_hw2 => k0_hw2.1
theorem k0_off6_wordsbf16 : ∀ (v10 : BitVec 32) (k0_hw2 : k0_chk2 v10), (Rect.unit (s := S960x2x2560) (k0_off6 v10) S1x2x2560.size (k0_off6_inb v10 k0_hw2)).WholeWords (EltTy.packing .bf16) := fun v10 k0_hw2 => k0_hw2.2 (k0_off6_inb v10 k0_hw2)

def k0_off7 (i : grid0.Coords) : Fin 1 → Nat :=
  let arg0 : BitVec 32 := BitVec.ofNat 32 (i 0).val
  let c40_i32_11 : BitVec 32 := 40#32
  let v14 : BitVec 32 := Scalar.muli arg0 c40_i32_11
  let c2_i32 : BitVec 32 := 2#32
  let v15 : BitVec 32 := Scalar.addi v14 c2_i32
  let v16 : Index := Scalar.indexCast v15
  ![v16.toNat]
def k0_off8 (i : grid0.Coords) : Fin 3 → Nat :=
  let arg0 : BitVec 32 := BitVec.ofNat 32 (i 0).val
  let c40_i32_11 : BitVec 32 := 40#32
  let v14 : BitVec 32 := Scalar.muli arg0 c40_i32_11
  let c2_i32 : BitVec 32 := 2#32
  let v15 : BitVec 32 := Scalar.addi v14 c2_i32
  let c0_i32_13 : BitVec 32 := 0#32
  let c0_i32_14 : BitVec 32 := 0#32
  ![v15.toNat, 0, 0]
def k0_off9 (v17 : BitVec 32) : Fin 3 → Nat :=
  let c1_i32_12 : BitVec 32 := 1#32
  let v18 : BitVec 32 := Scalar.shrsi v17 c1_i32_12
  let c0_i32_15 : BitVec 32 := 0#32
  let c0_i32_16 : BitVec 32 := 0#32
  ![v18.toNat, 0, 0]

def k0_chk3 (v17 : BitVec 32) : Prop :=
  (∀ a, (k0_off9 v17) a + S1x2x2560.size a ≤ S960x2x2560.size a) ∧
  (∀ (hinb : ∀ a, (k0_off9 v17) a + S1x2x2560.size a ≤ S960x2x2560.size a), (Rect.unit (s := S960x2x2560) (k0_off9 v17) S1x2x2560.size hinb).WholeWords (EltTy.packing .bf16))
theorem k0_off9_inb : ∀ (v17 : BitVec 32) (k0_hw3 : k0_chk3 v17), ∀ a, (k0_off9 v17) a + S1x2x2560.size a ≤ S960x2x2560.size a := fun v17 k0_hw3 => k0_hw3.1
theorem k0_off9_wordsbf16 : ∀ (v17 : BitVec 32) (k0_hw3 : k0_chk3 v17), (Rect.unit (s := S960x2x2560) (k0_off9 v17) S1x2x2560.size (k0_off9_inb v17 k0_hw3)).WholeWords (EltTy.packing .bf16) := fun v17 k0_hw3 => k0_hw3.2 (k0_off9_inb v17 k0_hw3)

def k0_off10 (i : grid0.Coords) : Fin 1 → Nat :=
  let arg0 : BitVec 32 := BitVec.ofNat 32 (i 0).val
  let c40_i32_17 : BitVec 32 := 40#32
  let v21 : BitVec 32 := Scalar.muli arg0 c40_i32_17
  let c3_i32 : BitVec 32 := 3#32
  let v22 : BitVec 32 := Scalar.addi v21 c3_i32
  let v23 : Index := Scalar.indexCast v22
  ![v23.toNat]
def k0_off11 (i : grid0.Coords) : Fin 3 → Nat :=
  let arg0 : BitVec 32 := BitVec.ofNat 32 (i 0).val
  let c40_i32_17 : BitVec 32 := 40#32
  let v21 : BitVec 32 := Scalar.muli arg0 c40_i32_17
  let c3_i32 : BitVec 32 := 3#32
  let v22 : BitVec 32 := Scalar.addi v21 c3_i32
  let c0_i32_19 : BitVec 32 := 0#32
  let c0_i32_20 : BitVec 32 := 0#32
  ![v22.toNat, 0, 0]
def k0_off12 (v24 : BitVec 32) : Fin 3 → Nat :=
  let c1_i32_18 : BitVec 32 := 1#32
  let v25 : BitVec 32 := Scalar.shrsi v24 c1_i32_18
  let c0_i32_21 : BitVec 32 := 0#32
  let c0_i32_22 : BitVec 32 := 0#32
  ![v25.toNat, 0, 0]

def k0_chk4 (v24 : BitVec 32) : Prop :=
  (∀ a, (k0_off12 v24) a + S1x2x2560.size a ≤ S960x2x2560.size a) ∧
  (∀ (hinb : ∀ a, (k0_off12 v24) a + S1x2x2560.size a ≤ S960x2x2560.size a), (Rect.unit (s := S960x2x2560) (k0_off12 v24) S1x2x2560.size hinb).WholeWords (EltTy.packing .bf16))
theorem k0_off12_inb : ∀ (v24 : BitVec 32) (k0_hw4 : k0_chk4 v24), ∀ a, (k0_off12 v24) a + S1x2x2560.size a ≤ S960x2x2560.size a := fun v24 k0_hw4 => k0_hw4.1
theorem k0_off12_wordsbf16 : ∀ (v24 : BitVec 32) (k0_hw4 : k0_chk4 v24), (Rect.unit (s := S960x2x2560) (k0_off12 v24) S1x2x2560.size (k0_off12_inb v24 k0_hw4)).WholeWords (EltTy.packing .bf16) := fun v24 k0_hw4 => k0_hw4.2 (k0_off12_inb v24 k0_hw4)

def k0_off13 (i : grid0.Coords) : Fin 1 → Nat :=
  let arg0 : BitVec 32 := BitVec.ofNat 32 (i 0).val
  let c40_i32_23 : BitVec 32 := 40#32
  let v28 : BitVec 32 := Scalar.muli arg0 c40_i32_23
  let c4_i32 : BitVec 32 := 4#32
  let v29 : BitVec 32 := Scalar.addi v28 c4_i32
  let v30 : Index := Scalar.indexCast v29
  ![v30.toNat]
def k0_off14 (i : grid0.Coords) : Fin 3 → Nat :=
  let arg0 : BitVec 32 := BitVec.ofNat 32 (i 0).val
  let c40_i32_23 : BitVec 32 := 40#32
  let v28 : BitVec 32 := Scalar.muli arg0 c40_i32_23
  let c4_i32 : BitVec 32 := 4#32
  let v29 : BitVec 32 := Scalar.addi v28 c4_i32
  let c0_i32_25 : BitVec 32 := 0#32
  let c0_i32_26 : BitVec 32 := 0#32
  ![v29.toNat, 0, 0]
def k0_off15 (v31 : BitVec 32) : Fin 3 → Nat :=
  let c1_i32_24 : BitVec 32 := 1#32
  let v32 : BitVec 32 := Scalar.shrsi v31 c1_i32_24
  let c0_i32_27 : BitVec 32 := 0#32
  let c0_i32_28 : BitVec 32 := 0#32
  ![v32.toNat, 0, 0]

def k0_chk5 (v31 : BitVec 32) : Prop :=
  (∀ a, (k0_off15 v31) a + S1x2x2560.size a ≤ S960x2x2560.size a) ∧
  (∀ (hinb : ∀ a, (k0_off15 v31) a + S1x2x2560.size a ≤ S960x2x2560.size a), (Rect.unit (s := S960x2x2560) (k0_off15 v31) S1x2x2560.size hinb).WholeWords (EltTy.packing .bf16))
theorem k0_off15_inb : ∀ (v31 : BitVec 32) (k0_hw5 : k0_chk5 v31), ∀ a, (k0_off15 v31) a + S1x2x2560.size a ≤ S960x2x2560.size a := fun v31 k0_hw5 => k0_hw5.1
theorem k0_off15_wordsbf16 : ∀ (v31 : BitVec 32) (k0_hw5 : k0_chk5 v31), (Rect.unit (s := S960x2x2560) (k0_off15 v31) S1x2x2560.size (k0_off15_inb v31 k0_hw5)).WholeWords (EltTy.packing .bf16) := fun v31 k0_hw5 => k0_hw5.2 (k0_off15_inb v31 k0_hw5)

def k0_off16 (i : grid0.Coords) : Fin 1 → Nat :=
  let arg0 : BitVec 32 := BitVec.ofNat 32 (i 0).val
  let c40_i32_29 : BitVec 32 := 40#32
  let v35 : BitVec 32 := Scalar.muli arg0 c40_i32_29
  let c5_i32 : BitVec 32 := 5#32
  let v36 : BitVec 32 := Scalar.addi v35 c5_i32
  let v37 : Index := Scalar.indexCast v36
  ![v37.toNat]
def k0_off17 (i : grid0.Coords) : Fin 3 → Nat :=
  let arg0 : BitVec 32 := BitVec.ofNat 32 (i 0).val
  let c40_i32_29 : BitVec 32 := 40#32
  let v35 : BitVec 32 := Scalar.muli arg0 c40_i32_29
  let c5_i32 : BitVec 32 := 5#32
  let v36 : BitVec 32 := Scalar.addi v35 c5_i32
  let c0_i32_31 : BitVec 32 := 0#32
  let c0_i32_32 : BitVec 32 := 0#32
  ![v36.toNat, 0, 0]
def k0_off18 (v38 : BitVec 32) : Fin 3 → Nat :=
  let c1_i32_30 : BitVec 32 := 1#32
  let v39 : BitVec 32 := Scalar.shrsi v38 c1_i32_30
  let c0_i32_33 : BitVec 32 := 0#32
  let c0_i32_34 : BitVec 32 := 0#32
  ![v39.toNat, 0, 0]

def k0_chk6 (v38 : BitVec 32) : Prop :=
  (∀ a, (k0_off18 v38) a + S1x2x2560.size a ≤ S960x2x2560.size a) ∧
  (∀ (hinb : ∀ a, (k0_off18 v38) a + S1x2x2560.size a ≤ S960x2x2560.size a), (Rect.unit (s := S960x2x2560) (k0_off18 v38) S1x2x2560.size hinb).WholeWords (EltTy.packing .bf16))
theorem k0_off18_inb : ∀ (v38 : BitVec 32) (k0_hw6 : k0_chk6 v38), ∀ a, (k0_off18 v38) a + S1x2x2560.size a ≤ S960x2x2560.size a := fun v38 k0_hw6 => k0_hw6.1
theorem k0_off18_wordsbf16 : ∀ (v38 : BitVec 32) (k0_hw6 : k0_chk6 v38), (Rect.unit (s := S960x2x2560) (k0_off18 v38) S1x2x2560.size (k0_off18_inb v38 k0_hw6)).WholeWords (EltTy.packing .bf16) := fun v38 k0_hw6 => k0_hw6.2 (k0_off18_inb v38 k0_hw6)

def k0_off19 (i : grid0.Coords) : Fin 1 → Nat :=
  let arg0 : BitVec 32 := BitVec.ofNat 32 (i 0).val
  let c40_i32_35 : BitVec 32 := 40#32
  let v42 : BitVec 32 := Scalar.muli arg0 c40_i32_35
  let c6_i32 : BitVec 32 := 6#32
  let v43 : BitVec 32 := Scalar.addi v42 c6_i32
  let v44 : Index := Scalar.indexCast v43
  ![v44.toNat]
def k0_off20 (i : grid0.Coords) : Fin 3 → Nat :=
  let arg0 : BitVec 32 := BitVec.ofNat 32 (i 0).val
  let c40_i32_35 : BitVec 32 := 40#32
  let v42 : BitVec 32 := Scalar.muli arg0 c40_i32_35
  let c6_i32 : BitVec 32 := 6#32
  let v43 : BitVec 32 := Scalar.addi v42 c6_i32
  let c0_i32_37 : BitVec 32 := 0#32
  let c0_i32_38 : BitVec 32 := 0#32
  ![v43.toNat, 0, 0]
def k0_off21 (v45 : BitVec 32) : Fin 3 → Nat :=
  let c1_i32_36 : BitVec 32 := 1#32
  let v46 : BitVec 32 := Scalar.shrsi v45 c1_i32_36
  let c0_i32_39 : BitVec 32 := 0#32
  let c0_i32_40 : BitVec 32 := 0#32
  ![v46.toNat, 0, 0]

def k0_chk7 (v45 : BitVec 32) : Prop :=
  (∀ a, (k0_off21 v45) a + S1x2x2560.size a ≤ S960x2x2560.size a) ∧
  (∀ (hinb : ∀ a, (k0_off21 v45) a + S1x2x2560.size a ≤ S960x2x2560.size a), (Rect.unit (s := S960x2x2560) (k0_off21 v45) S1x2x2560.size hinb).WholeWords (EltTy.packing .bf16))
theorem k0_off21_inb : ∀ (v45 : BitVec 32) (k0_hw7 : k0_chk7 v45), ∀ a, (k0_off21 v45) a + S1x2x2560.size a ≤ S960x2x2560.size a := fun v45 k0_hw7 => k0_hw7.1
theorem k0_off21_wordsbf16 : ∀ (v45 : BitVec 32) (k0_hw7 : k0_chk7 v45), (Rect.unit (s := S960x2x2560) (k0_off21 v45) S1x2x2560.size (k0_off21_inb v45 k0_hw7)).WholeWords (EltTy.packing .bf16) := fun v45 k0_hw7 => k0_hw7.2 (k0_off21_inb v45 k0_hw7)

def k0_off22 (i : grid0.Coords) : Fin 1 → Nat :=
  let arg0 : BitVec 32 := BitVec.ofNat 32 (i 0).val
  let c40_i32_41 : BitVec 32 := 40#32
  let v49 : BitVec 32 := Scalar.muli arg0 c40_i32_41
  let c7_i32 : BitVec 32 := 7#32
  let v50 : BitVec 32 := Scalar.addi v49 c7_i32
  let v51 : Index := Scalar.indexCast v50
  ![v51.toNat]
def k0_off23 (i : grid0.Coords) : Fin 3 → Nat :=
  let arg0 : BitVec 32 := BitVec.ofNat 32 (i 0).val
  let c40_i32_41 : BitVec 32 := 40#32
  let v49 : BitVec 32 := Scalar.muli arg0 c40_i32_41
  let c7_i32 : BitVec 32 := 7#32
  let v50 : BitVec 32 := Scalar.addi v49 c7_i32
  let c0_i32_43 : BitVec 32 := 0#32
  let c0_i32_44 : BitVec 32 := 0#32
  ![v50.toNat, 0, 0]
def k0_off24 (v52 : BitVec 32) : Fin 3 → Nat :=
  let c1_i32_42 : BitVec 32 := 1#32
  let v53 : BitVec 32 := Scalar.shrsi v52 c1_i32_42
  let c0_i32_45 : BitVec 32 := 0#32
  let c0_i32_46 : BitVec 32 := 0#32
  ![v53.toNat, 0, 0]

def k0_chk8 (v52 : BitVec 32) : Prop :=
  (∀ a, (k0_off24 v52) a + S1x2x2560.size a ≤ S960x2x2560.size a) ∧
  (∀ (hinb : ∀ a, (k0_off24 v52) a + S1x2x2560.size a ≤ S960x2x2560.size a), (Rect.unit (s := S960x2x2560) (k0_off24 v52) S1x2x2560.size hinb).WholeWords (EltTy.packing .bf16))
theorem k0_off24_inb : ∀ (v52 : BitVec 32) (k0_hw8 : k0_chk8 v52), ∀ a, (k0_off24 v52) a + S1x2x2560.size a ≤ S960x2x2560.size a := fun v52 k0_hw8 => k0_hw8.1
theorem k0_off24_wordsbf16 : ∀ (v52 : BitVec 32) (k0_hw8 : k0_chk8 v52), (Rect.unit (s := S960x2x2560) (k0_off24 v52) S1x2x2560.size (k0_off24_inb v52 k0_hw8)).WholeWords (EltTy.packing .bf16) := fun v52 k0_hw8 => k0_hw8.2 (k0_off24_inb v52 k0_hw8)

def k0_off25 (i : grid0.Coords) : Fin 1 → Nat :=
  let arg0 : BitVec 32 := BitVec.ofNat 32 (i 0).val
  let c40_i32_47 : BitVec 32 := 40#32
  let v56 : BitVec 32 := Scalar.muli arg0 c40_i32_47
  let c8_i32 : BitVec 32 := 8#32
  let v57 : BitVec 32 := Scalar.addi v56 c8_i32
  let v58 : Index := Scalar.indexCast v57
  ![v58.toNat]
def k0_off26 (i : grid0.Coords) : Fin 3 → Nat :=
  let arg0 : BitVec 32 := BitVec.ofNat 32 (i 0).val
  let c40_i32_47 : BitVec 32 := 40#32
  let v56 : BitVec 32 := Scalar.muli arg0 c40_i32_47
  let c8_i32 : BitVec 32 := 8#32
  let v57 : BitVec 32 := Scalar.addi v56 c8_i32
  let c0_i32_49 : BitVec 32 := 0#32
  let c0_i32_50 : BitVec 32 := 0#32
  ![v57.toNat, 0, 0]
def k0_off27 (v59 : BitVec 32) : Fin 3 → Nat :=
  let c1_i32_48 : BitVec 32 := 1#32
  let v60 : BitVec 32 := Scalar.shrsi v59 c1_i32_48
  let c0_i32_51 : BitVec 32 := 0#32
  let c0_i32_52 : BitVec 32 := 0#32
  ![v60.toNat, 0, 0]

def k0_chk9 (v59 : BitVec 32) : Prop :=
  (∀ a, (k0_off27 v59) a + S1x2x2560.size a ≤ S960x2x2560.size a) ∧
  (∀ (hinb : ∀ a, (k0_off27 v59) a + S1x2x2560.size a ≤ S960x2x2560.size a), (Rect.unit (s := S960x2x2560) (k0_off27 v59) S1x2x2560.size hinb).WholeWords (EltTy.packing .bf16))
theorem k0_off27_inb : ∀ (v59 : BitVec 32) (k0_hw9 : k0_chk9 v59), ∀ a, (k0_off27 v59) a + S1x2x2560.size a ≤ S960x2x2560.size a := fun v59 k0_hw9 => k0_hw9.1
theorem k0_off27_wordsbf16 : ∀ (v59 : BitVec 32) (k0_hw9 : k0_chk9 v59), (Rect.unit (s := S960x2x2560) (k0_off27 v59) S1x2x2560.size (k0_off27_inb v59 k0_hw9)).WholeWords (EltTy.packing .bf16) := fun v59 k0_hw9 => k0_hw9.2 (k0_off27_inb v59 k0_hw9)

def k0_off28 (i : grid0.Coords) : Fin 1 → Nat :=
  let arg0 : BitVec 32 := BitVec.ofNat 32 (i 0).val
  let c40_i32_53 : BitVec 32 := 40#32
  let v63 : BitVec 32 := Scalar.muli arg0 c40_i32_53
  let c9_i32 : BitVec 32 := 9#32
  let v64 : BitVec 32 := Scalar.addi v63 c9_i32
  let v65 : Index := Scalar.indexCast v64
  ![v65.toNat]
def k0_off29 (i : grid0.Coords) : Fin 3 → Nat :=
  let arg0 : BitVec 32 := BitVec.ofNat 32 (i 0).val
  let c40_i32_53 : BitVec 32 := 40#32
  let v63 : BitVec 32 := Scalar.muli arg0 c40_i32_53
  let c9_i32 : BitVec 32 := 9#32
  let v64 : BitVec 32 := Scalar.addi v63 c9_i32
  let c0_i32_55 : BitVec 32 := 0#32
  let c0_i32_56 : BitVec 32 := 0#32
  ![v64.toNat, 0, 0]
def k0_off30 (v66 : BitVec 32) : Fin 3 → Nat :=
  let c1_i32_54 : BitVec 32 := 1#32
  let v67 : BitVec 32 := Scalar.shrsi v66 c1_i32_54
  let c0_i32_57 : BitVec 32 := 0#32
  let c0_i32_58 : BitVec 32 := 0#32
  ![v67.toNat, 0, 0]

def k0_chk10 (v66 : BitVec 32) : Prop :=
  (∀ a, (k0_off30 v66) a + S1x2x2560.size a ≤ S960x2x2560.size a) ∧
  (∀ (hinb : ∀ a, (k0_off30 v66) a + S1x2x2560.size a ≤ S960x2x2560.size a), (Rect.unit (s := S960x2x2560) (k0_off30 v66) S1x2x2560.size hinb).WholeWords (EltTy.packing .bf16))
theorem k0_off30_inb : ∀ (v66 : BitVec 32) (k0_hw10 : k0_chk10 v66), ∀ a, (k0_off30 v66) a + S1x2x2560.size a ≤ S960x2x2560.size a := fun v66 k0_hw10 => k0_hw10.1
theorem k0_off30_wordsbf16 : ∀ (v66 : BitVec 32) (k0_hw10 : k0_chk10 v66), (Rect.unit (s := S960x2x2560) (k0_off30 v66) S1x2x2560.size (k0_off30_inb v66 k0_hw10)).WholeWords (EltTy.packing .bf16) := fun v66 k0_hw10 => k0_hw10.2 (k0_off30_inb v66 k0_hw10)

def k0_off31 (i : grid0.Coords) : Fin 1 → Nat :=
  let arg0 : BitVec 32 := BitVec.ofNat 32 (i 0).val
  let c40_i32_59 : BitVec 32 := 40#32
  let v70 : BitVec 32 := Scalar.muli arg0 c40_i32_59
  let c10_i32 : BitVec 32 := 10#32
  let v71 : BitVec 32 := Scalar.addi v70 c10_i32
  let v72 : Index := Scalar.indexCast v71
  ![v72.toNat]
def k0_off32 (i : grid0.Coords) : Fin 3 → Nat :=
  let arg0 : BitVec 32 := BitVec.ofNat 32 (i 0).val
  let c40_i32_59 : BitVec 32 := 40#32
  let v70 : BitVec 32 := Scalar.muli arg0 c40_i32_59
  let c10_i32 : BitVec 32 := 10#32
  let v71 : BitVec 32 := Scalar.addi v70 c10_i32
  let c0_i32_61 : BitVec 32 := 0#32
  let c0_i32_62 : BitVec 32 := 0#32
  ![v71.toNat, 0, 0]
def k0_off33 (v73 : BitVec 32) : Fin 3 → Nat :=
  let c1_i32_60 : BitVec 32 := 1#32
  let v74 : BitVec 32 := Scalar.shrsi v73 c1_i32_60
  let c0_i32_63 : BitVec 32 := 0#32
  let c0_i32_64 : BitVec 32 := 0#32
  ![v74.toNat, 0, 0]

def k0_chk11 (v73 : BitVec 32) : Prop :=
  (∀ a, (k0_off33 v73) a + S1x2x2560.size a ≤ S960x2x2560.size a) ∧
  (∀ (hinb : ∀ a, (k0_off33 v73) a + S1x2x2560.size a ≤ S960x2x2560.size a), (Rect.unit (s := S960x2x2560) (k0_off33 v73) S1x2x2560.size hinb).WholeWords (EltTy.packing .bf16))
theorem k0_off33_inb : ∀ (v73 : BitVec 32) (k0_hw11 : k0_chk11 v73), ∀ a, (k0_off33 v73) a + S1x2x2560.size a ≤ S960x2x2560.size a := fun v73 k0_hw11 => k0_hw11.1
theorem k0_off33_wordsbf16 : ∀ (v73 : BitVec 32) (k0_hw11 : k0_chk11 v73), (Rect.unit (s := S960x2x2560) (k0_off33 v73) S1x2x2560.size (k0_off33_inb v73 k0_hw11)).WholeWords (EltTy.packing .bf16) := fun v73 k0_hw11 => k0_hw11.2 (k0_off33_inb v73 k0_hw11)

def k0_off34 (i : grid0.Coords) : Fin 1 → Nat :=
  let arg0 : BitVec 32 := BitVec.ofNat 32 (i 0).val
  let c40_i32_65 : BitVec 32 := 40#32
  let v77 : BitVec 32 := Scalar.muli arg0 c40_i32_65
  let c11_i32 : BitVec 32 := 11#32
  let v78 : BitVec 32 := Scalar.addi v77 c11_i32
  let v79 : Index := Scalar.indexCast v78
  ![v79.toNat]
def k0_off35 (i : grid0.Coords) : Fin 3 → Nat :=
  let arg0 : BitVec 32 := BitVec.ofNat 32 (i 0).val
  let c40_i32_65 : BitVec 32 := 40#32
  let v77 : BitVec 32 := Scalar.muli arg0 c40_i32_65
  let c11_i32 : BitVec 32 := 11#32
  let v78 : BitVec 32 := Scalar.addi v77 c11_i32
  let c0_i32_67 : BitVec 32 := 0#32
  let c0_i32_68 : BitVec 32 := 0#32
  ![v78.toNat, 0, 0]
def k0_off36 (v80 : BitVec 32) : Fin 3 → Nat :=
  let c1_i32_66 : BitVec 32 := 1#32
  let v81 : BitVec 32 := Scalar.shrsi v80 c1_i32_66
  let c0_i32_69 : BitVec 32 := 0#32
  let c0_i32_70 : BitVec 32 := 0#32
  ![v81.toNat, 0, 0]

def k0_chk12 (v80 : BitVec 32) : Prop :=
  (∀ a, (k0_off36 v80) a + S1x2x2560.size a ≤ S960x2x2560.size a) ∧
  (∀ (hinb : ∀ a, (k0_off36 v80) a + S1x2x2560.size a ≤ S960x2x2560.size a), (Rect.unit (s := S960x2x2560) (k0_off36 v80) S1x2x2560.size hinb).WholeWords (EltTy.packing .bf16))
theorem k0_off36_inb : ∀ (v80 : BitVec 32) (k0_hw12 : k0_chk12 v80), ∀ a, (k0_off36 v80) a + S1x2x2560.size a ≤ S960x2x2560.size a := fun v80 k0_hw12 => k0_hw12.1
theorem k0_off36_wordsbf16 : ∀ (v80 : BitVec 32) (k0_hw12 : k0_chk12 v80), (Rect.unit (s := S960x2x2560) (k0_off36 v80) S1x2x2560.size (k0_off36_inb v80 k0_hw12)).WholeWords (EltTy.packing .bf16) := fun v80 k0_hw12 => k0_hw12.2 (k0_off36_inb v80 k0_hw12)

def k0_off37 (i : grid0.Coords) : Fin 1 → Nat :=
  let arg0 : BitVec 32 := BitVec.ofNat 32 (i 0).val
  let c40_i32_71 : BitVec 32 := 40#32
  let v84 : BitVec 32 := Scalar.muli arg0 c40_i32_71
  let c12_i32 : BitVec 32 := 12#32
  let v85 : BitVec 32 := Scalar.addi v84 c12_i32
  let v86 : Index := Scalar.indexCast v85
  ![v86.toNat]
def k0_off38 (i : grid0.Coords) : Fin 3 → Nat :=
  let arg0 : BitVec 32 := BitVec.ofNat 32 (i 0).val
  let c40_i32_71 : BitVec 32 := 40#32
  let v84 : BitVec 32 := Scalar.muli arg0 c40_i32_71
  let c12_i32 : BitVec 32 := 12#32
  let v85 : BitVec 32 := Scalar.addi v84 c12_i32
  let c0_i32_73 : BitVec 32 := 0#32
  let c0_i32_74 : BitVec 32 := 0#32
  ![v85.toNat, 0, 0]
def k0_off39 (v87 : BitVec 32) : Fin 3 → Nat :=
  let c1_i32_72 : BitVec 32 := 1#32
  let v88 : BitVec 32 := Scalar.shrsi v87 c1_i32_72
  let c0_i32_75 : BitVec 32 := 0#32
  let c0_i32_76 : BitVec 32 := 0#32
  ![v88.toNat, 0, 0]

def k0_chk13 (v87 : BitVec 32) : Prop :=
  (∀ a, (k0_off39 v87) a + S1x2x2560.size a ≤ S960x2x2560.size a) ∧
  (∀ (hinb : ∀ a, (k0_off39 v87) a + S1x2x2560.size a ≤ S960x2x2560.size a), (Rect.unit (s := S960x2x2560) (k0_off39 v87) S1x2x2560.size hinb).WholeWords (EltTy.packing .bf16))
theorem k0_off39_inb : ∀ (v87 : BitVec 32) (k0_hw13 : k0_chk13 v87), ∀ a, (k0_off39 v87) a + S1x2x2560.size a ≤ S960x2x2560.size a := fun v87 k0_hw13 => k0_hw13.1
theorem k0_off39_wordsbf16 : ∀ (v87 : BitVec 32) (k0_hw13 : k0_chk13 v87), (Rect.unit (s := S960x2x2560) (k0_off39 v87) S1x2x2560.size (k0_off39_inb v87 k0_hw13)).WholeWords (EltTy.packing .bf16) := fun v87 k0_hw13 => k0_hw13.2 (k0_off39_inb v87 k0_hw13)

def k0_off40 (i : grid0.Coords) : Fin 1 → Nat :=
  let arg0 : BitVec 32 := BitVec.ofNat 32 (i 0).val
  let c40_i32_77 : BitVec 32 := 40#32
  let v91 : BitVec 32 := Scalar.muli arg0 c40_i32_77
  let c13_i32 : BitVec 32 := 13#32
  let v92 : BitVec 32 := Scalar.addi v91 c13_i32
  let v93 : Index := Scalar.indexCast v92
  ![v93.toNat]
def k0_off41 (i : grid0.Coords) : Fin 3 → Nat :=
  let arg0 : BitVec 32 := BitVec.ofNat 32 (i 0).val
  let c40_i32_77 : BitVec 32 := 40#32
  let v91 : BitVec 32 := Scalar.muli arg0 c40_i32_77
  let c13_i32 : BitVec 32 := 13#32
  let v92 : BitVec 32 := Scalar.addi v91 c13_i32
  let c0_i32_79 : BitVec 32 := 0#32
  let c0_i32_80 : BitVec 32 := 0#32
  ![v92.toNat, 0, 0]
def k0_off42 (v94 : BitVec 32) : Fin 3 → Nat :=
  let c1_i32_78 : BitVec 32 := 1#32
  let v95 : BitVec 32 := Scalar.shrsi v94 c1_i32_78
  let c0_i32_81 : BitVec 32 := 0#32
  let c0_i32_82 : BitVec 32 := 0#32
  ![v95.toNat, 0, 0]

def k0_chk14 (v94 : BitVec 32) : Prop :=
  (∀ a, (k0_off42 v94) a + S1x2x2560.size a ≤ S960x2x2560.size a) ∧
  (∀ (hinb : ∀ a, (k0_off42 v94) a + S1x2x2560.size a ≤ S960x2x2560.size a), (Rect.unit (s := S960x2x2560) (k0_off42 v94) S1x2x2560.size hinb).WholeWords (EltTy.packing .bf16))
theorem k0_off42_inb : ∀ (v94 : BitVec 32) (k0_hw14 : k0_chk14 v94), ∀ a, (k0_off42 v94) a + S1x2x2560.size a ≤ S960x2x2560.size a := fun v94 k0_hw14 => k0_hw14.1
theorem k0_off42_wordsbf16 : ∀ (v94 : BitVec 32) (k0_hw14 : k0_chk14 v94), (Rect.unit (s := S960x2x2560) (k0_off42 v94) S1x2x2560.size (k0_off42_inb v94 k0_hw14)).WholeWords (EltTy.packing .bf16) := fun v94 k0_hw14 => k0_hw14.2 (k0_off42_inb v94 k0_hw14)

def k0_off43 (i : grid0.Coords) : Fin 1 → Nat :=
  let arg0 : BitVec 32 := BitVec.ofNat 32 (i 0).val
  let c40_i32_83 : BitVec 32 := 40#32
  let v98 : BitVec 32 := Scalar.muli arg0 c40_i32_83
  let c14_i32 : BitVec 32 := 14#32
  let v99 : BitVec 32 := Scalar.addi v98 c14_i32
  let v100 : Index := Scalar.indexCast v99
  ![v100.toNat]
def k0_off44 (i : grid0.Coords) : Fin 3 → Nat :=
  let arg0 : BitVec 32 := BitVec.ofNat 32 (i 0).val
  let c40_i32_83 : BitVec 32 := 40#32
  let v98 : BitVec 32 := Scalar.muli arg0 c40_i32_83
  let c14_i32 : BitVec 32 := 14#32
  let v99 : BitVec 32 := Scalar.addi v98 c14_i32
  let c0_i32_85 : BitVec 32 := 0#32
  let c0_i32_86 : BitVec 32 := 0#32
  ![v99.toNat, 0, 0]
def k0_off45 (v101 : BitVec 32) : Fin 3 → Nat :=
  let c1_i32_84 : BitVec 32 := 1#32
  let v102 : BitVec 32 := Scalar.shrsi v101 c1_i32_84
  let c0_i32_87 : BitVec 32 := 0#32
  let c0_i32_88 : BitVec 32 := 0#32
  ![v102.toNat, 0, 0]

def k0_chk15 (v101 : BitVec 32) : Prop :=
  (∀ a, (k0_off45 v101) a + S1x2x2560.size a ≤ S960x2x2560.size a) ∧
  (∀ (hinb : ∀ a, (k0_off45 v101) a + S1x2x2560.size a ≤ S960x2x2560.size a), (Rect.unit (s := S960x2x2560) (k0_off45 v101) S1x2x2560.size hinb).WholeWords (EltTy.packing .bf16))
theorem k0_off45_inb : ∀ (v101 : BitVec 32) (k0_hw15 : k0_chk15 v101), ∀ a, (k0_off45 v101) a + S1x2x2560.size a ≤ S960x2x2560.size a := fun v101 k0_hw15 => k0_hw15.1
theorem k0_off45_wordsbf16 : ∀ (v101 : BitVec 32) (k0_hw15 : k0_chk15 v101), (Rect.unit (s := S960x2x2560) (k0_off45 v101) S1x2x2560.size (k0_off45_inb v101 k0_hw15)).WholeWords (EltTy.packing .bf16) := fun v101 k0_hw15 => k0_hw15.2 (k0_off45_inb v101 k0_hw15)

def k0_off46 (i : grid0.Coords) : Fin 1 → Nat :=
  let arg0 : BitVec 32 := BitVec.ofNat 32 (i 0).val
  let c40_i32_89 : BitVec 32 := 40#32
  let v105 : BitVec 32 := Scalar.muli arg0 c40_i32_89
  let c15_i32 : BitVec 32 := 15#32
  let v106 : BitVec 32 := Scalar.addi v105 c15_i32
  let v107 : Index := Scalar.indexCast v106
  ![v107.toNat]
def k0_off47 (i : grid0.Coords) : Fin 3 → Nat :=
  let arg0 : BitVec 32 := BitVec.ofNat 32 (i 0).val
  let c40_i32_89 : BitVec 32 := 40#32
  let v105 : BitVec 32 := Scalar.muli arg0 c40_i32_89
  let c15_i32 : BitVec 32 := 15#32
  let v106 : BitVec 32 := Scalar.addi v105 c15_i32
  let c0_i32_91 : BitVec 32 := 0#32
  let c0_i32_92 : BitVec 32 := 0#32
  ![v106.toNat, 0, 0]
def k0_off48 (v108 : BitVec 32) : Fin 3 → Nat :=
  let c1_i32_90 : BitVec 32 := 1#32
  let v109 : BitVec 32 := Scalar.shrsi v108 c1_i32_90
  let c0_i32_93 : BitVec 32 := 0#32
  let c0_i32_94 : BitVec 32 := 0#32
  ![v109.toNat, 0, 0]

def k0_chk16 (v108 : BitVec 32) : Prop :=
  (∀ a, (k0_off48 v108) a + S1x2x2560.size a ≤ S960x2x2560.size a) ∧
  (∀ (hinb : ∀ a, (k0_off48 v108) a + S1x2x2560.size a ≤ S960x2x2560.size a), (Rect.unit (s := S960x2x2560) (k0_off48 v108) S1x2x2560.size hinb).WholeWords (EltTy.packing .bf16))
theorem k0_off48_inb : ∀ (v108 : BitVec 32) (k0_hw16 : k0_chk16 v108), ∀ a, (k0_off48 v108) a + S1x2x2560.size a ≤ S960x2x2560.size a := fun v108 k0_hw16 => k0_hw16.1
theorem k0_off48_wordsbf16 : ∀ (v108 : BitVec 32) (k0_hw16 : k0_chk16 v108), (Rect.unit (s := S960x2x2560) (k0_off48 v108) S1x2x2560.size (k0_off48_inb v108 k0_hw16)).WholeWords (EltTy.packing .bf16) := fun v108 k0_hw16 => k0_hw16.2 (k0_off48_inb v108 k0_hw16)

def k0_off49 (i : grid0.Coords) : Fin 1 → Nat :=
  let arg0 : BitVec 32 := BitVec.ofNat 32 (i 0).val
  let c40_i32_95 : BitVec 32 := 40#32
  let v112 : BitVec 32 := Scalar.muli arg0 c40_i32_95
  let c16_i32 : BitVec 32 := 16#32
  let v113 : BitVec 32 := Scalar.addi v112 c16_i32
  let v114 : Index := Scalar.indexCast v113
  ![v114.toNat]
def k0_off50 (i : grid0.Coords) : Fin 3 → Nat :=
  let arg0 : BitVec 32 := BitVec.ofNat 32 (i 0).val
  let c40_i32_95 : BitVec 32 := 40#32
  let v112 : BitVec 32 := Scalar.muli arg0 c40_i32_95
  let c16_i32 : BitVec 32 := 16#32
  let v113 : BitVec 32 := Scalar.addi v112 c16_i32
  let c0_i32_97 : BitVec 32 := 0#32
  let c0_i32_98 : BitVec 32 := 0#32
  ![v113.toNat, 0, 0]
def k0_off51 (v115 : BitVec 32) : Fin 3 → Nat :=
  let c1_i32_96 : BitVec 32 := 1#32
  let v116 : BitVec 32 := Scalar.shrsi v115 c1_i32_96
  let c0_i32_99 : BitVec 32 := 0#32
  let c0_i32_100 : BitVec 32 := 0#32
  ![v116.toNat, 0, 0]

def k0_chk17 (v115 : BitVec 32) : Prop :=
  (∀ a, (k0_off51 v115) a + S1x2x2560.size a ≤ S960x2x2560.size a) ∧
  (∀ (hinb : ∀ a, (k0_off51 v115) a + S1x2x2560.size a ≤ S960x2x2560.size a), (Rect.unit (s := S960x2x2560) (k0_off51 v115) S1x2x2560.size hinb).WholeWords (EltTy.packing .bf16))
theorem k0_off51_inb : ∀ (v115 : BitVec 32) (k0_hw17 : k0_chk17 v115), ∀ a, (k0_off51 v115) a + S1x2x2560.size a ≤ S960x2x2560.size a := fun v115 k0_hw17 => k0_hw17.1
theorem k0_off51_wordsbf16 : ∀ (v115 : BitVec 32) (k0_hw17 : k0_chk17 v115), (Rect.unit (s := S960x2x2560) (k0_off51 v115) S1x2x2560.size (k0_off51_inb v115 k0_hw17)).WholeWords (EltTy.packing .bf16) := fun v115 k0_hw17 => k0_hw17.2 (k0_off51_inb v115 k0_hw17)

def k0_off52 (i : grid0.Coords) : Fin 1 → Nat :=
  let arg0 : BitVec 32 := BitVec.ofNat 32 (i 0).val
  let c40_i32_101 : BitVec 32 := 40#32
  let v119 : BitVec 32 := Scalar.muli arg0 c40_i32_101
  let c17_i32 : BitVec 32 := 17#32
  let v120 : BitVec 32 := Scalar.addi v119 c17_i32
  let v121 : Index := Scalar.indexCast v120
  ![v121.toNat]
def k0_off53 (i : grid0.Coords) : Fin 3 → Nat :=
  let arg0 : BitVec 32 := BitVec.ofNat 32 (i 0).val
  let c40_i32_101 : BitVec 32 := 40#32
  let v119 : BitVec 32 := Scalar.muli arg0 c40_i32_101
  let c17_i32 : BitVec 32 := 17#32
  let v120 : BitVec 32 := Scalar.addi v119 c17_i32
  let c0_i32_103 : BitVec 32 := 0#32
  let c0_i32_104 : BitVec 32 := 0#32
  ![v120.toNat, 0, 0]
def k0_off54 (v122 : BitVec 32) : Fin 3 → Nat :=
  let c1_i32_102 : BitVec 32 := 1#32
  let v123 : BitVec 32 := Scalar.shrsi v122 c1_i32_102
  let c0_i32_105 : BitVec 32 := 0#32
  let c0_i32_106 : BitVec 32 := 0#32
  ![v123.toNat, 0, 0]

def k0_chk18 (v122 : BitVec 32) : Prop :=
  (∀ a, (k0_off54 v122) a + S1x2x2560.size a ≤ S960x2x2560.size a) ∧
  (∀ (hinb : ∀ a, (k0_off54 v122) a + S1x2x2560.size a ≤ S960x2x2560.size a), (Rect.unit (s := S960x2x2560) (k0_off54 v122) S1x2x2560.size hinb).WholeWords (EltTy.packing .bf16))
theorem k0_off54_inb : ∀ (v122 : BitVec 32) (k0_hw18 : k0_chk18 v122), ∀ a, (k0_off54 v122) a + S1x2x2560.size a ≤ S960x2x2560.size a := fun v122 k0_hw18 => k0_hw18.1
theorem k0_off54_wordsbf16 : ∀ (v122 : BitVec 32) (k0_hw18 : k0_chk18 v122), (Rect.unit (s := S960x2x2560) (k0_off54 v122) S1x2x2560.size (k0_off54_inb v122 k0_hw18)).WholeWords (EltTy.packing .bf16) := fun v122 k0_hw18 => k0_hw18.2 (k0_off54_inb v122 k0_hw18)

def k0_off55 (i : grid0.Coords) : Fin 1 → Nat :=
  let arg0 : BitVec 32 := BitVec.ofNat 32 (i 0).val
  let c40_i32_107 : BitVec 32 := 40#32
  let v126 : BitVec 32 := Scalar.muli arg0 c40_i32_107
  let c18_i32 : BitVec 32 := 18#32
  let v127 : BitVec 32 := Scalar.addi v126 c18_i32
  let v128 : Index := Scalar.indexCast v127
  ![v128.toNat]
def k0_off56 (i : grid0.Coords) : Fin 3 → Nat :=
  let arg0 : BitVec 32 := BitVec.ofNat 32 (i 0).val
  let c40_i32_107 : BitVec 32 := 40#32
  let v126 : BitVec 32 := Scalar.muli arg0 c40_i32_107
  let c18_i32 : BitVec 32 := 18#32
  let v127 : BitVec 32 := Scalar.addi v126 c18_i32
  let c0_i32_109 : BitVec 32 := 0#32
  let c0_i32_110 : BitVec 32 := 0#32
  ![v127.toNat, 0, 0]
def k0_off57 (v129 : BitVec 32) : Fin 3 → Nat :=
  let c1_i32_108 : BitVec 32 := 1#32
  let v130 : BitVec 32 := Scalar.shrsi v129 c1_i32_108
  let c0_i32_111 : BitVec 32 := 0#32
  let c0_i32_112 : BitVec 32 := 0#32
  ![v130.toNat, 0, 0]

def k0_chk19 (v129 : BitVec 32) : Prop :=
  (∀ a, (k0_off57 v129) a + S1x2x2560.size a ≤ S960x2x2560.size a) ∧
  (∀ (hinb : ∀ a, (k0_off57 v129) a + S1x2x2560.size a ≤ S960x2x2560.size a), (Rect.unit (s := S960x2x2560) (k0_off57 v129) S1x2x2560.size hinb).WholeWords (EltTy.packing .bf16))
theorem k0_off57_inb : ∀ (v129 : BitVec 32) (k0_hw19 : k0_chk19 v129), ∀ a, (k0_off57 v129) a + S1x2x2560.size a ≤ S960x2x2560.size a := fun v129 k0_hw19 => k0_hw19.1
theorem k0_off57_wordsbf16 : ∀ (v129 : BitVec 32) (k0_hw19 : k0_chk19 v129), (Rect.unit (s := S960x2x2560) (k0_off57 v129) S1x2x2560.size (k0_off57_inb v129 k0_hw19)).WholeWords (EltTy.packing .bf16) := fun v129 k0_hw19 => k0_hw19.2 (k0_off57_inb v129 k0_hw19)

def k0_off58 (i : grid0.Coords) : Fin 1 → Nat :=
  let arg0 : BitVec 32 := BitVec.ofNat 32 (i 0).val
  let c40_i32_113 : BitVec 32 := 40#32
  let v133 : BitVec 32 := Scalar.muli arg0 c40_i32_113
  let c19_i32 : BitVec 32 := 19#32
  let v134 : BitVec 32 := Scalar.addi v133 c19_i32
  let v135 : Index := Scalar.indexCast v134
  ![v135.toNat]
def k0_off59 (i : grid0.Coords) : Fin 3 → Nat :=
  let arg0 : BitVec 32 := BitVec.ofNat 32 (i 0).val
  let c40_i32_113 : BitVec 32 := 40#32
  let v133 : BitVec 32 := Scalar.muli arg0 c40_i32_113
  let c19_i32 : BitVec 32 := 19#32
  let v134 : BitVec 32 := Scalar.addi v133 c19_i32
  let c0_i32_115 : BitVec 32 := 0#32
  let c0_i32_116 : BitVec 32 := 0#32
  ![v134.toNat, 0, 0]
def k0_off60 (v136 : BitVec 32) : Fin 3 → Nat :=
  let c1_i32_114 : BitVec 32 := 1#32
  let v137 : BitVec 32 := Scalar.shrsi v136 c1_i32_114
  let c0_i32_117 : BitVec 32 := 0#32
  let c0_i32_118 : BitVec 32 := 0#32
  ![v137.toNat, 0, 0]

def k0_chk20 (v136 : BitVec 32) : Prop :=
  (∀ a, (k0_off60 v136) a + S1x2x2560.size a ≤ S960x2x2560.size a) ∧
  (∀ (hinb : ∀ a, (k0_off60 v136) a + S1x2x2560.size a ≤ S960x2x2560.size a), (Rect.unit (s := S960x2x2560) (k0_off60 v136) S1x2x2560.size hinb).WholeWords (EltTy.packing .bf16))
theorem k0_off60_inb : ∀ (v136 : BitVec 32) (k0_hw20 : k0_chk20 v136), ∀ a, (k0_off60 v136) a + S1x2x2560.size a ≤ S960x2x2560.size a := fun v136 k0_hw20 => k0_hw20.1
theorem k0_off60_wordsbf16 : ∀ (v136 : BitVec 32) (k0_hw20 : k0_chk20 v136), (Rect.unit (s := S960x2x2560) (k0_off60 v136) S1x2x2560.size (k0_off60_inb v136 k0_hw20)).WholeWords (EltTy.packing .bf16) := fun v136 k0_hw20 => k0_hw20.2 (k0_off60_inb v136 k0_hw20)

def k0_off61 (i : grid0.Coords) : Fin 1 → Nat :=
  let arg0 : BitVec 32 := BitVec.ofNat 32 (i 0).val
  let c40_i32_119 : BitVec 32 := 40#32
  let v140 : BitVec 32 := Scalar.muli arg0 c40_i32_119
  let c20_i32 : BitVec 32 := 20#32
  let v141 : BitVec 32 := Scalar.addi v140 c20_i32
  let v142 : Index := Scalar.indexCast v141
  ![v142.toNat]
def k0_off62 (i : grid0.Coords) : Fin 3 → Nat :=
  let arg0 : BitVec 32 := BitVec.ofNat 32 (i 0).val
  let c40_i32_119 : BitVec 32 := 40#32
  let v140 : BitVec 32 := Scalar.muli arg0 c40_i32_119
  let c20_i32 : BitVec 32 := 20#32
  let v141 : BitVec 32 := Scalar.addi v140 c20_i32
  let c0_i32_121 : BitVec 32 := 0#32
  let c0_i32_122 : BitVec 32 := 0#32
  ![v141.toNat, 0, 0]
def k0_off63 (v143 : BitVec 32) : Fin 3 → Nat :=
  let c1_i32_120 : BitVec 32 := 1#32
  let v144 : BitVec 32 := Scalar.shrsi v143 c1_i32_120
  let c0_i32_123 : BitVec 32 := 0#32
  let c0_i32_124 : BitVec 32 := 0#32
  ![v144.toNat, 0, 0]

def k0_chk21 (v143 : BitVec 32) : Prop :=
  (∀ a, (k0_off63 v143) a + S1x2x2560.size a ≤ S960x2x2560.size a) ∧
  (∀ (hinb : ∀ a, (k0_off63 v143) a + S1x2x2560.size a ≤ S960x2x2560.size a), (Rect.unit (s := S960x2x2560) (k0_off63 v143) S1x2x2560.size hinb).WholeWords (EltTy.packing .bf16))
theorem k0_off63_inb : ∀ (v143 : BitVec 32) (k0_hw21 : k0_chk21 v143), ∀ a, (k0_off63 v143) a + S1x2x2560.size a ≤ S960x2x2560.size a := fun v143 k0_hw21 => k0_hw21.1
theorem k0_off63_wordsbf16 : ∀ (v143 : BitVec 32) (k0_hw21 : k0_chk21 v143), (Rect.unit (s := S960x2x2560) (k0_off63 v143) S1x2x2560.size (k0_off63_inb v143 k0_hw21)).WholeWords (EltTy.packing .bf16) := fun v143 k0_hw21 => k0_hw21.2 (k0_off63_inb v143 k0_hw21)

def k0_off64 (i : grid0.Coords) : Fin 1 → Nat :=
  let arg0 : BitVec 32 := BitVec.ofNat 32 (i 0).val
  let c40_i32_125 : BitVec 32 := 40#32
  let v147 : BitVec 32 := Scalar.muli arg0 c40_i32_125
  let c21_i32 : BitVec 32 := 21#32
  let v148 : BitVec 32 := Scalar.addi v147 c21_i32
  let v149 : Index := Scalar.indexCast v148
  ![v149.toNat]
def k0_off65 (i : grid0.Coords) : Fin 3 → Nat :=
  let arg0 : BitVec 32 := BitVec.ofNat 32 (i 0).val
  let c40_i32_125 : BitVec 32 := 40#32
  let v147 : BitVec 32 := Scalar.muli arg0 c40_i32_125
  let c21_i32 : BitVec 32 := 21#32
  let v148 : BitVec 32 := Scalar.addi v147 c21_i32
  let c0_i32_127 : BitVec 32 := 0#32
  let c0_i32_128 : BitVec 32 := 0#32
  ![v148.toNat, 0, 0]
def k0_off66 (v150 : BitVec 32) : Fin 3 → Nat :=
  let c1_i32_126 : BitVec 32 := 1#32
  let v151 : BitVec 32 := Scalar.shrsi v150 c1_i32_126
  let c0_i32_129 : BitVec 32 := 0#32
  let c0_i32_130 : BitVec 32 := 0#32
  ![v151.toNat, 0, 0]

def k0_chk22 (v150 : BitVec 32) : Prop :=
  (∀ a, (k0_off66 v150) a + S1x2x2560.size a ≤ S960x2x2560.size a) ∧
  (∀ (hinb : ∀ a, (k0_off66 v150) a + S1x2x2560.size a ≤ S960x2x2560.size a), (Rect.unit (s := S960x2x2560) (k0_off66 v150) S1x2x2560.size hinb).WholeWords (EltTy.packing .bf16))
theorem k0_off66_inb : ∀ (v150 : BitVec 32) (k0_hw22 : k0_chk22 v150), ∀ a, (k0_off66 v150) a + S1x2x2560.size a ≤ S960x2x2560.size a := fun v150 k0_hw22 => k0_hw22.1
theorem k0_off66_wordsbf16 : ∀ (v150 : BitVec 32) (k0_hw22 : k0_chk22 v150), (Rect.unit (s := S960x2x2560) (k0_off66 v150) S1x2x2560.size (k0_off66_inb v150 k0_hw22)).WholeWords (EltTy.packing .bf16) := fun v150 k0_hw22 => k0_hw22.2 (k0_off66_inb v150 k0_hw22)

def k0_off67 (i : grid0.Coords) : Fin 1 → Nat :=
  let arg0 : BitVec 32 := BitVec.ofNat 32 (i 0).val
  let c40_i32_131 : BitVec 32 := 40#32
  let v154 : BitVec 32 := Scalar.muli arg0 c40_i32_131
  let c22_i32 : BitVec 32 := 22#32
  let v155 : BitVec 32 := Scalar.addi v154 c22_i32
  let v156 : Index := Scalar.indexCast v155
  ![v156.toNat]
def k0_off68 (i : grid0.Coords) : Fin 3 → Nat :=
  let arg0 : BitVec 32 := BitVec.ofNat 32 (i 0).val
  let c40_i32_131 : BitVec 32 := 40#32
  let v154 : BitVec 32 := Scalar.muli arg0 c40_i32_131
  let c22_i32 : BitVec 32 := 22#32
  let v155 : BitVec 32 := Scalar.addi v154 c22_i32
  let c0_i32_133 : BitVec 32 := 0#32
  let c0_i32_134 : BitVec 32 := 0#32
  ![v155.toNat, 0, 0]
def k0_off69 (v157 : BitVec 32) : Fin 3 → Nat :=
  let c1_i32_132 : BitVec 32 := 1#32
  let v158 : BitVec 32 := Scalar.shrsi v157 c1_i32_132
  let c0_i32_135 : BitVec 32 := 0#32
  let c0_i32_136 : BitVec 32 := 0#32
  ![v158.toNat, 0, 0]

def k0_chk23 (v157 : BitVec 32) : Prop :=
  (∀ a, (k0_off69 v157) a + S1x2x2560.size a ≤ S960x2x2560.size a) ∧
  (∀ (hinb : ∀ a, (k0_off69 v157) a + S1x2x2560.size a ≤ S960x2x2560.size a), (Rect.unit (s := S960x2x2560) (k0_off69 v157) S1x2x2560.size hinb).WholeWords (EltTy.packing .bf16))
theorem k0_off69_inb : ∀ (v157 : BitVec 32) (k0_hw23 : k0_chk23 v157), ∀ a, (k0_off69 v157) a + S1x2x2560.size a ≤ S960x2x2560.size a := fun v157 k0_hw23 => k0_hw23.1
theorem k0_off69_wordsbf16 : ∀ (v157 : BitVec 32) (k0_hw23 : k0_chk23 v157), (Rect.unit (s := S960x2x2560) (k0_off69 v157) S1x2x2560.size (k0_off69_inb v157 k0_hw23)).WholeWords (EltTy.packing .bf16) := fun v157 k0_hw23 => k0_hw23.2 (k0_off69_inb v157 k0_hw23)

def k0_off70 (i : grid0.Coords) : Fin 1 → Nat :=
  let arg0 : BitVec 32 := BitVec.ofNat 32 (i 0).val
  let c40_i32_137 : BitVec 32 := 40#32
  let v161 : BitVec 32 := Scalar.muli arg0 c40_i32_137
  let c23_i32 : BitVec 32 := 23#32
  let v162 : BitVec 32 := Scalar.addi v161 c23_i32
  let v163 : Index := Scalar.indexCast v162
  ![v163.toNat]
def k0_off71 (i : grid0.Coords) : Fin 3 → Nat :=
  let arg0 : BitVec 32 := BitVec.ofNat 32 (i 0).val
  let c40_i32_137 : BitVec 32 := 40#32
  let v161 : BitVec 32 := Scalar.muli arg0 c40_i32_137
  let c23_i32 : BitVec 32 := 23#32
  let v162 : BitVec 32 := Scalar.addi v161 c23_i32
  let c0_i32_139 : BitVec 32 := 0#32
  let c0_i32_140 : BitVec 32 := 0#32
  ![v162.toNat, 0, 0]
def k0_off72 (v164 : BitVec 32) : Fin 3 → Nat :=
  let c1_i32_138 : BitVec 32 := 1#32
  let v165 : BitVec 32 := Scalar.shrsi v164 c1_i32_138
  let c0_i32_141 : BitVec 32 := 0#32
  let c0_i32_142 : BitVec 32 := 0#32
  ![v165.toNat, 0, 0]

def k0_chk24 (v164 : BitVec 32) : Prop :=
  (∀ a, (k0_off72 v164) a + S1x2x2560.size a ≤ S960x2x2560.size a) ∧
  (∀ (hinb : ∀ a, (k0_off72 v164) a + S1x2x2560.size a ≤ S960x2x2560.size a), (Rect.unit (s := S960x2x2560) (k0_off72 v164) S1x2x2560.size hinb).WholeWords (EltTy.packing .bf16))
theorem k0_off72_inb : ∀ (v164 : BitVec 32) (k0_hw24 : k0_chk24 v164), ∀ a, (k0_off72 v164) a + S1x2x2560.size a ≤ S960x2x2560.size a := fun v164 k0_hw24 => k0_hw24.1
theorem k0_off72_wordsbf16 : ∀ (v164 : BitVec 32) (k0_hw24 : k0_chk24 v164), (Rect.unit (s := S960x2x2560) (k0_off72 v164) S1x2x2560.size (k0_off72_inb v164 k0_hw24)).WholeWords (EltTy.packing .bf16) := fun v164 k0_hw24 => k0_hw24.2 (k0_off72_inb v164 k0_hw24)

def k0_off73 (i : grid0.Coords) : Fin 1 → Nat :=
  let arg0 : BitVec 32 := BitVec.ofNat 32 (i 0).val
  let c40_i32_143 : BitVec 32 := 40#32
  let v168 : BitVec 32 := Scalar.muli arg0 c40_i32_143
  let c24_i32 : BitVec 32 := 24#32
  let v169 : BitVec 32 := Scalar.addi v168 c24_i32
  let v170 : Index := Scalar.indexCast v169
  ![v170.toNat]
def k0_off74 (i : grid0.Coords) : Fin 3 → Nat :=
  let arg0 : BitVec 32 := BitVec.ofNat 32 (i 0).val
  let c40_i32_143 : BitVec 32 := 40#32
  let v168 : BitVec 32 := Scalar.muli arg0 c40_i32_143
  let c24_i32 : BitVec 32 := 24#32
  let v169 : BitVec 32 := Scalar.addi v168 c24_i32
  let c0_i32_145 : BitVec 32 := 0#32
  let c0_i32_146 : BitVec 32 := 0#32
  ![v169.toNat, 0, 0]
def k0_off75 (v171 : BitVec 32) : Fin 3 → Nat :=
  let c1_i32_144 : BitVec 32 := 1#32
  let v172 : BitVec 32 := Scalar.shrsi v171 c1_i32_144
  let c0_i32_147 : BitVec 32 := 0#32
  let c0_i32_148 : BitVec 32 := 0#32
  ![v172.toNat, 0, 0]

def k0_chk25 (v171 : BitVec 32) : Prop :=
  (∀ a, (k0_off75 v171) a + S1x2x2560.size a ≤ S960x2x2560.size a) ∧
  (∀ (hinb : ∀ a, (k0_off75 v171) a + S1x2x2560.size a ≤ S960x2x2560.size a), (Rect.unit (s := S960x2x2560) (k0_off75 v171) S1x2x2560.size hinb).WholeWords (EltTy.packing .bf16))
theorem k0_off75_inb : ∀ (v171 : BitVec 32) (k0_hw25 : k0_chk25 v171), ∀ a, (k0_off75 v171) a + S1x2x2560.size a ≤ S960x2x2560.size a := fun v171 k0_hw25 => k0_hw25.1
theorem k0_off75_wordsbf16 : ∀ (v171 : BitVec 32) (k0_hw25 : k0_chk25 v171), (Rect.unit (s := S960x2x2560) (k0_off75 v171) S1x2x2560.size (k0_off75_inb v171 k0_hw25)).WholeWords (EltTy.packing .bf16) := fun v171 k0_hw25 => k0_hw25.2 (k0_off75_inb v171 k0_hw25)

def k0_off76 (i : grid0.Coords) : Fin 1 → Nat :=
  let arg0 : BitVec 32 := BitVec.ofNat 32 (i 0).val
  let c40_i32_149 : BitVec 32 := 40#32
  let v175 : BitVec 32 := Scalar.muli arg0 c40_i32_149
  let c25_i32 : BitVec 32 := 25#32
  let v176 : BitVec 32 := Scalar.addi v175 c25_i32
  let v177 : Index := Scalar.indexCast v176
  ![v177.toNat]
def k0_off77 (i : grid0.Coords) : Fin 3 → Nat :=
  let arg0 : BitVec 32 := BitVec.ofNat 32 (i 0).val
  let c40_i32_149 : BitVec 32 := 40#32
  let v175 : BitVec 32 := Scalar.muli arg0 c40_i32_149
  let c25_i32 : BitVec 32 := 25#32
  let v176 : BitVec 32 := Scalar.addi v175 c25_i32
  let c0_i32_151 : BitVec 32 := 0#32
  let c0_i32_152 : BitVec 32 := 0#32
  ![v176.toNat, 0, 0]
def k0_off78 (v178 : BitVec 32) : Fin 3 → Nat :=
  let c1_i32_150 : BitVec 32 := 1#32
  let v179 : BitVec 32 := Scalar.shrsi v178 c1_i32_150
  let c0_i32_153 : BitVec 32 := 0#32
  let c0_i32_154 : BitVec 32 := 0#32
  ![v179.toNat, 0, 0]

def k0_chk26 (v178 : BitVec 32) : Prop :=
  (∀ a, (k0_off78 v178) a + S1x2x2560.size a ≤ S960x2x2560.size a) ∧
  (∀ (hinb : ∀ a, (k0_off78 v178) a + S1x2x2560.size a ≤ S960x2x2560.size a), (Rect.unit (s := S960x2x2560) (k0_off78 v178) S1x2x2560.size hinb).WholeWords (EltTy.packing .bf16))
theorem k0_off78_inb : ∀ (v178 : BitVec 32) (k0_hw26 : k0_chk26 v178), ∀ a, (k0_off78 v178) a + S1x2x2560.size a ≤ S960x2x2560.size a := fun v178 k0_hw26 => k0_hw26.1
theorem k0_off78_wordsbf16 : ∀ (v178 : BitVec 32) (k0_hw26 : k0_chk26 v178), (Rect.unit (s := S960x2x2560) (k0_off78 v178) S1x2x2560.size (k0_off78_inb v178 k0_hw26)).WholeWords (EltTy.packing .bf16) := fun v178 k0_hw26 => k0_hw26.2 (k0_off78_inb v178 k0_hw26)

def k0_off79 (i : grid0.Coords) : Fin 1 → Nat :=
  let arg0 : BitVec 32 := BitVec.ofNat 32 (i 0).val
  let c40_i32_155 : BitVec 32 := 40#32
  let v182 : BitVec 32 := Scalar.muli arg0 c40_i32_155
  let c26_i32 : BitVec 32 := 26#32
  let v183 : BitVec 32 := Scalar.addi v182 c26_i32
  let v184 : Index := Scalar.indexCast v183
  ![v184.toNat]
def k0_off80 (i : grid0.Coords) : Fin 3 → Nat :=
  let arg0 : BitVec 32 := BitVec.ofNat 32 (i 0).val
  let c40_i32_155 : BitVec 32 := 40#32
  let v182 : BitVec 32 := Scalar.muli arg0 c40_i32_155
  let c26_i32 : BitVec 32 := 26#32
  let v183 : BitVec 32 := Scalar.addi v182 c26_i32
  let c0_i32_157 : BitVec 32 := 0#32
  let c0_i32_158 : BitVec 32 := 0#32
  ![v183.toNat, 0, 0]
def k0_off81 (v185 : BitVec 32) : Fin 3 → Nat :=
  let c1_i32_156 : BitVec 32 := 1#32
  let v186 : BitVec 32 := Scalar.shrsi v185 c1_i32_156
  let c0_i32_159 : BitVec 32 := 0#32
  let c0_i32_160 : BitVec 32 := 0#32
  ![v186.toNat, 0, 0]

def k0_chk27 (v185 : BitVec 32) : Prop :=
  (∀ a, (k0_off81 v185) a + S1x2x2560.size a ≤ S960x2x2560.size a) ∧
  (∀ (hinb : ∀ a, (k0_off81 v185) a + S1x2x2560.size a ≤ S960x2x2560.size a), (Rect.unit (s := S960x2x2560) (k0_off81 v185) S1x2x2560.size hinb).WholeWords (EltTy.packing .bf16))
theorem k0_off81_inb : ∀ (v185 : BitVec 32) (k0_hw27 : k0_chk27 v185), ∀ a, (k0_off81 v185) a + S1x2x2560.size a ≤ S960x2x2560.size a := fun v185 k0_hw27 => k0_hw27.1
theorem k0_off81_wordsbf16 : ∀ (v185 : BitVec 32) (k0_hw27 : k0_chk27 v185), (Rect.unit (s := S960x2x2560) (k0_off81 v185) S1x2x2560.size (k0_off81_inb v185 k0_hw27)).WholeWords (EltTy.packing .bf16) := fun v185 k0_hw27 => k0_hw27.2 (k0_off81_inb v185 k0_hw27)

def k0_off82 (i : grid0.Coords) : Fin 1 → Nat :=
  let arg0 : BitVec 32 := BitVec.ofNat 32 (i 0).val
  let c40_i32_161 : BitVec 32 := 40#32
  let v189 : BitVec 32 := Scalar.muli arg0 c40_i32_161
  let c27_i32 : BitVec 32 := 27#32
  let v190 : BitVec 32 := Scalar.addi v189 c27_i32
  let v191 : Index := Scalar.indexCast v190
  ![v191.toNat]
def k0_off83 (i : grid0.Coords) : Fin 3 → Nat :=
  let arg0 : BitVec 32 := BitVec.ofNat 32 (i 0).val
  let c40_i32_161 : BitVec 32 := 40#32
  let v189 : BitVec 32 := Scalar.muli arg0 c40_i32_161
  let c27_i32 : BitVec 32 := 27#32
  let v190 : BitVec 32 := Scalar.addi v189 c27_i32
  let c0_i32_163 : BitVec 32 := 0#32
  let c0_i32_164 : BitVec 32 := 0#32
  ![v190.toNat, 0, 0]
def k0_off84 (v192 : BitVec 32) : Fin 3 → Nat :=
  let c1_i32_162 : BitVec 32 := 1#32
  let v193 : BitVec 32 := Scalar.shrsi v192 c1_i32_162
  let c0_i32_165 : BitVec 32 := 0#32
  let c0_i32_166 : BitVec 32 := 0#32
  ![v193.toNat, 0, 0]

def k0_chk28 (v192 : BitVec 32) : Prop :=
  (∀ a, (k0_off84 v192) a + S1x2x2560.size a ≤ S960x2x2560.size a) ∧
  (∀ (hinb : ∀ a, (k0_off84 v192) a + S1x2x2560.size a ≤ S960x2x2560.size a), (Rect.unit (s := S960x2x2560) (k0_off84 v192) S1x2x2560.size hinb).WholeWords (EltTy.packing .bf16))
theorem k0_off84_inb : ∀ (v192 : BitVec 32) (k0_hw28 : k0_chk28 v192), ∀ a, (k0_off84 v192) a + S1x2x2560.size a ≤ S960x2x2560.size a := fun v192 k0_hw28 => k0_hw28.1
theorem k0_off84_wordsbf16 : ∀ (v192 : BitVec 32) (k0_hw28 : k0_chk28 v192), (Rect.unit (s := S960x2x2560) (k0_off84 v192) S1x2x2560.size (k0_off84_inb v192 k0_hw28)).WholeWords (EltTy.packing .bf16) := fun v192 k0_hw28 => k0_hw28.2 (k0_off84_inb v192 k0_hw28)

def k0_off85 (i : grid0.Coords) : Fin 1 → Nat :=
  let arg0 : BitVec 32 := BitVec.ofNat 32 (i 0).val
  let c40_i32_167 : BitVec 32 := 40#32
  let v196 : BitVec 32 := Scalar.muli arg0 c40_i32_167
  let c28_i32 : BitVec 32 := 28#32
  let v197 : BitVec 32 := Scalar.addi v196 c28_i32
  let v198 : Index := Scalar.indexCast v197
  ![v198.toNat]
def k0_off86 (i : grid0.Coords) : Fin 3 → Nat :=
  let arg0 : BitVec 32 := BitVec.ofNat 32 (i 0).val
  let c40_i32_167 : BitVec 32 := 40#32
  let v196 : BitVec 32 := Scalar.muli arg0 c40_i32_167
  let c28_i32 : BitVec 32 := 28#32
  let v197 : BitVec 32 := Scalar.addi v196 c28_i32
  let c0_i32_169 : BitVec 32 := 0#32
  let c0_i32_170 : BitVec 32 := 0#32
  ![v197.toNat, 0, 0]
def k0_off87 (v199 : BitVec 32) : Fin 3 → Nat :=
  let c1_i32_168 : BitVec 32 := 1#32
  let v200 : BitVec 32 := Scalar.shrsi v199 c1_i32_168
  let c0_i32_171 : BitVec 32 := 0#32
  let c0_i32_172 : BitVec 32 := 0#32
  ![v200.toNat, 0, 0]

def k0_chk29 (v199 : BitVec 32) : Prop :=
  (∀ a, (k0_off87 v199) a + S1x2x2560.size a ≤ S960x2x2560.size a) ∧
  (∀ (hinb : ∀ a, (k0_off87 v199) a + S1x2x2560.size a ≤ S960x2x2560.size a), (Rect.unit (s := S960x2x2560) (k0_off87 v199) S1x2x2560.size hinb).WholeWords (EltTy.packing .bf16))
theorem k0_off87_inb : ∀ (v199 : BitVec 32) (k0_hw29 : k0_chk29 v199), ∀ a, (k0_off87 v199) a + S1x2x2560.size a ≤ S960x2x2560.size a := fun v199 k0_hw29 => k0_hw29.1
theorem k0_off87_wordsbf16 : ∀ (v199 : BitVec 32) (k0_hw29 : k0_chk29 v199), (Rect.unit (s := S960x2x2560) (k0_off87 v199) S1x2x2560.size (k0_off87_inb v199 k0_hw29)).WholeWords (EltTy.packing .bf16) := fun v199 k0_hw29 => k0_hw29.2 (k0_off87_inb v199 k0_hw29)

def k0_off88 (i : grid0.Coords) : Fin 1 → Nat :=
  let arg0 : BitVec 32 := BitVec.ofNat 32 (i 0).val
  let c40_i32_173 : BitVec 32 := 40#32
  let v203 : BitVec 32 := Scalar.muli arg0 c40_i32_173
  let c29_i32 : BitVec 32 := 29#32
  let v204 : BitVec 32 := Scalar.addi v203 c29_i32
  let v205 : Index := Scalar.indexCast v204
  ![v205.toNat]
def k0_off89 (i : grid0.Coords) : Fin 3 → Nat :=
  let arg0 : BitVec 32 := BitVec.ofNat 32 (i 0).val
  let c40_i32_173 : BitVec 32 := 40#32
  let v203 : BitVec 32 := Scalar.muli arg0 c40_i32_173
  let c29_i32 : BitVec 32 := 29#32
  let v204 : BitVec 32 := Scalar.addi v203 c29_i32
  let c0_i32_175 : BitVec 32 := 0#32
  let c0_i32_176 : BitVec 32 := 0#32
  ![v204.toNat, 0, 0]
def k0_off90 (v206 : BitVec 32) : Fin 3 → Nat :=
  let c1_i32_174 : BitVec 32 := 1#32
  let v207 : BitVec 32 := Scalar.shrsi v206 c1_i32_174
  let c0_i32_177 : BitVec 32 := 0#32
  let c0_i32_178 : BitVec 32 := 0#32
  ![v207.toNat, 0, 0]

def k0_chk30 (v206 : BitVec 32) : Prop :=
  (∀ a, (k0_off90 v206) a + S1x2x2560.size a ≤ S960x2x2560.size a) ∧
  (∀ (hinb : ∀ a, (k0_off90 v206) a + S1x2x2560.size a ≤ S960x2x2560.size a), (Rect.unit (s := S960x2x2560) (k0_off90 v206) S1x2x2560.size hinb).WholeWords (EltTy.packing .bf16))
theorem k0_off90_inb : ∀ (v206 : BitVec 32) (k0_hw30 : k0_chk30 v206), ∀ a, (k0_off90 v206) a + S1x2x2560.size a ≤ S960x2x2560.size a := fun v206 k0_hw30 => k0_hw30.1
theorem k0_off90_wordsbf16 : ∀ (v206 : BitVec 32) (k0_hw30 : k0_chk30 v206), (Rect.unit (s := S960x2x2560) (k0_off90 v206) S1x2x2560.size (k0_off90_inb v206 k0_hw30)).WholeWords (EltTy.packing .bf16) := fun v206 k0_hw30 => k0_hw30.2 (k0_off90_inb v206 k0_hw30)

def k0_off91 (i : grid0.Coords) : Fin 1 → Nat :=
  let arg0 : BitVec 32 := BitVec.ofNat 32 (i 0).val
  let c40_i32_179 : BitVec 32 := 40#32
  let v210 : BitVec 32 := Scalar.muli arg0 c40_i32_179
  let c30_i32 : BitVec 32 := 30#32
  let v211 : BitVec 32 := Scalar.addi v210 c30_i32
  let v212 : Index := Scalar.indexCast v211
  ![v212.toNat]
def k0_off92 (i : grid0.Coords) : Fin 3 → Nat :=
  let arg0 : BitVec 32 := BitVec.ofNat 32 (i 0).val
  let c40_i32_179 : BitVec 32 := 40#32
  let v210 : BitVec 32 := Scalar.muli arg0 c40_i32_179
  let c30_i32 : BitVec 32 := 30#32
  let v211 : BitVec 32 := Scalar.addi v210 c30_i32
  let c0_i32_181 : BitVec 32 := 0#32
  let c0_i32_182 : BitVec 32 := 0#32
  ![v211.toNat, 0, 0]
def k0_off93 (v213 : BitVec 32) : Fin 3 → Nat :=
  let c1_i32_180 : BitVec 32 := 1#32
  let v214 : BitVec 32 := Scalar.shrsi v213 c1_i32_180
  let c0_i32_183 : BitVec 32 := 0#32
  let c0_i32_184 : BitVec 32 := 0#32
  ![v214.toNat, 0, 0]

def k0_chk31 (v213 : BitVec 32) : Prop :=
  (∀ a, (k0_off93 v213) a + S1x2x2560.size a ≤ S960x2x2560.size a) ∧
  (∀ (hinb : ∀ a, (k0_off93 v213) a + S1x2x2560.size a ≤ S960x2x2560.size a), (Rect.unit (s := S960x2x2560) (k0_off93 v213) S1x2x2560.size hinb).WholeWords (EltTy.packing .bf16))
theorem k0_off93_inb : ∀ (v213 : BitVec 32) (k0_hw31 : k0_chk31 v213), ∀ a, (k0_off93 v213) a + S1x2x2560.size a ≤ S960x2x2560.size a := fun v213 k0_hw31 => k0_hw31.1
theorem k0_off93_wordsbf16 : ∀ (v213 : BitVec 32) (k0_hw31 : k0_chk31 v213), (Rect.unit (s := S960x2x2560) (k0_off93 v213) S1x2x2560.size (k0_off93_inb v213 k0_hw31)).WholeWords (EltTy.packing .bf16) := fun v213 k0_hw31 => k0_hw31.2 (k0_off93_inb v213 k0_hw31)

def k0_off94 (i : grid0.Coords) : Fin 1 → Nat :=
  let arg0 : BitVec 32 := BitVec.ofNat 32 (i 0).val
  let c40_i32_185 : BitVec 32 := 40#32
  let v217 : BitVec 32 := Scalar.muli arg0 c40_i32_185
  let c31_i32 : BitVec 32 := 31#32
  let v218 : BitVec 32 := Scalar.addi v217 c31_i32
  let v219 : Index := Scalar.indexCast v218
  ![v219.toNat]
def k0_off95 (i : grid0.Coords) : Fin 3 → Nat :=
  let arg0 : BitVec 32 := BitVec.ofNat 32 (i 0).val
  let c40_i32_185 : BitVec 32 := 40#32
  let v217 : BitVec 32 := Scalar.muli arg0 c40_i32_185
  let c31_i32 : BitVec 32 := 31#32
  let v218 : BitVec 32 := Scalar.addi v217 c31_i32
  let c0_i32_187 : BitVec 32 := 0#32
  let c0_i32_188 : BitVec 32 := 0#32
  ![v218.toNat, 0, 0]
def k0_off96 (v220 : BitVec 32) : Fin 3 → Nat :=
  let c1_i32_186 : BitVec 32 := 1#32
  let v221 : BitVec 32 := Scalar.shrsi v220 c1_i32_186
  let c0_i32_189 : BitVec 32 := 0#32
  let c0_i32_190 : BitVec 32 := 0#32
  ![v221.toNat, 0, 0]

def k0_chk32 (v220 : BitVec 32) : Prop :=
  (∀ a, (k0_off96 v220) a + S1x2x2560.size a ≤ S960x2x2560.size a) ∧
  (∀ (hinb : ∀ a, (k0_off96 v220) a + S1x2x2560.size a ≤ S960x2x2560.size a), (Rect.unit (s := S960x2x2560) (k0_off96 v220) S1x2x2560.size hinb).WholeWords (EltTy.packing .bf16))
theorem k0_off96_inb : ∀ (v220 : BitVec 32) (k0_hw32 : k0_chk32 v220), ∀ a, (k0_off96 v220) a + S1x2x2560.size a ≤ S960x2x2560.size a := fun v220 k0_hw32 => k0_hw32.1
theorem k0_off96_wordsbf16 : ∀ (v220 : BitVec 32) (k0_hw32 : k0_chk32 v220), (Rect.unit (s := S960x2x2560) (k0_off96 v220) S1x2x2560.size (k0_off96_inb v220 k0_hw32)).WholeWords (EltTy.packing .bf16) := fun v220 k0_hw32 => k0_hw32.2 (k0_off96_inb v220 k0_hw32)

def k0_off97 (i : grid0.Coords) : Fin 1 → Nat :=
  let arg0 : BitVec 32 := BitVec.ofNat 32 (i 0).val
  let c40_i32_191 : BitVec 32 := 40#32
  let v224 : BitVec 32 := Scalar.muli arg0 c40_i32_191
  let c32_i32 : BitVec 32 := 32#32
  let v225 : BitVec 32 := Scalar.addi v224 c32_i32
  let v226 : Index := Scalar.indexCast v225
  ![v226.toNat]
def k0_off98 (i : grid0.Coords) : Fin 3 → Nat :=
  let arg0 : BitVec 32 := BitVec.ofNat 32 (i 0).val
  let c40_i32_191 : BitVec 32 := 40#32
  let v224 : BitVec 32 := Scalar.muli arg0 c40_i32_191
  let c32_i32 : BitVec 32 := 32#32
  let v225 : BitVec 32 := Scalar.addi v224 c32_i32
  let c0_i32_193 : BitVec 32 := 0#32
  let c0_i32_194 : BitVec 32 := 0#32
  ![v225.toNat, 0, 0]
def k0_off99 (v227 : BitVec 32) : Fin 3 → Nat :=
  let c1_i32_192 : BitVec 32 := 1#32
  let v228 : BitVec 32 := Scalar.shrsi v227 c1_i32_192
  let c0_i32_195 : BitVec 32 := 0#32
  let c0_i32_196 : BitVec 32 := 0#32
  ![v228.toNat, 0, 0]

def k0_chk33 (v227 : BitVec 32) : Prop :=
  (∀ a, (k0_off99 v227) a + S1x2x2560.size a ≤ S960x2x2560.size a) ∧
  (∀ (hinb : ∀ a, (k0_off99 v227) a + S1x2x2560.size a ≤ S960x2x2560.size a), (Rect.unit (s := S960x2x2560) (k0_off99 v227) S1x2x2560.size hinb).WholeWords (EltTy.packing .bf16))
theorem k0_off99_inb : ∀ (v227 : BitVec 32) (k0_hw33 : k0_chk33 v227), ∀ a, (k0_off99 v227) a + S1x2x2560.size a ≤ S960x2x2560.size a := fun v227 k0_hw33 => k0_hw33.1
theorem k0_off99_wordsbf16 : ∀ (v227 : BitVec 32) (k0_hw33 : k0_chk33 v227), (Rect.unit (s := S960x2x2560) (k0_off99 v227) S1x2x2560.size (k0_off99_inb v227 k0_hw33)).WholeWords (EltTy.packing .bf16) := fun v227 k0_hw33 => k0_hw33.2 (k0_off99_inb v227 k0_hw33)

def k0_off100 (i : grid0.Coords) : Fin 1 → Nat :=
  let arg0 : BitVec 32 := BitVec.ofNat 32 (i 0).val
  let c40_i32_197 : BitVec 32 := 40#32
  let v231 : BitVec 32 := Scalar.muli arg0 c40_i32_197
  let c33_i32 : BitVec 32 := 33#32
  let v232 : BitVec 32 := Scalar.addi v231 c33_i32
  let v233 : Index := Scalar.indexCast v232
  ![v233.toNat]
def k0_off101 (i : grid0.Coords) : Fin 3 → Nat :=
  let arg0 : BitVec 32 := BitVec.ofNat 32 (i 0).val
  let c40_i32_197 : BitVec 32 := 40#32
  let v231 : BitVec 32 := Scalar.muli arg0 c40_i32_197
  let c33_i32 : BitVec 32 := 33#32
  let v232 : BitVec 32 := Scalar.addi v231 c33_i32
  let c0_i32_199 : BitVec 32 := 0#32
  let c0_i32_200 : BitVec 32 := 0#32
  ![v232.toNat, 0, 0]
def k0_off102 (v234 : BitVec 32) : Fin 3 → Nat :=
  let c1_i32_198 : BitVec 32 := 1#32
  let v235 : BitVec 32 := Scalar.shrsi v234 c1_i32_198
  let c0_i32_201 : BitVec 32 := 0#32
  let c0_i32_202 : BitVec 32 := 0#32
  ![v235.toNat, 0, 0]

def k0_chk34 (v234 : BitVec 32) : Prop :=
  (∀ a, (k0_off102 v234) a + S1x2x2560.size a ≤ S960x2x2560.size a) ∧
  (∀ (hinb : ∀ a, (k0_off102 v234) a + S1x2x2560.size a ≤ S960x2x2560.size a), (Rect.unit (s := S960x2x2560) (k0_off102 v234) S1x2x2560.size hinb).WholeWords (EltTy.packing .bf16))
theorem k0_off102_inb : ∀ (v234 : BitVec 32) (k0_hw34 : k0_chk34 v234), ∀ a, (k0_off102 v234) a + S1x2x2560.size a ≤ S960x2x2560.size a := fun v234 k0_hw34 => k0_hw34.1
theorem k0_off102_wordsbf16 : ∀ (v234 : BitVec 32) (k0_hw34 : k0_chk34 v234), (Rect.unit (s := S960x2x2560) (k0_off102 v234) S1x2x2560.size (k0_off102_inb v234 k0_hw34)).WholeWords (EltTy.packing .bf16) := fun v234 k0_hw34 => k0_hw34.2 (k0_off102_inb v234 k0_hw34)

def k0_off103 (i : grid0.Coords) : Fin 1 → Nat :=
  let arg0 : BitVec 32 := BitVec.ofNat 32 (i 0).val
  let c40_i32_203 : BitVec 32 := 40#32
  let v238 : BitVec 32 := Scalar.muli arg0 c40_i32_203
  let c34_i32 : BitVec 32 := 34#32
  let v239 : BitVec 32 := Scalar.addi v238 c34_i32
  let v240 : Index := Scalar.indexCast v239
  ![v240.toNat]
def k0_off104 (i : grid0.Coords) : Fin 3 → Nat :=
  let arg0 : BitVec 32 := BitVec.ofNat 32 (i 0).val
  let c40_i32_203 : BitVec 32 := 40#32
  let v238 : BitVec 32 := Scalar.muli arg0 c40_i32_203
  let c34_i32 : BitVec 32 := 34#32
  let v239 : BitVec 32 := Scalar.addi v238 c34_i32
  let c0_i32_205 : BitVec 32 := 0#32
  let c0_i32_206 : BitVec 32 := 0#32
  ![v239.toNat, 0, 0]
def k0_off105 (v241 : BitVec 32) : Fin 3 → Nat :=
  let c1_i32_204 : BitVec 32 := 1#32
  let v242 : BitVec 32 := Scalar.shrsi v241 c1_i32_204
  let c0_i32_207 : BitVec 32 := 0#32
  let c0_i32_208 : BitVec 32 := 0#32
  ![v242.toNat, 0, 0]

def k0_chk35 (v241 : BitVec 32) : Prop :=
  (∀ a, (k0_off105 v241) a + S1x2x2560.size a ≤ S960x2x2560.size a) ∧
  (∀ (hinb : ∀ a, (k0_off105 v241) a + S1x2x2560.size a ≤ S960x2x2560.size a), (Rect.unit (s := S960x2x2560) (k0_off105 v241) S1x2x2560.size hinb).WholeWords (EltTy.packing .bf16))
theorem k0_off105_inb : ∀ (v241 : BitVec 32) (k0_hw35 : k0_chk35 v241), ∀ a, (k0_off105 v241) a + S1x2x2560.size a ≤ S960x2x2560.size a := fun v241 k0_hw35 => k0_hw35.1
theorem k0_off105_wordsbf16 : ∀ (v241 : BitVec 32) (k0_hw35 : k0_chk35 v241), (Rect.unit (s := S960x2x2560) (k0_off105 v241) S1x2x2560.size (k0_off105_inb v241 k0_hw35)).WholeWords (EltTy.packing .bf16) := fun v241 k0_hw35 => k0_hw35.2 (k0_off105_inb v241 k0_hw35)

def k0_off106 (i : grid0.Coords) : Fin 1 → Nat :=
  let arg0 : BitVec 32 := BitVec.ofNat 32 (i 0).val
  let c40_i32_209 : BitVec 32 := 40#32
  let v245 : BitVec 32 := Scalar.muli arg0 c40_i32_209
  let c35_i32 : BitVec 32 := 35#32
  let v246 : BitVec 32 := Scalar.addi v245 c35_i32
  let v247 : Index := Scalar.indexCast v246
  ![v247.toNat]
def k0_off107 (i : grid0.Coords) : Fin 3 → Nat :=
  let arg0 : BitVec 32 := BitVec.ofNat 32 (i 0).val
  let c40_i32_209 : BitVec 32 := 40#32
  let v245 : BitVec 32 := Scalar.muli arg0 c40_i32_209
  let c35_i32 : BitVec 32 := 35#32
  let v246 : BitVec 32 := Scalar.addi v245 c35_i32
  let c0_i32_211 : BitVec 32 := 0#32
  let c0_i32_212 : BitVec 32 := 0#32
  ![v246.toNat, 0, 0]
def k0_off108 (v248 : BitVec 32) : Fin 3 → Nat :=
  let c1_i32_210 : BitVec 32 := 1#32
  let v249 : BitVec 32 := Scalar.shrsi v248 c1_i32_210
  let c0_i32_213 : BitVec 32 := 0#32
  let c0_i32_214 : BitVec 32 := 0#32
  ![v249.toNat, 0, 0]

def k0_chk36 (v248 : BitVec 32) : Prop :=
  (∀ a, (k0_off108 v248) a + S1x2x2560.size a ≤ S960x2x2560.size a) ∧
  (∀ (hinb : ∀ a, (k0_off108 v248) a + S1x2x2560.size a ≤ S960x2x2560.size a), (Rect.unit (s := S960x2x2560) (k0_off108 v248) S1x2x2560.size hinb).WholeWords (EltTy.packing .bf16))
theorem k0_off108_inb : ∀ (v248 : BitVec 32) (k0_hw36 : k0_chk36 v248), ∀ a, (k0_off108 v248) a + S1x2x2560.size a ≤ S960x2x2560.size a := fun v248 k0_hw36 => k0_hw36.1
theorem k0_off108_wordsbf16 : ∀ (v248 : BitVec 32) (k0_hw36 : k0_chk36 v248), (Rect.unit (s := S960x2x2560) (k0_off108 v248) S1x2x2560.size (k0_off108_inb v248 k0_hw36)).WholeWords (EltTy.packing .bf16) := fun v248 k0_hw36 => k0_hw36.2 (k0_off108_inb v248 k0_hw36)

def k0_off109 (i : grid0.Coords) : Fin 1 → Nat :=
  let arg0 : BitVec 32 := BitVec.ofNat 32 (i 0).val
  let c40_i32_215 : BitVec 32 := 40#32
  let v252 : BitVec 32 := Scalar.muli arg0 c40_i32_215
  let c36_i32 : BitVec 32 := 36#32
  let v253 : BitVec 32 := Scalar.addi v252 c36_i32
  let v254 : Index := Scalar.indexCast v253
  ![v254.toNat]
def k0_off110 (i : grid0.Coords) : Fin 3 → Nat :=
  let arg0 : BitVec 32 := BitVec.ofNat 32 (i 0).val
  let c40_i32_215 : BitVec 32 := 40#32
  let v252 : BitVec 32 := Scalar.muli arg0 c40_i32_215
  let c36_i32 : BitVec 32 := 36#32
  let v253 : BitVec 32 := Scalar.addi v252 c36_i32
  let c0_i32_217 : BitVec 32 := 0#32
  let c0_i32_218 : BitVec 32 := 0#32
  ![v253.toNat, 0, 0]
def k0_off111 (v255 : BitVec 32) : Fin 3 → Nat :=
  let c1_i32_216 : BitVec 32 := 1#32
  let v256 : BitVec 32 := Scalar.shrsi v255 c1_i32_216
  let c0_i32_219 : BitVec 32 := 0#32
  let c0_i32_220 : BitVec 32 := 0#32
  ![v256.toNat, 0, 0]

def k0_chk37 (v255 : BitVec 32) : Prop :=
  (∀ a, (k0_off111 v255) a + S1x2x2560.size a ≤ S960x2x2560.size a) ∧
  (∀ (hinb : ∀ a, (k0_off111 v255) a + S1x2x2560.size a ≤ S960x2x2560.size a), (Rect.unit (s := S960x2x2560) (k0_off111 v255) S1x2x2560.size hinb).WholeWords (EltTy.packing .bf16))
theorem k0_off111_inb : ∀ (v255 : BitVec 32) (k0_hw37 : k0_chk37 v255), ∀ a, (k0_off111 v255) a + S1x2x2560.size a ≤ S960x2x2560.size a := fun v255 k0_hw37 => k0_hw37.1
theorem k0_off111_wordsbf16 : ∀ (v255 : BitVec 32) (k0_hw37 : k0_chk37 v255), (Rect.unit (s := S960x2x2560) (k0_off111 v255) S1x2x2560.size (k0_off111_inb v255 k0_hw37)).WholeWords (EltTy.packing .bf16) := fun v255 k0_hw37 => k0_hw37.2 (k0_off111_inb v255 k0_hw37)

def k0_off112 (i : grid0.Coords) : Fin 1 → Nat :=
  let arg0 : BitVec 32 := BitVec.ofNat 32 (i 0).val
  let c40_i32_221 : BitVec 32 := 40#32
  let v259 : BitVec 32 := Scalar.muli arg0 c40_i32_221
  let c37_i32 : BitVec 32 := 37#32
  let v260 : BitVec 32 := Scalar.addi v259 c37_i32
  let v261 : Index := Scalar.indexCast v260
  ![v261.toNat]
def k0_off113 (i : grid0.Coords) : Fin 3 → Nat :=
  let arg0 : BitVec 32 := BitVec.ofNat 32 (i 0).val
  let c40_i32_221 : BitVec 32 := 40#32
  let v259 : BitVec 32 := Scalar.muli arg0 c40_i32_221
  let c37_i32 : BitVec 32 := 37#32
  let v260 : BitVec 32 := Scalar.addi v259 c37_i32
  let c0_i32_223 : BitVec 32 := 0#32
  let c0_i32_224 : BitVec 32 := 0#32
  ![v260.toNat, 0, 0]
def k0_off114 (v262 : BitVec 32) : Fin 3 → Nat :=
  let c1_i32_222 : BitVec 32 := 1#32
  let v263 : BitVec 32 := Scalar.shrsi v262 c1_i32_222
  let c0_i32_225 : BitVec 32 := 0#32
  let c0_i32_226 : BitVec 32 := 0#32
  ![v263.toNat, 0, 0]

def k0_chk38 (v262 : BitVec 32) : Prop :=
  (∀ a, (k0_off114 v262) a + S1x2x2560.size a ≤ S960x2x2560.size a) ∧
  (∀ (hinb : ∀ a, (k0_off114 v262) a + S1x2x2560.size a ≤ S960x2x2560.size a), (Rect.unit (s := S960x2x2560) (k0_off114 v262) S1x2x2560.size hinb).WholeWords (EltTy.packing .bf16))
theorem k0_off114_inb : ∀ (v262 : BitVec 32) (k0_hw38 : k0_chk38 v262), ∀ a, (k0_off114 v262) a + S1x2x2560.size a ≤ S960x2x2560.size a := fun v262 k0_hw38 => k0_hw38.1
theorem k0_off114_wordsbf16 : ∀ (v262 : BitVec 32) (k0_hw38 : k0_chk38 v262), (Rect.unit (s := S960x2x2560) (k0_off114 v262) S1x2x2560.size (k0_off114_inb v262 k0_hw38)).WholeWords (EltTy.packing .bf16) := fun v262 k0_hw38 => k0_hw38.2 (k0_off114_inb v262 k0_hw38)

def k0_off115 (i : grid0.Coords) : Fin 1 → Nat :=
  let arg0 : BitVec 32 := BitVec.ofNat 32 (i 0).val
  let c40_i32_227 : BitVec 32 := 40#32
  let v266 : BitVec 32 := Scalar.muli arg0 c40_i32_227
  let c38_i32 : BitVec 32 := 38#32
  let v267 : BitVec 32 := Scalar.addi v266 c38_i32
  let v268 : Index := Scalar.indexCast v267
  ![v268.toNat]
def k0_off116 (i : grid0.Coords) : Fin 3 → Nat :=
  let arg0 : BitVec 32 := BitVec.ofNat 32 (i 0).val
  let c40_i32_227 : BitVec 32 := 40#32
  let v266 : BitVec 32 := Scalar.muli arg0 c40_i32_227
  let c38_i32 : BitVec 32 := 38#32
  let v267 : BitVec 32 := Scalar.addi v266 c38_i32
  let c0_i32_229 : BitVec 32 := 0#32
  let c0_i32_230 : BitVec 32 := 0#32
  ![v267.toNat, 0, 0]
def k0_off117 (v269 : BitVec 32) : Fin 3 → Nat :=
  let c1_i32_228 : BitVec 32 := 1#32
  let v270 : BitVec 32 := Scalar.shrsi v269 c1_i32_228
  let c0_i32_231 : BitVec 32 := 0#32
  let c0_i32_232 : BitVec 32 := 0#32
  ![v270.toNat, 0, 0]

def k0_chk39 (v269 : BitVec 32) : Prop :=
  (∀ a, (k0_off117 v269) a + S1x2x2560.size a ≤ S960x2x2560.size a) ∧
  (∀ (hinb : ∀ a, (k0_off117 v269) a + S1x2x2560.size a ≤ S960x2x2560.size a), (Rect.unit (s := S960x2x2560) (k0_off117 v269) S1x2x2560.size hinb).WholeWords (EltTy.packing .bf16))
theorem k0_off117_inb : ∀ (v269 : BitVec 32) (k0_hw39 : k0_chk39 v269), ∀ a, (k0_off117 v269) a + S1x2x2560.size a ≤ S960x2x2560.size a := fun v269 k0_hw39 => k0_hw39.1
theorem k0_off117_wordsbf16 : ∀ (v269 : BitVec 32) (k0_hw39 : k0_chk39 v269), (Rect.unit (s := S960x2x2560) (k0_off117 v269) S1x2x2560.size (k0_off117_inb v269 k0_hw39)).WholeWords (EltTy.packing .bf16) := fun v269 k0_hw39 => k0_hw39.2 (k0_off117_inb v269 k0_hw39)

def k0_off118 (i : grid0.Coords) : Fin 1 → Nat :=
  let arg0 : BitVec 32 := BitVec.ofNat 32 (i 0).val
  let c40_i32_233 : BitVec 32 := 40#32
  let v273 : BitVec 32 := Scalar.muli arg0 c40_i32_233
  let c39_i32 : BitVec 32 := 39#32
  let v274 : BitVec 32 := Scalar.addi v273 c39_i32
  let v275 : Index := Scalar.indexCast v274
  ![v275.toNat]
def k0_off119 (i : grid0.Coords) : Fin 3 → Nat :=
  let arg0 : BitVec 32 := BitVec.ofNat 32 (i 0).val
  let c40_i32_233 : BitVec 32 := 40#32
  let v273 : BitVec 32 := Scalar.muli arg0 c40_i32_233
  let c39_i32 : BitVec 32 := 39#32
  let v274 : BitVec 32 := Scalar.addi v273 c39_i32
  let c0_i32_235 : BitVec 32 := 0#32
  let c0_i32_236 : BitVec 32 := 0#32
  ![v274.toNat, 0, 0]
def k0_off120 (v276 : BitVec 32) : Fin 3 → Nat :=
  let c1_i32_234 : BitVec 32 := 1#32
  let v277 : BitVec 32 := Scalar.shrsi v276 c1_i32_234
  let c0_i32_237 : BitVec 32 := 0#32
  let c0_i32_238 : BitVec 32 := 0#32
  ![v277.toNat, 0, 0]

def k0_chk40 (v276 : BitVec 32) : Prop :=
  (∀ a, (k0_off120 v276) a + S1x2x2560.size a ≤ S960x2x2560.size a) ∧
  (∀ (hinb : ∀ a, (k0_off120 v276) a + S1x2x2560.size a ≤ S960x2x2560.size a), (Rect.unit (s := S960x2x2560) (k0_off120 v276) S1x2x2560.size hinb).WholeWords (EltTy.packing .bf16))
theorem k0_off120_inb : ∀ (v276 : BitVec 32) (k0_hw40 : k0_chk40 v276), ∀ a, (k0_off120 v276) a + S1x2x2560.size a ≤ S960x2x2560.size a := fun v276 k0_hw40 => k0_hw40.1
theorem k0_off120_wordsbf16 : ∀ (v276 : BitVec 32) (k0_hw40 : k0_chk40 v276), (Rect.unit (s := S960x2x2560) (k0_off120 v276) S1x2x2560.size (k0_off120_inb v276 k0_hw40)).WholeWords (EltTy.packing .bf16) := fun v276 k0_hw40 => k0_hw40.2 (k0_off120_inb v276 k0_hw40)

def k0_cond2 (i : grid0.Coords) : BitVec 1 :=
  let arg0 : BitVec 32 := BitVec.ofNat 32 (i 0).val
  let c47_i32 : BitVec 32 := 47#32
  let v1565 : BitVec 1 := Scalar.cmpi .eq arg0 c47_i32
  let v1566 : BitVec 32 := Scalar.extui v1565
  let c0_i32_1067 : BitVec 32 := 0#32
  let v1567 : BitVec 1 := Scalar.cmpi .ne v1566 c0_i32_1067
  v1567

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1920x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1920x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1920x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3x640x49152 : Shape := ⟨3, ![3, 640, 49152]⟩
abbrev S3x640x384 : Shape := ⟨3, ![3, 640, 384]⟩
abbrev S49152x2560 : Shape := ⟨2, ![49152, 2560]⟩
abbrev S49152 : Shape := ⟨1, ![49152]⟩
abbrev S3x640 : Shape := ⟨2, ![3, 640]⟩
abbrev S3x640x2560 : Shape := ⟨3, ![3, 640, 2560]⟩
abbrev S3x640x384x1 : Shape := ⟨4, ![3, 640, 384, 1]⟩
abbrev S3x640x384x128 : Shape := ⟨4, ![3, 640, 384, 128]⟩
abbrev S1920x49152 : Shape := ⟨2, ![1920, 49152]⟩
abbrev S49152x1 : Shape := ⟨2, ![49152, 1]⟩
abbrev S1920x2560 : Shape := ⟨2, ![1920, 2560]⟩

abbrev nBuf : Space → Nat
  | .hbm => 14
  | .vmem => 5
  | .smem => 0
  | _ => 0

abbrev bufTy : (tb : Table) → Fin (tcTables nBuf tb) → BufTy
  | .hbm, ⟨0, _⟩ => ⟨S3x640x49152, .fp8e5m2⟩
  | .hbm, ⟨1, _⟩ => ⟨S3x640x384, .f32⟩
  | .hbm, ⟨2, _⟩ => ⟨S49152x2560, .i8⟩
  | .hbm, ⟨3, _⟩ => ⟨S49152, .f32⟩
  | .hbm, ⟨4, _⟩ => ⟨S3x640, .i32⟩
  | .hbm, ⟨5, _⟩ => ⟨S3x640x2560, .bf16⟩
  | .hbm, ⟨6, _⟩ => ⟨S3x640x384, .bf16⟩
  | .hbm, ⟨7, _⟩ => ⟨S3x640x384x1, .bf16⟩
  | .hbm, ⟨8, _⟩ => ⟨S3x640x384x128, .bf16⟩
  | .hbm, ⟨9, _⟩ => ⟨S1920x49152, .bf16⟩
  | .hbm, ⟨10, _⟩ => ⟨S1920x49152, .fp8e5m2⟩
  | .hbm, ⟨11, _⟩ => ⟨S49152, .bf16⟩
  | .hbm, ⟨12, _⟩ => ⟨S49152x1, .bf16⟩
  | .hbm, ⟨13, _⟩ => ⟨S1920x2560, .bf16⟩
  | .local _ .vmem, ⟨0, _⟩ => ⟨S1920x49152, .fp8e5m2⟩
  | .local _ .vmem, ⟨1, _⟩ => ⟨S1920x49152, .bf16⟩
  | .local _ .vmem, ⟨2, _⟩ => ⟨S49152x2560, .i8⟩
  | .local _ .vmem, ⟨3, _⟩ => ⟨S49152x1, .bf16⟩
  | .local _ .vmem, ⟨4, _⟩ => ⟨S1920x2560, .bf16⟩
  | _, _ => ⟨S3x640x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x49152 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x49152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S49152x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Update.lean ====
abbrev S3x640x49152 : Shape := ⟨3, ![3, 640, 49152]⟩
abbrev S3x640x384 : Shape := ⟨3, ![3, 640, 384]⟩
abbrev S3x640x2560 : Shape := ⟨3, ![3, 640, 2560]⟩
abbrev S3x640 : Shape := ⟨2, ![3, 640]⟩
abbrev S49152x2560 : Shape := ⟨2, ![49152, 2560]⟩
abbrev S49152 : Shape := ⟨1, ![49152]⟩
abbrev S1 : Shape := ⟨1, ![1]⟩
abbrev S1920x49152 : Shape := ⟨2, ![1920, 49152]⟩
abbrev S1920x384 : Shape := ⟨2, ![1920, 384]⟩
abbrev S1920x2560 : Shape := ⟨2, ![1920, 2560]⟩
abbrev S1x1920 : Shape := ⟨2, ![1, 1920]⟩
abbrev S48x1x1024 : Shape := ⟨3, ![48, 1, 1024]⟩
abbrev S1920x1024 : Shape := ⟨2, ![1920, 1024]⟩
abbrev S1920x128 : Shape := ⟨2, ![1920, 128]⟩
abbrev S1024x2560 : Shape := ⟨2, ![1024, 2560]⟩
abbrev S1x1x1024 : Shape := ⟨3, ![1, 1, 1024]⟩
abbrev S1024x1920 : Shape := ⟨2, ![1024, 1920]⟩
abbrev S1x128 : Shape := ⟨2, ![1, 128]⟩
abbrev S128x128 : Shape := ⟨2, ![128, 128]⟩
abbrev S1920x128x1 : Shape := ⟨3, ![1920, 128, 1]⟩
abbrev S128x1920 : Shape := ⟨2, ![128, 1920]⟩
abbrev S1x1x128 : Shape := ⟨3, ![1, 1, 128]⟩
abbrev S1920x256 : Shape := ⟨2, ![1920, 256]⟩
abbrev S1024x256 : Shape := ⟨2, ![1024, 256]⟩

abbrev nBuf : Space → Nat
  | .hbm => 13
  | .vmem => 14
  | .smem => 1
  | _ => 0

abbrev bufTy : (tb : Table) → Fin (tcTables nBuf tb) → BufTy
  | .hbm, ⟨0, _⟩ => ⟨S3x640x49152, .fp8e5m2⟩
  | .hbm, ⟨1, _⟩ => ⟨S3x640x384, .f32⟩
  | .hbm, ⟨2, _⟩ => ⟨S3x640x2560, .fp8e4m3⟩
  | .hbm, ⟨3, _⟩ => ⟨S3x640, .f32⟩
  | .hbm, ⟨4, _⟩ => ⟨S49152x2560, .i8⟩
  | .hbm, ⟨5, _⟩ => ⟨S49152, .f32⟩
  | .hbm, ⟨6, _⟩ => ⟨S1, .f32⟩
  | .hbm, ⟨7, _⟩ => ⟨S1920x49152, .fp8e5m2⟩
  | .hbm, ⟨8, _⟩ => ⟨S1920x384, .f32⟩
  | .hbm, ⟨9, _⟩ => ⟨S1920x2560, .fp8e4m3⟩
  | .hbm, ⟨10, _⟩ => ⟨S1x1920, .f32⟩
  | .hbm, ⟨11, _⟩ => ⟨S48x1x1024, .f32⟩
  | .hbm, ⟨12, _⟩ => ⟨S49152x2560, .f32⟩
  | .local _ .vmem, ⟨0, _⟩ => ⟨S1920x1024, .fp8e5m2⟩
  | .local _ .vmem, ⟨1, _⟩ => ⟨S1920x1024, .fp8e5m2⟩
  | .local _ .vmem, ⟨2, _⟩ => ⟨S1920x128, .f32⟩
  | .local _ .vmem, ⟨3, _⟩ => ⟨S1920x128, .f32⟩
  | .local _ .vmem, ⟨4, _⟩ => ⟨S1024x2560, .i8⟩
  | .local _ .vmem, ⟨5, _⟩ => ⟨S1024x2560, .i8⟩
  | .local _ .vmem, ⟨6, _⟩ => ⟨S1x1x1024, .f32⟩
  | .local _ .vmem, ⟨7, _⟩ => ⟨S1x1x1024, .f32⟩
  | .local _ .vmem, ⟨8, _⟩ => ⟨S1920x2560, .fp8e4m3⟩
  | .local _ .vmem, ⟨9, _⟩ => ⟨S1x1920, .f32⟩
  | .local _ .vmem, ⟨10, _⟩ => ⟨S1024x2560, .f32⟩
  | .local _ .vmem, ⟨11, _⟩ => ⟨S1024x2560, .f32⟩
  | .local _ .vmem, ⟨12, _⟩ => ⟨S1920x2560, .bf16⟩
  | .local _ .vmem, ⟨13, _⟩ => ⟨S1024x1920, .bf16⟩
  | .local _ .smem, ⟨0, _⟩ => ⟨S1, .f32⟩
  | _, _ => ⟨S3x640x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1920x1024 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1920x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepIdeal.lean ====
abbrev S3x640x49152 : Shape := ⟨3, ![3, 640, 49152]⟩
abbrev S3x640x384 : Shape := ⟨3, ![3, 640, 384]⟩
abbrev S3x640x2560 : Shape := ⟨3, ![3, 640, 2560]⟩
abbrev S3x640 : Shape := ⟨2, ![3, 640]⟩
abbrev S49152x2560 : Shape := ⟨2, ![49152, 2560]⟩
abbrev S49152 : Shape := ⟨1, ![49152]⟩
abbrev S1 : Shape := ⟨1, ![1]⟩
abbrev S3x640x384x1 : Shape := ⟨4, ![3, 640, 384, 1]⟩
abbrev S3x640x384x128 : Shape := ⟨4, ![3, 640, 384, 128]⟩
abbrev S1920x49152 : Shape := ⟨2, ![1920, 49152]⟩
abbrev S1920x2560 : Shape := ⟨2, ![1920, 2560]⟩
abbrev S1920x1 : Shape := ⟨2, ![1920, 1]⟩
abbrev S49152x1 : Shape := ⟨2, ![49152, 1]⟩

abbrev nBuf : Space → Nat
  | .hbm => 18
  | .vmem => 7
  | .smem => 1
  | _ => 0

abbrev bufTy : (tb : Table) → Fin (tcTables nBuf tb) → BufTy
  | .hbm, ⟨0, _⟩ => ⟨S3x640x49152, .fp8e5m2⟩
  | .hbm, ⟨1, _⟩ => ⟨S3x640x384, .f32⟩
  | .hbm, ⟨2, _⟩ => ⟨S3x640x2560, .fp8e4m3⟩
  | .hbm, ⟨3, _⟩ => ⟨S3x640, .f32⟩
  | .hbm, ⟨4, _⟩ => ⟨S49152x2560, .i8⟩
  | .hbm, ⟨5, _⟩ => ⟨S49152, .f32⟩
  | .hbm, ⟨6, _⟩ => ⟨S1, .f32⟩
  | .hbm, ⟨7, _⟩ => ⟨S3x640x384, .bf16⟩
  | .hbm, ⟨8, _⟩ => ⟨S3x640x384x1, .bf16⟩
  | .hbm, ⟨9, _⟩ => ⟨S3x640x384x128, .bf16⟩
  | .hbm, ⟨10, _⟩ => ⟨S1920x49152, .bf16⟩
  | .hbm, ⟨11, _⟩ => ⟨S1920x49152, .fp8e5m2⟩
  | .hbm, ⟨12, _⟩ => ⟨S1920x2560, .fp8e4m3⟩
  | .hbm, ⟨13, _⟩ => ⟨S3x640, .bf16⟩
  | .hbm, ⟨14, _⟩ => ⟨S1920x1, .bf16⟩
  | .hbm, ⟨15, _⟩ => ⟨S49152, .bf16⟩
  | .hbm, ⟨16, _⟩ => ⟨S49152x1, .bf16⟩
  | .hbm, ⟨17, _⟩ => ⟨S49152x2560, .f32⟩
  | .local _ .vmem, ⟨0, _⟩ => ⟨S1920x49152, .fp8e5m2⟩
  | .local _ .vmem, ⟨1, _⟩ => ⟨S1920x49152, .bf16⟩
  | .local _ .vmem, ⟨2, _⟩ => ⟨S1920x2560, .fp8e4m3⟩
  | .local _ .vmem, ⟨3, _⟩ => ⟨S1920x1, .bf16⟩
  | .local _ .vmem, ⟨4, _⟩ => ⟨S49152x2560, .i8⟩
  | .local _ .vmem, ⟨5, _⟩ => ⟨S49152x1, .bf16⟩
  | .local _ .vmem, ⟨6, _⟩ => ⟨S49152x2560, .f32⟩
  | .local _ .smem, ⟨0, _⟩ => ⟨S1, .f32⟩
  | _, _ => ⟨S3x640x49152, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1920x49152 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x49152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S49152x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S49152x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Hand.Kernel.Base.lean ====
/-
  Hand-written. What the runs of the call's body share: the operands that no window stages (the row order in scalar
  memory, the pair rows read and the pair rows written, both in HBM), the semaphore, how the array that is read is
  dealt into forty read shares and the array that is written is cut into the forty rows of a grid point.
-/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring.WriteBehind
public import Idealize.ShloMosaic.Lib.PairWhole
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The operands no window stages -/

/-- The row order, in scalar memory. -/
abbrev tbM : Memref sig .tc .smem S1920 .i32 := Memref.whole main_v11
/-- The pair rows the copies read. -/
abbrev hbS : Memref sig .tc .hbm S960x2x2560 .bf16 := Memref.whole main_v3
/-- The pair rows the copies write. -/
abbrev hbG : Memref sig .tc .hbm S1920x2x2560 .bf16 := Memref.whole main_v12_1
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (q : PosShare TreeShare) (f : MBuf (F := F) c M) : sProp 𝕄 :=
  M.view.loc (c : Thread nD τ) ↦{q} f
/-- A window of an array at its own elements. -/
abbrev wPt (c : Dev nD) {sp : Space} {S : Shape} {e : EltTy} (M : Memref sig .tc sp S e) (f : MBuf (F := F) c M) : sProp 𝕄 :=
  M.view.loc (c : Thread nD τ) ↦[M.view.set]{fullShare} f

/-! ## The forty read shares of the array read -/

/-- Read share `j`. -/
def tk (j : ℕ) : PosShare TreeShare := Transfers.shareTokN fullShare j
/-- What remains beside the forty. -/
def tkRest : PosShare TreeShare := Transfers.shareDrop fullShare 40

theorem src_eq (c : Dev nD) (f : MBuf (F := F) c hbS) :
    mPt c hbS fullShare f ⊣⊢ iprop(mPt c hbS tkRest f ∗ mPt c hbS (tk 0) f ∗ mPt c hbS (tk 1) f ∗ mPt c hbS (tk 2) f ∗ mPt c hbS (tk 3) f ∗ mPt c hbS (tk 4) f ∗ mPt c hbS (tk 5) f ∗ mPt c hbS (tk 6) f ∗ mPt c hbS (tk 7) f ∗ mPt c hbS (tk 8) f ∗ mPt c hbS (tk 9) f ∗ mPt c hbS (tk 10) f ∗ mPt c hbS (tk 11) f ∗ mPt c hbS (tk 12) f ∗ mPt c hbS (tk 13) f ∗ mPt c hbS (tk 14) f ∗ mPt c hbS (tk 15) f ∗ mPt c hbS (tk 16) f ∗ mPt c hbS (tk 17) f ∗ mPt c hbS (tk 18) f ∗ mPt c hbS (tk 19) f ∗ mPt c hbS (tk 20) f ∗ mPt c hbS (tk 21) f ∗ mPt c hbS (tk 22) f ∗ mPt c hbS (tk 23) f ∗ mPt c hbS (tk 24) f ∗ mPt c hbS (tk 25) f ∗ mPt c hbS (tk 26) f ∗ mPt c hbS (tk 27) f ∗ mPt c hbS (tk 28) f ∗ mPt c hbS (tk 29) f ∗ mPt c hbS (tk 30) f ∗ mPt c hbS (tk 31) f ∗ mPt c hbS (tk 32) f ∗ mPt c hbS (tk 33) f ∗ mPt c hbS (tk 34) f ∗ mPt c hbS (tk 35) f ∗ mPt c hbS (tk 36) f ∗ mPt c hbS (tk 37) f ∗ mPt c hbS (tk 38) f ∗ mPt c hbS (tk 39) f) := by
  refine (Transfers.pointsTo_toks_range (ℓ := hbS.view.loc (c : Thread nD τ)) fullShare 40).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]
  exact ⟨Entails.refl _, Entails.refl _⟩

/-! ## The forty rows of a grid point in the array written -/

/-- Where row `j` of grid point `i` starts, as the body computes it. -/
def goff (i : grid0.Coords) (j : ℕ) : Fin 3 → ℕ :=
  ![(Scalar.addi (Scalar.muli (BitVec.ofNat 32 (i 0).val) 40#32) (BitVec.ofNat 32 j)).toNat, 0, 0]
theorem goff_zero (i : grid0.Coords) (j : ℕ) (hj : j < 40) : goff i j 0 = 40 * (i 0).val + j := by
  have hi : (i 0).val < 48 := (i 0).isLt
  show (Scalar.addi (Scalar.muli (BitVec.ofNat 32 (i 0).val) 40#32) (BitVec.ofNat 32 j)).toNat = _
  show (BitVec.ofNat 32 (i 0).val * 40#32 + BitVec.ofNat 32 j).toNat = _
  rw [BitVec.toNat_add, BitVec.toNat_mul, BitVec.toNat_ofNat, BitVec.toNat_ofNat, BitVec.toNat_ofNat]
  omega
theorem goff_inb (i : grid0.Coords) (j : Fin 40) : ∀ a, goff i j.val a + S1x2x2560.size a ≤ S1920x2x2560.size a := by
  intro a
  have hi : (i 0).val < 48 := (i 0).isLt
  match a with
  | 0 => show goff i j.val 0 + 1 ≤ 1920; rw [goff_zero i j.val j.isLt]; omega
  | 1 => show 0 + 2 ≤ 2; omega
  | 2 => show 0 + 2560 ≤ 2560; omega
/-- Row `j` of grid point `i`, as a window. -/
abbrev gw (i : grid0.Coords) (j : Fin 40) : Memref sig .tc .hbm S1x2x2560 .bf16 :=
  hbG.slice (Rect.unit (s := S1920x2x2560) (goff i j.val) S1x2x2560.size (goff_inb i j)) (fun _ => rfl)
/-- Row `j` of grid point `i`, as a set of elements. -/
abbrev gset (c : Dev nD) (i : grid0.Coords) (j : Fin 40) : Finset (Idx (hbG.view.loc (c : Thread nD τ))) := (gw i j).view.set
theorem gset_disjoint (c : Dev nD) (i : grid0.Coords) (j j' : Fin 40) (h : j ≠ j') : Disjoint (gset c i j) (gset c i j') := by
  have e : ∀ k : Fin 40, gset c i k = (Rect.unit (s := S1920x2x2560) (goff i k.val) S1x2x2560.size (goff_inb i k)).set :=
    fun k => View.set_slice_whole _ _
  rw [e, e]
  refine Rect.unit_disjoint 0 ?_
  rw [goff_zero i j.val j.isLt, goff_zero i j'.val j'.isLt]
  have : j.val ≠ j'.val := fun e => h (Fin.ext e)
  show 40 * (i 0).val + j.val + 1 ≤ _ ∨ 40 * (i 0).val + j'.val + 1 ≤ _
  omega
/-- The elements of the array written outside the forty rows of grid point `i`. -/
abbrev gSpare (c : Dev nD) (i : grid0.Coords) : sProp 𝕄 :=
  iprop(∃ f : MBuf (F := F) c hbG, hbG.view.loc (c : Thread nD τ) ↦[Finset.univ \ Finset.univ.biUnion (gset c i)]{fullShare} f)
abbrev gw0 (i : grid0.Coords) : Memref sig .tc .hbm S1x2x2560 .bf16 := hbG.slice (Rect.unit (s := S1920x2x2560) (k0_off2 i) S1x2x2560.size (k0_off2_inb i)) (fun _ => rfl)
abbrev gw1 (i : grid0.Coords) : Memref sig .tc .hbm S1x2x2560 .bf16 := hbG.slice (Rect.unit (s := S1920x2x2560) (k0_off5 i) S1x2x2560.size (k0_off5_inb i)) (fun _ => rfl)
abbrev gw2 (i : grid0.Coords) : Memref sig .tc .hbm S1x2x2560 .bf16 := hbG.slice (Rect.unit (s := S1920x2x2560) (k0_off8 i) S1x2x2560.size (k0_off8_inb i)) (fun _ => rfl)
abbrev gw3 (i : grid0.Coords) : Memref sig .tc .hbm S1x2x2560 .bf16 := hbG.slice (Rect.unit (s := S1920x2x2560) (k0_off11 i) S1x2x2560.size (k0_off11_inb i)) (fun _ => rfl)
abbrev gw4 (i : grid0.Coords) : Memref sig .tc .hbm S1x2x2560 .bf16 := hbG.slice (Rect.unit (s := S1920x2x2560) (k0_off14 i) S1x2x2560.size (k0_off14_inb i)) (fun _ => rfl)
abbrev gw5 (i : grid0.Coords) : Memref sig .tc .hbm S1x2x2560 .bf16 := hbG.slice (Rect.unit (s := S1920x2x2560) (k0_off17 i) S1x2x2560.size (k0_off17_inb i)) (fun _ => rfl)
abbrev gw6 (i : grid0.Coords) : Memref sig .tc .hbm S1x2x2560 .bf16 := hbG.slice (Rect.unit (s := S1920x2x2560) (k0_off20 i) S1x2x2560.size (k0_off20_inb i)) (fun _ => rfl)
abbrev gw7 (i : grid0.Coords) : Memref sig .tc .hbm S1x2x2560 .bf16 := hbG.slice (Rect.unit (s := S1920x2x2560) (k0_off23 i) S1x2x2560.size (k0_off23_inb i)) (fun _ => rfl)
abbrev gw8 (i : grid0.Coords) : Memref sig .tc .hbm S1x2x2560 .bf16 := hbG.slice (Rect.unit (s := S1920x2x2560) (k0_off26 i) S1x2x2560.size (k0_off26_inb i)) (fun _ => rfl)
abbrev gw9 (i : grid0.Coords) : Memref sig .tc .hbm S1x2x2560 .bf16 := hbG.slice (Rect.unit (s := S1920x2x2560) (k0_off29 i) S1x2x2560.size (k0_off29_inb i)) (fun _ => rfl)
abbrev gw10 (i : grid0.Coords) : Memref sig .tc .hbm S1x2x2560 .bf16 := hbG.slice (Rect.unit (s := S1920x2x2560) (k0_off32 i) S1x2x2560.size (k0_off32_inb i)) (fun _ => rfl)
abbrev gw11 (i : grid0.Coords) : Memref sig .tc .hbm S1x2x2560 .bf16 := hbG.slice (Rect.unit (s := S1920x2x2560) (k0_off35 i) S1x2x2560.size (k0_off35_inb i)) (fun _ => rfl)
abbrev gw12 (i : grid0.Coords) : Memref sig .tc .hbm S1x2x2560 .bf16 := hbG.slice (Rect.unit (s := S1920x2x2560) (k0_off38 i) S1x2x2560.size (k0_off38_inb i)) (fun _ => rfl)
abbrev gw13 (i : grid0.Coords) : Memref sig .tc .hbm S1x2x2560 .bf16 := hbG.slice (Rect.unit (s := S1920x2x2560) (k0_off41 i) S1x2x2560.size (k0_off41_inb i)) (fun _ => rfl)
abbrev gw14 (i : grid0.Coords) : Memref sig .tc .hbm S1x2x2560 .bf16 := hbG.slice (Rect.unit (s := S1920x2x2560) (k0_off44 i) S1x2x2560.size (k0_off44_inb i)) (fun _ => rfl)
abbrev gw15 (i : grid0.Coords) : Memref sig .tc .hbm S1x2x2560 .bf16 := hbG.slice (Rect.unit (s := S1920x2x2560) (k0_off47 i) S1x2x2560.size (k0_off47_inb i)) (fun _ => rfl)
abbrev gw16 (i : grid0.Coords) : Memref sig .tc .hbm S1x2x2560 .bf16 := hbG.slice (Rect.unit (s := S1920x2x2560) (k0_off50 i) S1x2x2560.size (k0_off50_inb i)) (fun _ => rfl)
abbrev gw17 (i : grid0.Coords) : Memref sig .tc .hbm S1x2x2560 .bf16 := hbG.slice (Rect.unit (s := S1920x2x2560) (k0_off53 i) S1x2x2560.size (k0_off53_inb i)) (fun _ => rfl)
abbrev gw18 (i : grid0.Coords) : Memref sig .tc .hbm S1x2x2560 .bf16 := hbG.slice (Rect.unit (s := S1920x2x2560) (k0_off56 i) S1x2x2560.size (k0_off56_inb i)) (fun _ => rfl)
abbrev gw19 (i : grid0.Coords) : Memref sig .tc .hbm S1x2x2560 .bf16 := hbG.slice (Rect.unit (s := S1920x2x2560) (k0_off59 i) S1x2x2560.size (k0_off59_inb i)) (fun _ => rfl)
abbrev gw20 (i : grid0.Coords) : Memref sig .tc .hbm S1x2x2560 .bf16 := hbG.slice (Rect.unit (s := S1920x2x2560) (k0_off62 i) S1x2x2560.size (k0_off62_inb i)) (fun _ => rfl)
abbrev gw21 (i : grid0.Coords) : Memref sig .tc .hbm S1x2x2560 .bf16 := hbG.slice (Rect.unit (s := S1920x2x2560) (k0_off65 i) S1x2x2560.size (k0_off65_inb i)) (fun _ => rfl)
abbrev gw22 (i : grid0.Coords) : Memref sig .tc .hbm S1x2x2560 .bf16 := hbG.slice (Rect.unit (s := S1920x2x2560) (k0_off68 i) S1x2x2560.size (k0_off68_inb i)) (fun _ => rfl)
abbrev gw23 (i : grid0.Coords) : Memref sig .tc .hbm S1x2x2560 .bf16 := hbG.slice (Rect.unit (s := S1920x2x2560) (k0_off71 i) S1x2x2560.size (k0_off71_inb i)) (fun _ => rfl)
abbrev gw24 (i : grid0.Coords) : Memref sig .tc .hbm S1x2x2560 .bf16 := hbG.slice (Rect.unit (s := S1920x2x2560) (k0_off74 i) S1x2x2560.size (k0_off74_inb i)) (fun _ => rfl)
abbrev gw25 (i : grid0.Coords) : Memref sig .tc .hbm S1x2x2560 .bf16 := hbG.slice (Rect.unit (s := S1920x2x2560) (k0_off77 i) S1x2x2560.size (k0_off77_inb i)) (fun _ => rfl)
abbrev gw26 (i : grid0.Coords) : Memref sig .tc .hbm S1x2x2560 .bf16 := hbG.slice (Rect.unit (s := S1920x2x2560) (k0_off80 i) S1x2x2560.size (k0_off80_inb i)) (fun _ => rfl)
abbrev gw27 (i : grid0.Coords) : Memref sig .tc .hbm S1x2x2560 .bf16 := hbG.slice (Rect.unit (s := S1920x2x2560) (k0_off83 i) S1x2x2560.size (k0_off83_inb i)) (fun _ => rfl)
abbrev gw28 (i : grid0.Coords) : Memref sig .tc .hbm S1x2x2560 .bf16 := hbG.slice (Rect.unit (s := S1920x2x2560) (k0_off86 i) S1x2x2560.size (k0_off86_inb i)) (fun _ => rfl)
abbrev gw29 (i : grid0.Coords) : Memref sig .tc .hbm S1x2x2560 .bf16 := hbG.slice (Rect.unit (s := S1920x2x2560) (k0_off89 i) S1x2x2560.size (k0_off89_inb i)) (fun _ => rfl)
abbrev gw30 (i : grid0.Coords) : Memref sig .tc .hbm S1x2x2560 .bf16 := hbG.slice (Rect.unit (s := S1920x2x2560) (k0_off92 i) S1x2x2560.size (k0_off92_inb i)) (fun _ => rfl)
abbrev gw31 (i : grid0.Coords) : Memref sig .tc .hbm S1x2x2560 .bf16 := hbG.slice (Rect.unit (s := S1920x2x2560) (k0_off95 i) S1x2x2560.size (k0_off95_inb i)) (fun _ => rfl)
abbrev gw32 (i : grid0.Coords) : Memref sig .tc .hbm S1x2x2560 .bf16 := hbG.slice (Rect.unit (s := S1920x2x2560) (k0_off98 i) S1x2x2560.size (k0_off98_inb i)) (fun _ => rfl)
abbrev gw33 (i : grid0.Coords) : Memref sig .tc .hbm S1x2x2560 .bf16 := hbG.slice (Rect.unit (s := S1920x2x2560) (k0_off101 i) S1x2x2560.size (k0_off101_inb i)) (fun _ => rfl)
abbrev gw34 (i : grid0.Coords) : Memref sig .tc .hbm S1x2x2560 .bf16 := hbG.slice (Rect.unit (s := S1920x2x2560) (k0_off104 i) S1x2x2560.size (k0_off104_inb i)) (fun _ => rfl)
abbrev gw35 (i : grid0.Coords) : Memref sig .tc .hbm S1x2x2560 .bf16 := hbG.slice (Rect.unit (s := S1920x2x2560) (k0_off107 i) S1x2x2560.size (k0_off107_inb i)) (fun _ => rfl)
abbrev gw36 (i : grid0.Coords) : Memref sig .tc .hbm S1x2x2560 .bf16 := hbG.slice (Rect.unit (s := S1920x2x2560) (k0_off110 i) S1x2x2560.size (k0_off110_inb i)) (fun _ => rfl)
abbrev gw37 (i : grid0.Coords) : Memref sig .tc .hbm S1x2x2560 .bf16 := hbG.slice (Rect.unit (s := S1920x2x2560) (k0_off113 i) S1x2x2560.size (k0_off113_inb i)) (fun _ => rfl)
abbrev gw38 (i : grid0.Coords) : Memref sig .tc .hbm S1x2x2560 .bf16 := hbG.slice (Rect.unit (s := S1920x2x2560) (k0_off116 i) S1x2x2560.size (k0_off116_inb i)) (fun _ => rfl)
abbrev gw39 (i : grid0.Coords) : Memref sig .tc .hbm S1x2x2560 .bf16 := hbG.slice (Rect.unit (s := S1920x2x2560) (k0_off119 i) S1x2x2560.size (k0_off119_inb i)) (fun _ => rfl)
/-- The forty rows, one by one. -/
theorem gath_eq (c : Dev nD) (i : grid0.Coords) :
    (bigSep Finset.univ (fun j : Fin 40 => iprop(∃ f, wPt (F := F) c (gw i j) f)) : sProp 𝕄) = iprop((∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl
/-- The array written is its forty rows of a grid point and the elements outside them; -/
theorem gath_split (c : Dev nD) (i : grid0.Coords) :
    iprop(∃ f, mPt c hbG fullShare f) ⊢ (iprop(gSpare (F := F) c i ∗ (∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) : sProp 𝕄) := by
  have h : iprop(∃ f, mPt c hbG fullShare f) ⊢ (iprop(bigSep Finset.univ (fun j : Fin 40 => iprop(∃ f, wPt (F := F) c (gw i j) f)) ∗ gSpare (F := F) c i) : sProp 𝕄) :=
    Ring.pieces_split_spare (ℓ := hbG.view.loc (c : Thread nD τ)) (q := fullShare) (gset c i) (gset_disjoint c i) (fun j f => wPt c (gw i j) f) (fun _ _ => rfl)
  rw [gath_eq] at h
  refine h.trans ?_
  iintro ⟨HB, HR⟩
  isplitl [HR]; · iexact HR
  iexact HB
/-- and joins from them. -/
theorem gath_join (c : Dev nD) (i : grid0.Coords) :
    (iprop(gSpare (F := F) c i ∗ (∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) : sProp 𝕄) ⊢ iprop(∃ f, mPt c hbG fullShare f) := by
  have h : (iprop(bigSep Finset.univ (fun j : Fin 40 => iprop(∃ f, wPt (F := F) c (gw i j) f)) ∗ gSpare (F := F) c i) : sProp 𝕄) ⊢ iprop(∃ f, mPt c hbG fullShare f) :=
    Ring.pieces_join_spare (Ix := Unit) (Name := ℕ) (U := Pipeline.UD sig nD τ) (Lvl := ℕ) (ℓ := hbG.view.loc (c : Thread nD τ)) (q := fullShare)
    (gset c i) (gset_disjoint c i) (fun j f => wPt (F := F) c (gw i j) f) (fun _ _ => rfl)
  rw [gath_eq] at h
  iintro ⟨HR, HB⟩
  iapply h
  isplitl [HB]; · iexact HB
  iexact HR

/-! ## The words of the row order are in bounds -/

/-- A word below 1920, halved, is a pair row of the array read. -/
theorem chk_of (v : BitVec 32) (h : v.toNat < 1920) : k0_chk1 v := by
  have hv : (Scalar.shrsi v 1#32).toNat < 960 := by
    have : Scalar.shrsi v 1#32 = v.sshiftRight 1 := rfl
    rw [this, BitVec.sshiftRight_eq_of_msb_false (by rw [BitVec.msb_eq_false_iff_two_mul_lt]; omega)]
    rw [BitVec.toNat_ushiftRight, Nat.shiftRight_eq_div_pow]; omega
  refine ⟨?_, ?_⟩
  · intro a
    match a with
    | 0 => show (Scalar.shrsi v 1#32).toNat + 1 ≤ 960; omega
    | 1 => show 0 + 2 ≤ 2; omega
    | 2 => show 0 + 2560 ≤ 2560; omega
  · intro hinb
    exact Rect.WholeRows.wholeWords (Rect.wholeRows_unit (by decide) rfl rfl) _

/-! ## The body's branch conditions -/

/-- The condition of the body's first branch, from the grid coordinates. -/
abbrev cond0_0 (i : grid0.Coords) : Prop := (Scalar.cmpi .ne (Scalar.extui (Scalar.cmpi .eq (BitVec.ofNat 32 (i 0).val) 0#32)) 0#32) = 1#1
/-- The condition of the body's second branch. -/
abbrev cond0_1 (i : grid0.Coords) : Prop := k0_cond2 i = 1#1

end Cert.Kernel.Hand

end
-- ==== Proof.Hand.Kernel.RunA.lean ====
/-
  Hand-written. The run of the call's body in case A of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.Kernel.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case A: the pieces each buffer ends with, and the triple. -/
noncomputable def kernelRun0_A (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (xi4 : Vec F S1920x2560 .bf16) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ d, owns (c : Thread nD τ) arg9 fullShare d) ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨[], ?_, ?_, ?_, fun xi4 W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg7.eq_unread hf4
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.Kernel.Hand

end
-- ==== Proof.Hand.Kernel.RunB.lean ====
/-
  Hand-written. The run of the call's body in case B of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.Kernel.RunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case B: the pieces each buffer ends with, and the triple. -/
noncomputable def kernelRun0_B (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (xi4 : Vec F S1920x2560 .bf16) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ owns (c : Thread nD τ) arg9 fullShare xs0 ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨[], ?_, ?_, ?_, fun xi4 W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg7.eq_unread hf4; obtain rfl := harg9.eq_unread hfs0
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.Kernel.Hand

end
-- ==== Proof.Hand.Kernel.RunC.lean ====
/-
  Hand-written. The run of the call's body in case C of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.Kernel.RunB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case C: the pieces each buffer ends with, and the triple. -/
noncomputable def kernelRun0_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ owns (c : Thread nD τ) arg9 fullShare xs0 ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨?_, ?_, ?_, ?_, fun W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg9.eq_unread hfs0
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.Kernel.Hand

end
-- ==== Proof.Hand.Kernel.Kit.lean ====
/-
  Hand-written. The launch of the call with its row order prefetched into scalar memory: what the host operations leave in
  the buffers the region reads, the bound of the row order's words, the pipeline at that order, the windows' blocks, where
  the output window is idle, and the region's invariant part by part.
-/
module

public import proofs.«01_k».proof.Proof.Hand.Kernel.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## @main up to the region -/

/-- The three stretches of host operations before the region. -/
abbrev opss : List (List (HloOp τ sig (Elt F))) := [hostOps0, hostOps0_1, hostOps0_2]
/-- Core `c`'s TensorCore buffers when the region is entered. -/
abbrev V (c : Dev nD) (b : Ref sig .tc) : Buf (Elt F) ((c : Thread nD τ).loc b) := StableHlo.after (opss (F := F)).flatten (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main opss ⟨hostOps0_sub, hostOps0_1_sub, hostOps0_2_sub⟩
    ⟨hostOps0_fresh, hostOps0_1_fresh, hostOps0_2_fresh⟩ main_chain

/-- No host operation before the region writes `main_arg0`: the region finds it as launched. -/
theorem V_main_arg0 (c : Dev nD) : V m c main_arg0 = m ((c : Thread nD τ).loc main_arg0) := by
  show StableHlo.after (opss (F := F)).flatten _ (Proc.devRef .tc main_arg0) = _
  simp only [opss, hostOps0, hostOps0_1, hostOps0_2, List.flatten_cons, List.flatten_nil, List.cons_append, List.nil_append, List.append_nil]
  after_results
/-- No host operation before the region writes `main_arg1`: the region finds it as launched. -/
theorem V_main_arg1 (c : Dev nD) : V m c main_arg1 = m ((c : Thread nD τ).loc main_arg1) := by
  show StableHlo.after (opss (F := F)).flatten _ (Proc.devRef .tc main_arg1) = _
  simp only [opss, hostOps0, hostOps0_1, hostOps0_2, List.flatten_cons, List.flatten_nil, List.cons_append, List.nil_append, List.append_nil]
  after_results
/-- No host operation before the region writes `main_arg2`: the region finds it as launched. -/
theorem V_main_arg2 (c : Dev nD) : V m c main_arg2 = m ((c : Thread nD τ).loc main_arg2) := by
  show StableHlo.after (opss (F := F)).flatten _ (Proc.devRef .tc main_arg2) = _
  simp only [opss, hostOps0, hostOps0_1, hostOps0_2, List.flatten_cons, List.flatten_nil, List.cons_append, List.nil_append, List.append_nil]
  after_results
/-- No host operation before the region writes `main_arg3`: the region finds it as launched. -/
theorem V_main_arg3 (c : Dev nD) : V m c main_arg3 = m ((c : Thread nD τ).loc main_arg3) := by
  show StableHlo.after (opss (F := F)).flatten _ (Proc.devRef .tc main_arg3) = _
  simp only [opss, hostOps0, hostOps0_1, hostOps0_2, List.flatten_cons, List.flatten_nil, List.cons_append, List.nil_append, List.append_nil]
  after_results
/-- No host operation before the region writes `main_arg4`: the region finds it as launched. -/
theorem V_main_arg4 (c : Dev nD) : V m c main_arg4 = m ((c : Thread nD τ).loc main_arg4) := by
  show StableHlo.after (opss (F := F)).flatten _ (Proc.devRef .tc main_arg4) = _
  simp only [opss, hostOps0, hostOps0_1, hostOps0_2, List.flatten_cons, List.flatten_nil, List.cons_append, List.nil_append, List.append_nil]
  after_results
/-- No host operation before the region writes `main_arg5`: the region finds it as launched. -/
theorem V_main_arg5 (c : Dev nD) : V m c main_arg5 = m ((c : Thread nD τ).loc main_arg5) := by
  show StableHlo.after (opss (F := F)).flatten _ (Proc.devRef .tc main_arg5) = _
  simp only [opss, hostOps0, hostOps0_1, hostOps0_2, List.flatten_cons, List.flatten_nil, List.cons_append, List.nil_append, List.append_nil]
  after_results

/-! ## The row order -/

/-- What the host operations leave in the row order's buffer: the sorted keys, masked. -/
theorem V_order (c : Dev nD) : V m c main_v11
    = (andi (Host.sort S1920 0 comparator_i32_d0 (addi (muli (shapeCast S1920 (m ((c : Thread nD τ).loc main_arg4) : IVec S3x640 32) shapeCasts_S3x640_S1920)
          (broadcastInDim S1920 ![] bcast_S_S1920 (constantI S_ 32 2048#32) : IVec S1920 32)) (iotaInDim S1920 32 0)))
        (broadcastInDim S1920 ![] bcast_S_S1920 (constantI S_ 32 2047#32) : IVec S1920 32) : IVec S1920 32) := by
  show StableHlo.after (opss (F := F)).flatten _ (Proc.devRef .tc main_v11) = _
  simp only [opss, hostOps0, hostOps0_1, hostOps0_2, List.flatten_cons, List.flatten_nil, List.cons_append, List.nil_append, List.append_nil]
  after_results
  try rfl
/-- A key's low eleven bits are its position, below 1920. -/
theorem key_bound (a b : BitVec 32) (h : b.toNat < 1920) : ((a * 2048#32 + b) &&& 2047#32).toNat < 1920 := by
  rw [BitVec.toNat_and, BitVec.toNat_add, BitVec.toNat_mul, show (2047#32 : BitVec 32).toNat = 2 ^ 11 - 1 from rfl, Nat.and_two_pow_sub_one_eq_mod,
    show (2048#32 : BitVec 32).toNat = 2048 from rfl]
  omega
/-- Every word of the row order is below 1920. -/
theorem order_bound (c : Dev nD) (j) : ((V m c main_v11 : IVec S1920 32) j).toNat < 1920 := by
  rw [V_order]
  have hs : ∀ (x : IVec S1920 32) (j : S1920.Idx), ∃ k, Host.sort S1920 0 comparator_i32_d0 x j = x k :=
    fun x j => by unfold Host.sort; split <;> exact ⟨_, rfl⟩
  obtain ⟨k, hk⟩ := hs (addi (muli (shapeCast S1920 (m ((c : Thread nD τ).loc main_arg4) : IVec S3x640 32) shapeCasts_S3x640_S1920)
          (broadcastInDim S1920 ![] bcast_S_S1920 (constantI S_ 32 2048#32) : IVec S1920 32)) (iotaInDim S1920 32 0)) j
  show ((Host.sort S1920 0 comparator_i32_d0 _ j) &&& 2047#32).toNat < 1920
  rw [hk]
  refine key_bound _ _ ?_
  have h : (k 0).val < 1920 := (k 0).isLt
  show (BitVec.ofNat 32 (k 0).val).toNat < 1920
  rw [BitVec.toNat_ofNat]; omega

/-- The prefetched table's contents (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- They are admissible (no index map reads the table), -/
abbrev adm : (pcfg0 (F := F)).Adm := ⟨tbl m, trivial⟩
/-- and the pipeline at them. -/
abbrev cfgM : Pipeline.Cfg sig Λ₀ := cfg0 (adm m)
abbrev adms : (p : Fin 1) → (pcfgs (F := F) p).Adm := fun _ => adm m

/-- The half of the table the region hands the body. -/
theorem PhiT0_eq (c : Dev nD) : (Pipeline.ΦT pre0 (tbl m) c : sProp 𝕄) = mPt c tbM fullShare.right (V m c main_v11) := by
  obtain rfl : c = 0 := Subsingleton.elim _ _
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, and where the output window is idle -/

theorem hcond0_0 : ∀ t : Fin grid0.N, cond0_0 (grid0.coords t) ↔ t.val % 48 = 0 :=
  fun t => by
    have ht : t.val < 48 := Nat.lt_of_lt_of_eq t.isLt N_0
    have e0 : (grid0.coords t 0).val = t.val / 1 % 48 := Pipeline.Grid.coords_val t 0 (by decide) rfl
    simp only [cond0_0, e0]
    word_cmp
theorem hcond0_1 : ∀ t : Fin grid0.N, cond0_1 (grid0.coords t) ↔ t.val % 48 = 47 :=
  fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
theorem liveAt0_0 : ∀ t : Fin (cfgM m).N, (cfgM m).idle 0 (grid0.coords t) = false := fun _ => rfl
theorem liveAt0_1 : ∀ t : Fin (cfgM m).N, (cfgM m).idle 1 (grid0.coords t) = false := fun _ => rfl
theorem liveAt0_2 : ∀ t : Fin (cfgM m).N, (cfgM m).idle 2 (grid0.coords t) = false := fun _ => rfl
theorem liveAt0_3 : ∀ t : Fin (cfgM m).N, (cfgM m).idle 3 (grid0.coords t) = false := fun _ => rfl
theorem idleAt0_4 : ∀ t : Fin (cfgM m).N, ¬cond0_1 (grid0.coords t) → (cfgM m).idle 4 (grid0.coords t) = true :=
  (by decide +kernel : ∀ t : Fin grid0.N, ¬cond0_1 (grid0.coords t) → idle0 4 (grid0.coords t) = true)
theorem noFlush0_4 : ∀ t : Fin (cfgM m).N, ¬cond0_1 (grid0.coords t) → ((cfgM m).win 4).flush t = false :=
  (by decide +kernel : ∀ t : Fin grid0.N, ¬cond0_1 (grid0.coords t) → Pipeline.Window.flushOf grid0 true cc0_transform_5 t = false)
theorem liveAt0_4 : ∀ t : Fin (cfgM m).N, cond0_1 (grid0.coords t) → (cfgM m).idle 4 (grid0.coords t) = false :=
  (by decide +kernel : ∀ t : Fin grid0.N, cond0_1 (grid0.coords t) → idle0 4 (grid0.coords t) = false)

/-! ## The memrefs the body runs on -/

/-- One staging buffer of the output window, through which its contents are stated. -/
abbrev VO0_4 : View sig .tc .vmem S1920x2560 .bf16 := (Memref.whole cc0_stg4_0 : Memref sig .tc .vmem S1920x2560 .bf16).view
abbrev ms0_0 (t : Fin (cfgM m).N) : Memref sig .tc .vmem S1920x1024 .fp8e5m2 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1920x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1024x2560 .i8 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1x1024 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1920x2560 .bf16 := spec0_4.stage ((cfgM m).slots t 4)
abbrev hs0_4 (t : Fin (cfgM m).N) : (ms0_4 m t).IsWhole := hstage0_4 (((cfgM m).slots t 4).cast nbuf0_4)
abbrev scM0_0 : Memref sig .tc .vmem S1920x2560 .f32 := Memref.whole cc0_scratch0
abbrev scM0_1 : Memref sig .tc .vmem S1920x1024 .bf16 := Memref.whole cc0_scratch1
abbrev scM0_2 : Memref sig .tc .vmem S1024x2560 .bf16 := Memref.whole cc0_scratch2
/-- The accumulator, as a view. -/
abbrev VS0_0 : View sig .tc .vmem S1920x2560 .f32 := scM0_0.view

/-! ## The launch's invariant, part by part -/

/-- The kernel's own semaphore. -/
abbrev osem0 : Fin 1 → SemLoc sig := ![SemLoc.dma 9]
theorem ownSemFacts0 : Pipeline.OwnSemFacts spec0 osem0 := by decide
theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 9) 0 := by
  rw [Pipeline.ownSems0_eq_of_list c osem0 [0] (by decide) (by decide)]; rfl
/-- The array the copies read, and the array they write. -/
abbrev rdSet : Finset (Ref sig .tc) := {main_v3}
abbrev wrSet : Finset (Ref sig .tc) := {main_v12_1}
theorem hbmPts0_eq (c : Dev nD) : (bigSep rdSet (fun b => ((c.tc : Thread nD τ).loc b) ↦{fullShare} V m c b) : sProp 𝕄) = mPt c hbS fullShare (V m c main_v3) := by
  rw [BI.bigSep_eq_bigSepL_of_eq [main_v3] (by decide) (by decide)]; rfl
theorem ownedPts0_eq (c : Dev nD) : (Pipeline.owned wrSet c : sProp 𝕄) = iprop(∃ f, mPt c hbG fullShare f) := by
  unfold Pipeline.owned; rw [BI.bigSep_eq_bigSepL_of_eq [main_v12_1] (by decide) (by decide)]; rfl
theorem PhiDR0_eq (c : Dev nD) :
    (Pipeline.ΦDR osem0 spec0 rdSet wrSet (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)
          ∗ semVal ((c : Thread nD τ), SemLoc.dma 9) 0 ∗ mPt c hbS fullShare (V m c main_v3) ∗ (∃ f, mPt c hbG fullShare f)) := by
  rw [Pipeline.ΦDR_eq, scopedRest0_eq, ownSems00_eq, hbmPts0_eq, ownedPts0_eq]; simp only [scM0_0, scM0_1, scM0_2, owns_whole]; try rfl

end Cert.Kernel.Hand

end
-- ==== Proof.Hand.Kernel.Frame.lean ====
/-
  Hand-written. The frame of the call: what its output window and its accumulator hold after each grid point, the
  pipeline's proof data, the body's obligation from the three runs, the launch.
-/
module

public import proofs.«01_k».proof.Proof.Hand.Kernel.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) : Vec F S1920x2560 .bf16 :=
  VO0_4.read (Elt F) (VO0_4.writes (Elt F) VO0_4.junk (kernelRun0_A c i arg2 harg2 arg3 harg3 arg4 harg4 arg5 harg5 arg7 harg7 arg9 harg9 arg10 harg10 arg11 harg11 hc0 hc1 ft hb fh x0 x1 x2 x3).1)

/-- Case A's pieces for scratch `arg9`, which the kernel carries between points, cover it: one of them a store of the WHOLE buffer (Lib/Ring.lean `sl_whole_mem`). -/
theorem scover0_A_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (y : S1920x2560.Idx) :
    ∃ pc ∈ (kernelRun0_A c i arg2 harg2 arg3 harg3 arg4 harg4 arg5 harg5 arg7 harg7 arg9 harg9 arg10 harg10 arg11 harg11 hc0 hc1 ft hb fh x0 x1 x2 x3).2.1, y ∈ pc.1.set :=
  View.cover_of_wholeMem (kernelRun0_A c i arg2 harg2 arg3 harg3 arg4 harg4 arg5 harg5 arg7 harg7 arg9 harg9 arg10 harg10 arg11 harg11 hc0 hc1 ft hb fh x0 x1 x2 x3).2.1 (by sl_whole_mem) y

/-- What case A leaves in scratch `arg9`: its pieces read back over junk. -/
def sout0_A_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) : Vec F S1920x2560 .f32 :=
  VS0_0.read (Elt F) (VS0_0.writes (Elt F) VS0_0.junk (kernelRun0_A c i arg2 harg2 arg3 harg3 arg4 harg4 arg5 harg5 arg7 harg7 arg9 harg9 arg10 harg10 arg11 harg11 hc0 hc1 ft hb fh x0 x1 x2 x3).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .bf16 :=
  VO0_4.read (Elt F) (VO0_4.writes (Elt F) VO0_4.junk (kernelRun0_B c i arg2 harg2 arg3 harg3 arg4 harg4 arg5 harg5 arg7 harg7 arg9 harg9 arg10 harg10 arg11 harg11 hc0 hc1 ft hb fh x0 x1 x2 x3 xs0).1)

/-- Case B's pieces for scratch `arg9`, which the kernel carries between points, cover it: 10 pieces of `S1920x256` tiling it (Lib/Ring.lean `Piece.tiledL`). -/
theorem scover0_B_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_B c i arg2 harg2 arg3 harg3 arg4 harg4 arg5 harg5 arg7 harg7 arg9 harg9 arg10 harg10 arg11 harg11 hc0 hc1 ft hb fh x0 x1 x2 x3 xs0).2.1, y ∈ pc.1.set :=
  View.cover_of_tiledL (kernelRun0_B c i arg2 harg2 arg3 harg3 arg4 harg4 arg5 harg5 arg7 harg7 arg9 harg9 arg10 harg10 arg11 harg11 hc0 hc1 ft hb fh x0 x1 x2 x3 xs0).2.1 S1920x256.size (by sl_kernel_rfl) y

/-- What case B leaves in scratch `arg9`: its pieces read back over junk. -/
def sout0_B_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .f32 :=
  VS0_0.read (Elt F) (VS0_0.writes (Elt F) VS0_0.junk (kernelRun0_B c i arg2 harg2 arg3 harg3 arg4 harg4 arg5 harg5 arg7 harg7 arg9 harg9 arg10 harg10 arg11 harg11 hc0 hc1 ft hb fh x0 x1 x2 x3 xs0).2.1)

/-- Case C's pieces for output 4 tile its block (1 store of `S1920x2560`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_C c i arg2 harg2 arg3 harg3 arg4 harg4 arg5 harg5 arg7 harg7 arg9 harg9 arg10 harg10 arg11 harg11 hc0 hc1 ft hb fh x0 x1 x2 x3 xs0).1, y ∈ pc.1.set :=
  View.cover_of_tiledL (kernelRun0_C c i arg2 harg2 arg3 harg3 arg4 harg4 arg5 harg5 arg7 harg7 arg9 harg9 arg10 harg10 arg11 harg11 hc0 hc1 ft hb fh x0 x1 x2 x3 xs0).1 S1920x2560.size (by sl_kernel_rfl) y

/-- What case C leaves in output 4's staging buffer: its pieces read back over junk. -/
def out0_C_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .bf16 :=
  VO0_4.read (Elt F) (VO0_4.writes (Elt F) VO0_4.junk (kernelRun0_C c i arg2 harg2 arg3 harg3 arg4 harg4 arg5 harg5 arg7 harg7 arg9 harg9 arg10 harg10 arg11 harg11 hc0 hc1 ft hb fh x0 x1 x2 x3 xs0).1)

/-- Case C's pieces for scratch `arg9`, which the kernel carries between points, cover it: 10 pieces of `S1920x256` tiling it (Lib/Ring.lean `Piece.tiledL`). -/
theorem scover0_C_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_C c i arg2 harg2 arg3 harg3 arg4 harg4 arg5 harg5 arg7 harg7 arg9 harg9 arg10 harg10 arg11 harg11 hc0 hc1 ft hb fh x0 x1 x2 x3 xs0).2.1, y ∈ pc.1.set :=
  View.cover_of_tiledL (kernelRun0_C c i arg2 harg2 arg3 harg3 arg4 harg4 arg5 harg5 arg7 harg7 arg9 harg9 arg10 harg10 arg11 harg11 hc0 hc1 ft hb fh x0 x1 x2 x3 xs0).2.1 S1920x256.size (by sl_kernel_rfl) y

/-- What case C leaves in scratch `arg9`: its pieces read back over junk. -/
def sout0_C_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .f32 :=
  VS0_0.read (Elt F) (VS0_0.writes (Elt F) VS0_0.junk (kernelRun0_C c i arg2 harg2 arg3 harg3 arg4 harg4 arg5 harg5 arg7 harg7 arg9 harg9 arg10 harg10 arg11 harg11 hc0 hc1 ft hb fh x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < (cfgM m).N → Vec F S1920x2560 .bf16 × Vec F S1920x2560 .f32
  | 0, hn => (out0_A_4 c (grid0.coords ⟨0, hn⟩) (ms0_0 m ⟨0, hn⟩) (hs0_0 m ⟨0, hn⟩) (ms0_1 m ⟨0, hn⟩) (hs0_1 m ⟨0, hn⟩) (ms0_2 m ⟨0, hn⟩) (hs0_2 m ⟨0, hn⟩) (ms0_3 m ⟨0, hn⟩) (hs0_3 m ⟨0, hn⟩) (ms0_4 m ⟨0, hn⟩) (hs0_4 m ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (V m c main_v11) (order_bound m c) (V m c main_v3) (iblk m c 0 ⟨0, hn⟩) (iblk m c 1 ⟨0, hn⟩) (iblk m c 2 ⟨0, hn⟩) (iblk m c 3 ⟨0, hn⟩), sout0_A_0 c (grid0.coords ⟨0, hn⟩) (ms0_0 m ⟨0, hn⟩) (hs0_0 m ⟨0, hn⟩) (ms0_1 m ⟨0, hn⟩) (hs0_1 m ⟨0, hn⟩) (ms0_2 m ⟨0, hn⟩) (hs0_2 m ⟨0, hn⟩) (ms0_3 m ⟨0, hn⟩) (hs0_3 m ⟨0, hn⟩) (ms0_4 m ⟨0, hn⟩) (hs0_4 m ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (V m c main_v11) (order_bound m c) (V m c main_v3) (iblk m c 0 ⟨0, hn⟩) (iblk m c 1 ⟨0, hn⟩) (iblk m c 2 ⟨0, hn⟩) (iblk m c 3 ⟨0, hn⟩))
  | n + 1, hn =>
    if h0 : (n + 1) % 48 = 0 then
      if h1 : (n + 1) % 48 = 47 then
        False.elim (by have hN : n + 1 < 48 := lt_of_lt_of_eq hn (show (cfgM m).N = 48 from N_0); omega)
      else
        (out0_A_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩))
    else
      if h1 : (n + 1) % 48 = 47 then
        (out0_C_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin (cfgM m).N) (h0 : t.val % 48 = 0) (h1 : ¬t.val % 48 = 47) :
    outsAt0 m c t.val t.isLt = (out0_A_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) ((hcond0_0 t).mpr h0) (fun h => h1 ((hcond0_1 t).mp h)) (V m c main_v11) (order_bound m c) (V m c main_v3) (iblk m c 0 t) (iblk m c 1 t) (iblk m c 2 t) (iblk m c 3 t), sout0_A_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) ((hcond0_0 t).mpr h0) (fun h => h1 ((hcond0_1 t).mp h)) (V m c main_v11) (order_bound m c) (V m c main_v3) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin (cfgM m).N) (h0 : ¬t.val % 48 = 0) (h1 : ¬t.val % 48 = 47) :
    outsAt0 m c t.val t.isLt = (out0_B_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) (fun h => h1 ((hcond0_1 t).mp h)) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) (fun h => h1 ((hcond0_1 t).mp h)) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin (cfgM m).N) (h0 : ¬t.val % 48 = 0) (h1 : t.val % 48 = 47) :
    outsAt0 m c t.val t.isLt = (out0_C_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) ((hcond0_1 t).mpr h1) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) ((hcond0_1 t).mpr h1) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ (cfgM m).N → sProp 𝕄
  | 0, _ => iprop(Pipeline.ΦDR osem0 spec0 rdSet wrSet (V m) c ∗ Pipeline.ΦT pre0 (tbl m) c)
  | n + 1, hn => iprop(iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11))

theorem PhiS_zero (c : Dev nD) (n : ℕ) (h : n ≤ (cfgM m).N) (hz : n = 0) : PhiS m c n h = iprop(Pipeline.ΦDR osem0 spec0 rdSet wrSet (V m) c ∗ Pipeline.ΦT pre0 (tbl m) c) := by
  subst hz; rfl

/-- After point `n` (before point `n + 1`): the carried scratch at that point's contents. -/
theorem PhiS_succ (c : Dev nD) (n : ℕ) (hn : n < (cfgM m).N) :
    PhiS m c (n + 1) hn = iprop(iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11)) := rfl

/-- Before a point that is not the first: the carried scratch at what the point before left. -/
theorem PhiS_pos (c : Dev nD) (n : ℕ) (h : n ≤ (cfgM m).N) (hz : n ≠ 0) :
    PhiS m c n h = iprop(iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin (cfgM m).W) : (dats m 0 c).A w = V m c (Pipeline.arrRef spec0 w) := by
  dsimp only [dats]

/-- The invariant at a point's start (the proof data at `t.castSucc`), restated at `t.val`. -/
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = (outsAt0 m c t.val t.isLt).1 := by dsimp only [dats]; try rfl

/-- Each input's current staging buffer holds its block at every point, fetched there or not (`beforeK_W_of`). -/
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at point `t`, as the pipeline calls it. -/
abbrev bodyAt0 (t : Fin (cfgM m).N) : Prog (TpuEff nD τ sig (Elt F) Λ₀ .tc) PUnit :=
  cc0_dh (grid0.coords t) tbM (Memref.isWhole_whole _) (ms0_0 m t) (hs0_0 m t) (ms0_1 m t) (hs0_1 m t) (ms0_2 m t) (hs0_2 m t) (ms0_3 m t) (hs0_3 m t) hbS (Memref.isWhole_whole _) (ms0_4 m t) (hs0_4 m t) hbG (Memref.isWhole_whole _) scM0_0 (Memref.isWhole_whole _) scM0_1 (Memref.isWhole_whole _) scM0_2 (Memref.isWhole_whole _) cc0_scratch3

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3]
  rw [show (dats m 0 c).owesAt () t.succ = (dats m 0 c).owesAt () t.castSucc from rfl]
  unfold Dat.owesAt Pipeline.owesWithin
  rw [show (dats m 0 c).owed t.castSucc = 0 from rfl]
  rw [show (dats m 0 c).Φ t.succ = PhiS m c (t.val + 1) t.isLt from rfl, PhiS_succ]
  have hN : t.val < 48 := lt_of_lt_of_eq t.isLt (show (cfgM m).N = 48 from N_0)
  by_cases h0 : t.val % 48 = 0
  · by_cases h1 : t.val % 48 = 47
    · exfalso; omega
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [Dat.leavesExact_idle (dats m 0 c) 4 t (idleAt0_4 m t (fun h => h1 ((hcond0_1 t).mp h))) (noFlush0_4 m t (fun h => h1 ((hcond0_1 t).mp h)))]
      by_cases hz : t.val = 0
      · rw [PhiS_castSucc m c t, PhiS_zero m c _ _ hz, PhiDR0_eq, PhiT0_eq]
        rw [outsAt0_A m c t h0 h1]
        unfold sout0_A_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (V m c main_v11) (order_bound m c) (V m c main_v3) (iblk m c 0 t) (iblk m c 1 t) (iblk m c 2 t) (iblk m c 3 t)).2.2.2.2 _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, H4, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        iexists _; iexact H4
      · exfalso; have hN : t.val < 48 := lt_of_lt_of_eq t.isLt (show (cfgM m).N = 48 from N_0); omega
  · by_cases h1 : t.val % 48 = 47
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [show (dats m 0 c).leavesExact 4 t = owns (c : Thread nD τ) (ms0_4 m t) fullShare ((dats m 0 c).after 4 t) from by
      unfold Dat.leavesExact; rw [liveAt0_4 m t ((hcond0_1 t).mpr h1)]; try rfl, after0_4]
      by_cases hz : t.val = 0
      · exfalso; have hN : t.val < 48 := lt_of_lt_of_eq t.isLt (show (cfgM m).N = 48 from N_0); omega
      · rw [PhiS_castSucc m c t, PhiS_pos m c _ _ hz]
        rw [outsAt0_C m c t h0 h1]
        unfold out0_C_4 sout0_C_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (V m c main_v11) (order_bound m c) (V m c main_v3) (iblk m c 0 t) (iblk m c 1 t) (iblk m c 2 t) (iblk m c 3 t) _).2.2.2.2 _ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, ⟨%e4, H4⟩, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _ _)
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [Dat.leavesExact_idle (dats m 0 c) 4 t (idleAt0_4 m t (fun h => h1 ((hcond0_1 t).mp h))) (noFlush0_4 m t (fun h => h1 ((hcond0_1 t).mp h)))]
      by_cases hz : t.val = 0
      · exfalso; have hN : t.val < 48 := lt_of_lt_of_eq t.isLt (show (cfgM m).N = 48 from N_0); omega
      · rw [PhiS_castSucc m c t, PhiS_pos m c _ _ hz]
        rw [outsAt0_B m c t h0 h1]
        unfold sout0_B_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (V m c main_v11) (order_bound m c) (V m c main_v3) (iblk m c 0 t) (iblk m c 1 t) (iblk m c 2 t) (iblk m c 3 t) _).2.2.2.2 _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, H4, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        iexists _; iexact H4

/-- The body table's row at point `t`'s slots is the body as `bodyAt0` spells it. -/
theorem defs₀_row (t : Fin (cfgM m).N) :
    defs₀ (F := F) .tc (cfgM m).body ((cfgM m).bodyArgs t ((cfgM m).slots t)) = bodyAt0 m t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : iprop(Pipeline.ΦDR osem0 spec0 rdSet wrSet (V m) c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the accumulator's contents and the table's half forgotten. -/
theorem hout (c : Dev nD) : (dats m 0 c).Φ (Fin.last (cfgM m).N) ⊢ Pipeline.ΦDR osem0 spec0 rdSet wrSet (V m) c := by
  have hN : (cfgM m).N = 48 := N_0
  rw [show (dats m 0 c).Φ (Fin.last (cfgM m).N) = PhiS m c (cfgM m).N (Nat.le_refl _) from rfl, PhiS_pos m c _ _ (by omega), PhiDR0_eq]
  iintro ⟨⟨⟨HS0, HS1, HS2⟩, HR⟩, -⟩
  isplitl [HS0 HS1 HS2]
  · isplitl [HS0]
    · iexists _; iexact HS0
    isplitl [HS1]
    · iexact HS1
    iexact HS2
  iexact HR

/-! ## The run and the frame -/

/-- The arrays read and written outside the pipeline are none of its windows', nor the table. -/
theorem rd_rest : rdSet ⊆ Pipeline.restRefsP sig pre0 spec0 := by decide
theorem wr_rest : wrSet ⊆ Pipeline.restRefsP sig pre0 spec0 \ rdSet := by decide

set_option backward.isDefEq.respectTransparency.types false in
/-- THE LAUNCH: every array of the pipeline ends at what the proof data says, every other buffer but the array the copies
    write as the region found it, every semaphore counter at zero. -/
theorem run_main_quiescent : θ_run defs (onTc (τ := τ) (main (F := F))) (s₀ m ρ)
    (fun r => Pipeline.FramePostR (Pipeline.pin (pcfgs (F := F)) (adms m)) (dats m) 0 wrSet (V m) r ∧ r.2.sem = fun _ => 0) :=
  Pipeline.θ_run_frameP_dmaR (Q' := _) (pcfgs (F := F)) (adms m) (dats m) (0 : Fin 1) launch0 osem0 defs₀ Variants.none ownSemFacts0 rdSet wrSet
    rd_rest wr_rest m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- The argument arrays end unchanged. -/
theorem args_of (r : PUnit × MemSt nD τ sig (Elt F)) (h : Pipeline.FramePostR (Pipeline.pin (pcfgs (F := F)) (adms m)) (dats m) 0 wrSet (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Finset.mem_sdiff.mpr ⟨Pipeline.mem_restRefs_of main_arg0 (by decide) (show ∀ w : Fin 5, (spec0 w).arr.view.ref ≠ main_arg0 by decide), by decide⟩)).trans (V_main_arg0 m c),
    ((h c).2 main_arg1 (Finset.mem_sdiff.mpr ⟨Pipeline.mem_restRefs_of main_arg1 (by decide) (show ∀ w : Fin 5, (spec0 w).arr.view.ref ≠ main_arg1 by decide), by decide⟩)).trans (V_main_arg1 m c),
    ((h c).1 2).trans (((dats m 0 c).arrAt_in 2 rfl _).trans ((A_eq m c 2).trans (V_main_arg2 m c))),
    ((h c).2 main_arg3 (Finset.mem_sdiff.mpr ⟨Pipeline.mem_restRefs_of main_arg3 (by decide) (show ∀ w : Fin 5, (spec0 w).arr.view.ref ≠ main_arg3 by decide), by decide⟩)).trans (V_main_arg3 m c),
    ((h c).2 main_arg4 (Finset.mem_sdiff.mpr ⟨Pipeline.mem_restRefs_of main_arg4 (by decide) (show ∀ w : Fin 5, (spec0 w).arr.view.ref ≠ main_arg4 by decide), by decide⟩)).trans (V_main_arg4 m c),
    ((h c).2 main_arg5 (Finset.mem_sdiff.mpr ⟨Pipeline.mem_restRefs_of main_arg5 (by decide) (show ∀ w : Fin 5, (spec0 w).arr.view.ref ≠ main_arg5 by decide), by decide⟩)).trans (V_main_arg5 m c)⟩

/-- THE FRAME: every execution terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main_quiescent m ρ)

end Cert.Kernel.Hand

end
-- ==== Proof.Hand.KernelIdeal.Base.lean ====
/-
  Hand-written. What the runs of the call's body share: the operands that no window stages (the row order in scalar
  memory, the pair rows read and the pair rows written, both in HBM), the semaphore, how the array that is read is
  dealt into forty read shares and the array that is written is cut into the forty rows of a grid point.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring.WriteBehind
public import Idealize.ShloMosaic.Lib.PairWhole
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The operands no window stages -/

/-- The row order, in scalar memory. -/
abbrev tbM : Memref sig .tc .smem S1920 .i32 := Memref.whole main_v11
/-- The pair rows the copies read. -/
abbrev hbS : Memref sig .tc .hbm S960x2x2560 .bf16 := Memref.whole main_v3
/-- The pair rows the copies write. -/
abbrev hbG : Memref sig .tc .hbm S1920x2x2560 .bf16 := Memref.whole main_v12_1
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (q : PosShare TreeShare) (f : MBuf (F := F) c M) : sProp 𝕄 :=
  M.view.loc (c : Thread nD τ) ↦{q} f
/-- A window of an array at its own elements. -/
abbrev wPt (c : Dev nD) {sp : Space} {S : Shape} {e : EltTy} (M : Memref sig .tc sp S e) (f : MBuf (F := F) c M) : sProp 𝕄 :=
  M.view.loc (c : Thread nD τ) ↦[M.view.set]{fullShare} f

/-! ## The forty read shares of the array read -/

/-- Read share `j`. -/
def tk (j : ℕ) : PosShare TreeShare := Transfers.shareTokN fullShare j
/-- What remains beside the forty. -/
def tkRest : PosShare TreeShare := Transfers.shareDrop fullShare 40

theorem src_eq (c : Dev nD) (f : MBuf (F := F) c hbS) :
    mPt c hbS fullShare f ⊣⊢ iprop(mPt c hbS tkRest f ∗ mPt c hbS (tk 0) f ∗ mPt c hbS (tk 1) f ∗ mPt c hbS (tk 2) f ∗ mPt c hbS (tk 3) f ∗ mPt c hbS (tk 4) f ∗ mPt c hbS (tk 5) f ∗ mPt c hbS (tk 6) f ∗ mPt c hbS (tk 7) f ∗ mPt c hbS (tk 8) f ∗ mPt c hbS (tk 9) f ∗ mPt c hbS (tk 10) f ∗ mPt c hbS (tk 11) f ∗ mPt c hbS (tk 12) f ∗ mPt c hbS (tk 13) f ∗ mPt c hbS (tk 14) f ∗ mPt c hbS (tk 15) f ∗ mPt c hbS (tk 16) f ∗ mPt c hbS (tk 17) f ∗ mPt c hbS (tk 18) f ∗ mPt c hbS (tk 19) f ∗ mPt c hbS (tk 20) f ∗ mPt c hbS (tk 21) f ∗ mPt c hbS (tk 22) f ∗ mPt c hbS (tk 23) f ∗ mPt c hbS (tk 24) f ∗ mPt c hbS (tk 25) f ∗ mPt c hbS (tk 26) f ∗ mPt c hbS (tk 27) f ∗ mPt c hbS (tk 28) f ∗ mPt c hbS (tk 29) f ∗ mPt c hbS (tk 30) f ∗ mPt c hbS (tk 31) f ∗ mPt c hbS (tk 32) f ∗ mPt c hbS (tk 33) f ∗ mPt c hbS (tk 34) f ∗ mPt c hbS (tk 35) f ∗ mPt c hbS (tk 36) f ∗ mPt c hbS (tk 37) f ∗ mPt c hbS (tk 38) f ∗ mPt c hbS (tk 39) f) := by
  refine (Transfers.pointsTo_toks_range (ℓ := hbS.view.loc (c : Thread nD τ)) fullShare 40).trans ?_
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]
  exact ⟨Entails.refl _, Entails.refl _⟩

/-! ## The forty rows of a grid point in the array written -/

/-- Where row `j` of grid point `i` starts, as the body computes it. -/
def goff (i : grid0.Coords) (j : ℕ) : Fin 3 → ℕ :=
  ![(Scalar.addi (Scalar.muli (BitVec.ofNat 32 (i 0).val) 40#32) (BitVec.ofNat 32 j)).toNat, 0, 0]
theorem goff_zero (i : grid0.Coords) (j : ℕ) (hj : j < 40) : goff i j 0 = 40 * (i 0).val + j := by
  have hi : (i 0).val < 48 := (i 0).isLt
  show (Scalar.addi (Scalar.muli (BitVec.ofNat 32 (i 0).val) 40#32) (BitVec.ofNat 32 j)).toNat = _
  show (BitVec.ofNat 32 (i 0).val * 40#32 + BitVec.ofNat 32 j).toNat = _
  rw [BitVec.toNat_add, BitVec.toNat_mul, BitVec.toNat_ofNat, BitVec.toNat_ofNat, BitVec.toNat_ofNat]
  omega
theorem goff_inb (i : grid0.Coords) (j : Fin 40) : ∀ a, goff i j.val a + S1x2x2560.size a ≤ S1920x2x2560.size a := by
  intro a
  have hi : (i 0).val < 48 := (i 0).isLt
  match a with
  | 0 => show goff i j.val 0 + 1 ≤ 1920; rw [goff_zero i j.val j.isLt]; omega
  | 1 => show 0 + 2 ≤ 2; omega
  | 2 => show 0 + 2560 ≤ 2560; omega
/-- Row `j` of grid point `i`, as a window. -/
abbrev gw (i : grid0.Coords) (j : Fin 40) : Memref sig .tc .hbm S1x2x2560 .bf16 :=
  hbG.slice (Rect.unit (s := S1920x2x2560) (goff i j.val) S1x2x2560.size (goff_inb i j)) (fun _ => rfl)
/-- Row `j` of grid point `i`, as a set of elements. -/
abbrev gset (c : Dev nD) (i : grid0.Coords) (j : Fin 40) : Finset (Idx (hbG.view.loc (c : Thread nD τ))) := (gw i j).view.set
theorem gset_disjoint (c : Dev nD) (i : grid0.Coords) (j j' : Fin 40) (h : j ≠ j') : Disjoint (gset c i j) (gset c i j') := by
  have e : ∀ k : Fin 40, gset c i k = (Rect.unit (s := S1920x2x2560) (goff i k.val) S1x2x2560.size (goff_inb i k)).set :=
    fun k => View.set_slice_whole _ _
  rw [e, e]
  refine Rect.unit_disjoint 0 ?_
  rw [goff_zero i j.val j.isLt, goff_zero i j'.val j'.isLt]
  have : j.val ≠ j'.val := fun e => h (Fin.ext e)
  show 40 * (i 0).val + j.val + 1 ≤ _ ∨ 40 * (i 0).val + j'.val + 1 ≤ _
  omega
/-- The elements of the array written outside the forty rows of grid point `i`. -/
abbrev gSpare (c : Dev nD) (i : grid0.Coords) : sProp 𝕄 :=
  iprop(∃ f : MBuf (F := F) c hbG, hbG.view.loc (c : Thread nD τ) ↦[Finset.univ \ Finset.univ.biUnion (gset c i)]{fullShare} f)
abbrev gw0 (i : grid0.Coords) : Memref sig .tc .hbm S1x2x2560 .bf16 := hbG.slice (Rect.unit (s := S1920x2x2560) (k0_off2 i) S1x2x2560.size (k0_off2_inb i)) (fun _ => rfl)
abbrev gw1 (i : grid0.Coords) : Memref sig .tc .hbm S1x2x2560 .bf16 := hbG.slice (Rect.unit (s := S1920x2x2560) (k0_off5 i) S1x2x2560.size (k0_off5_inb i)) (fun _ => rfl)
abbrev gw2 (i : grid0.Coords) : Memref sig .tc .hbm S1x2x2560 .bf16 := hbG.slice (Rect.unit (s := S1920x2x2560) (k0_off8 i) S1x2x2560.size (k0_off8_inb i)) (fun _ => rfl)
abbrev gw3 (i : grid0.Coords) : Memref sig .tc .hbm S1x2x2560 .bf16 := hbG.slice (Rect.unit (s := S1920x2x2560) (k0_off11 i) S1x2x2560.size (k0_off11_inb i)) (fun _ => rfl)
abbrev gw4 (i : grid0.Coords) : Memref sig .tc .hbm S1x2x2560 .bf16 := hbG.slice (Rect.unit (s := S1920x2x2560) (k0_off14 i) S1x2x2560.size (k0_off14_inb i)) (fun _ => rfl)
abbrev gw5 (i : grid0.Coords) : Memref sig .tc .hbm S1x2x2560 .bf16 := hbG.slice (Rect.unit (s := S1920x2x2560) (k0_off17 i) S1x2x2560.size (k0_off17_inb i)) (fun _ => rfl)
abbrev gw6 (i : grid0.Coords) : Memref sig .tc .hbm S1x2x2560 .bf16 := hbG.slice (Rect.unit (s := S1920x2x2560) (k0_off20 i) S1x2x2560.size (k0_off20_inb i)) (fun _ => rfl)
abbrev gw7 (i : grid0.Coords) : Memref sig .tc .hbm S1x2x2560 .bf16 := hbG.slice (Rect.unit (s := S1920x2x2560) (k0_off23 i) S1x2x2560.size (k0_off23_inb i)) (fun _ => rfl)
abbrev gw8 (i : grid0.Coords) : Memref sig .tc .hbm S1x2x2560 .bf16 := hbG.slice (Rect.unit (s := S1920x2x2560) (k0_off26 i) S1x2x2560.size (k0_off26_inb i)) (fun _ => rfl)
abbrev gw9 (i : grid0.Coords) : Memref sig .tc .hbm S1x2x2560 .bf16 := hbG.slice (Rect.unit (s := S1920x2x2560) (k0_off29 i) S1x2x2560.size (k0_off29_inb i)) (fun _ => rfl)
abbrev gw10 (i : grid0.Coords) : Memref sig .tc .hbm S1x2x2560 .bf16 := hbG.slice (Rect.unit (s := S1920x2x2560) (k0_off32 i) S1x2x2560.size (k0_off32_inb i)) (fun _ => rfl)
abbrev gw11 (i : grid0.Coords) : Memref sig .tc .hbm S1x2x2560 .bf16 := hbG.slice (Rect.unit (s := S1920x2x2560) (k0_off35 i) S1x2x2560.size (k0_off35_inb i)) (fun _ => rfl)
abbrev gw12 (i : grid0.Coords) : Memref sig .tc .hbm S1x2x2560 .bf16 := hbG.slice (Rect.unit (s := S1920x2x2560) (k0_off38 i) S1x2x2560.size (k0_off38_inb i)) (fun _ => rfl)
abbrev gw13 (i : grid0.Coords) : Memref sig .tc .hbm S1x2x2560 .bf16 := hbG.slice (Rect.unit (s := S1920x2x2560) (k0_off41 i) S1x2x2560.size (k0_off41_inb i)) (fun _ => rfl)
abbrev gw14 (i : grid0.Coords) : Memref sig .tc .hbm S1x2x2560 .bf16 := hbG.slice (Rect.unit (s := S1920x2x2560) (k0_off44 i) S1x2x2560.size (k0_off44_inb i)) (fun _ => rfl)
abbrev gw15 (i : grid0.Coords) : Memref sig .tc .hbm S1x2x2560 .bf16 := hbG.slice (Rect.unit (s := S1920x2x2560) (k0_off47 i) S1x2x2560.size (k0_off47_inb i)) (fun _ => rfl)
abbrev gw16 (i : grid0.Coords) : Memref sig .tc .hbm S1x2x2560 .bf16 := hbG.slice (Rect.unit (s := S1920x2x2560) (k0_off50 i) S1x2x2560.size (k0_off50_inb i)) (fun _ => rfl)
abbrev gw17 (i : grid0.Coords) : Memref sig .tc .hbm S1x2x2560 .bf16 := hbG.slice (Rect.unit (s := S1920x2x2560) (k0_off53 i) S1x2x2560.size (k0_off53_inb i)) (fun _ => rfl)
abbrev gw18 (i : grid0.Coords) : Memref sig .tc .hbm S1x2x2560 .bf16 := hbG.slice (Rect.unit (s := S1920x2x2560) (k0_off56 i) S1x2x2560.size (k0_off56_inb i)) (fun _ => rfl)
abbrev gw19 (i : grid0.Coords) : Memref sig .tc .hbm S1x2x2560 .bf16 := hbG.slice (Rect.unit (s := S1920x2x2560) (k0_off59 i) S1x2x2560.size (k0_off59_inb i)) (fun _ => rfl)
abbrev gw20 (i : grid0.Coords) : Memref sig .tc .hbm S1x2x2560 .bf16 := hbG.slice (Rect.unit (s := S1920x2x2560) (k0_off62 i) S1x2x2560.size (k0_off62_inb i)) (fun _ => rfl)
abbrev gw21 (i : grid0.Coords) : Memref sig .tc .hbm S1x2x2560 .bf16 := hbG.slice (Rect.unit (s := S1920x2x2560) (k0_off65 i) S1x2x2560.size (k0_off65_inb i)) (fun _ => rfl)
abbrev gw22 (i : grid0.Coords) : Memref sig .tc .hbm S1x2x2560 .bf16 := hbG.slice (Rect.unit (s := S1920x2x2560) (k0_off68 i) S1x2x2560.size (k0_off68_inb i)) (fun _ => rfl)
abbrev gw23 (i : grid0.Coords) : Memref sig .tc .hbm S1x2x2560 .bf16 := hbG.slice (Rect.unit (s := S1920x2x2560) (k0_off71 i) S1x2x2560.size (k0_off71_inb i)) (fun _ => rfl)
abbrev gw24 (i : grid0.Coords) : Memref sig .tc .hbm S1x2x2560 .bf16 := hbG.slice (Rect.unit (s := S1920x2x2560) (k0_off74 i) S1x2x2560.size (k0_off74_inb i)) (fun _ => rfl)
abbrev gw25 (i : grid0.Coords) : Memref sig .tc .hbm S1x2x2560 .bf16 := hbG.slice (Rect.unit (s := S1920x2x2560) (k0_off77 i) S1x2x2560.size (k0_off77_inb i)) (fun _ => rfl)
abbrev gw26 (i : grid0.Coords) : Memref sig .tc .hbm S1x2x2560 .bf16 := hbG.slice (Rect.unit (s := S1920x2x2560) (k0_off80 i) S1x2x2560.size (k0_off80_inb i)) (fun _ => rfl)
abbrev gw27 (i : grid0.Coords) : Memref sig .tc .hbm S1x2x2560 .bf16 := hbG.slice (Rect.unit (s := S1920x2x2560) (k0_off83 i) S1x2x2560.size (k0_off83_inb i)) (fun _ => rfl)
abbrev gw28 (i : grid0.Coords) : Memref sig .tc .hbm S1x2x2560 .bf16 := hbG.slice (Rect.unit (s := S1920x2x2560) (k0_off86 i) S1x2x2560.size (k0_off86_inb i)) (fun _ => rfl)
abbrev gw29 (i : grid0.Coords) : Memref sig .tc .hbm S1x2x2560 .bf16 := hbG.slice (Rect.unit (s := S1920x2x2560) (k0_off89 i) S1x2x2560.size (k0_off89_inb i)) (fun _ => rfl)
abbrev gw30 (i : grid0.Coords) : Memref sig .tc .hbm S1x2x2560 .bf16 := hbG.slice (Rect.unit (s := S1920x2x2560) (k0_off92 i) S1x2x2560.size (k0_off92_inb i)) (fun _ => rfl)
abbrev gw31 (i : grid0.Coords) : Memref sig .tc .hbm S1x2x2560 .bf16 := hbG.slice (Rect.unit (s := S1920x2x2560) (k0_off95 i) S1x2x2560.size (k0_off95_inb i)) (fun _ => rfl)
abbrev gw32 (i : grid0.Coords) : Memref sig .tc .hbm S1x2x2560 .bf16 := hbG.slice (Rect.unit (s := S1920x2x2560) (k0_off98 i) S1x2x2560.size (k0_off98_inb i)) (fun _ => rfl)
abbrev gw33 (i : grid0.Coords) : Memref sig .tc .hbm S1x2x2560 .bf16 := hbG.slice (Rect.unit (s := S1920x2x2560) (k0_off101 i) S1x2x2560.size (k0_off101_inb i)) (fun _ => rfl)
abbrev gw34 (i : grid0.Coords) : Memref sig .tc .hbm S1x2x2560 .bf16 := hbG.slice (Rect.unit (s := S1920x2x2560) (k0_off104 i) S1x2x2560.size (k0_off104_inb i)) (fun _ => rfl)
abbrev gw35 (i : grid0.Coords) : Memref sig .tc .hbm S1x2x2560 .bf16 := hbG.slice (Rect.unit (s := S1920x2x2560) (k0_off107 i) S1x2x2560.size (k0_off107_inb i)) (fun _ => rfl)
abbrev gw36 (i : grid0.Coords) : Memref sig .tc .hbm S1x2x2560 .bf16 := hbG.slice (Rect.unit (s := S1920x2x2560) (k0_off110 i) S1x2x2560.size (k0_off110_inb i)) (fun _ => rfl)
abbrev gw37 (i : grid0.Coords) : Memref sig .tc .hbm S1x2x2560 .bf16 := hbG.slice (Rect.unit (s := S1920x2x2560) (k0_off113 i) S1x2x2560.size (k0_off113_inb i)) (fun _ => rfl)
abbrev gw38 (i : grid0.Coords) : Memref sig .tc .hbm S1x2x2560 .bf16 := hbG.slice (Rect.unit (s := S1920x2x2560) (k0_off116 i) S1x2x2560.size (k0_off116_inb i)) (fun _ => rfl)
abbrev gw39 (i : grid0.Coords) : Memref sig .tc .hbm S1x2x2560 .bf16 := hbG.slice (Rect.unit (s := S1920x2x2560) (k0_off119 i) S1x2x2560.size (k0_off119_inb i)) (fun _ => rfl)
/-- The forty rows, one by one. -/
theorem gath_eq (c : Dev nD) (i : grid0.Coords) :
    (bigSep Finset.univ (fun j : Fin 40 => iprop(∃ f, wPt (F := F) c (gw i j) f)) : sProp 𝕄) = iprop((∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl
/-- The array written is its forty rows of a grid point and the elements outside them; -/
theorem gath_split (c : Dev nD) (i : grid0.Coords) :
    iprop(∃ f, mPt c hbG fullShare f) ⊢ (iprop(gSpare (F := F) c i ∗ (∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) : sProp 𝕄) := by
  have h : iprop(∃ f, mPt c hbG fullShare f) ⊢ (iprop(bigSep Finset.univ (fun j : Fin 40 => iprop(∃ f, wPt (F := F) c (gw i j) f)) ∗ gSpare (F := F) c i) : sProp 𝕄) :=
    Ring.pieces_split_spare (ℓ := hbG.view.loc (c : Thread nD τ)) (q := fullShare) (gset c i) (gset_disjoint c i) (fun j f => wPt c (gw i j) f) (fun _ _ => rfl)
  rw [gath_eq] at h
  refine h.trans ?_
  iintro ⟨HB, HR⟩
  isplitl [HR]; · iexact HR
  iexact HB
/-- and joins from them. -/
theorem gath_join (c : Dev nD) (i : grid0.Coords) :
    (iprop(gSpare (F := F) c i ∗ (∃ f, wPt c (gw0 i) f) ∗ (∃ f, wPt c (gw1 i) f) ∗ (∃ f, wPt c (gw2 i) f) ∗ (∃ f, wPt c (gw3 i) f) ∗ (∃ f, wPt c (gw4 i) f) ∗ (∃ f, wPt c (gw5 i) f) ∗ (∃ f, wPt c (gw6 i) f) ∗ (∃ f, wPt c (gw7 i) f) ∗ (∃ f, wPt c (gw8 i) f) ∗ (∃ f, wPt c (gw9 i) f) ∗ (∃ f, wPt c (gw10 i) f) ∗ (∃ f, wPt c (gw11 i) f) ∗ (∃ f, wPt c (gw12 i) f) ∗ (∃ f, wPt c (gw13 i) f) ∗ (∃ f, wPt c (gw14 i) f) ∗ (∃ f, wPt c (gw15 i) f) ∗ (∃ f, wPt c (gw16 i) f) ∗ (∃ f, wPt c (gw17 i) f) ∗ (∃ f, wPt c (gw18 i) f) ∗ (∃ f, wPt c (gw19 i) f) ∗ (∃ f, wPt c (gw20 i) f) ∗ (∃ f, wPt c (gw21 i) f) ∗ (∃ f, wPt c (gw22 i) f) ∗ (∃ f, wPt c (gw23 i) f) ∗ (∃ f, wPt c (gw24 i) f) ∗ (∃ f, wPt c (gw25 i) f) ∗ (∃ f, wPt c (gw26 i) f) ∗ (∃ f, wPt c (gw27 i) f) ∗ (∃ f, wPt c (gw28 i) f) ∗ (∃ f, wPt c (gw29 i) f) ∗ (∃ f, wPt c (gw30 i) f) ∗ (∃ f, wPt c (gw31 i) f) ∗ (∃ f, wPt c (gw32 i) f) ∗ (∃ f, wPt c (gw33 i) f) ∗ (∃ f, wPt c (gw34 i) f) ∗ (∃ f, wPt c (gw35 i) f) ∗ (∃ f, wPt c (gw36 i) f) ∗ (∃ f, wPt c (gw37 i) f) ∗ (∃ f, wPt c (gw38 i) f) ∗ (∃ f, wPt c (gw39 i) f)) : sProp 𝕄) ⊢ iprop(∃ f, mPt c hbG fullShare f) := by
  have h : (iprop(bigSep Finset.univ (fun j : Fin 40 => iprop(∃ f, wPt (F := F) c (gw i j) f)) ∗ gSpare (F := F) c i) : sProp 𝕄) ⊢ iprop(∃ f, mPt c hbG fullShare f) :=
    Ring.pieces_join_spare (Ix := Unit) (Name := ℕ) (U := Pipeline.UD sig nD τ) (Lvl := ℕ) (ℓ := hbG.view.loc (c : Thread nD τ)) (q := fullShare)
    (gset c i) (gset_disjoint c i) (fun j f => wPt (F := F) c (gw i j) f) (fun _ _ => rfl)
  rw [gath_eq] at h
  iintro ⟨HR, HB⟩
  iapply h
  isplitl [HB]; · iexact HB
  iexact HR

/-! ## The words of the row order are in bounds -/

/-- A word below 1920, halved, is a pair row of the array read. -/
theorem chk_of (v : BitVec 32) (h : v.toNat < 1920) : k0_chk1 v := by
  have hv : (Scalar.shrsi v 1#32).toNat < 960 := by
    have : Scalar.shrsi v 1#32 = v.sshiftRight 1 := rfl
    rw [this, BitVec.sshiftRight_eq_of_msb_false (by rw [BitVec.msb_eq_false_iff_two_mul_lt]; omega)]
    rw [BitVec.toNat_ushiftRight, Nat.shiftRight_eq_div_pow]; omega
  refine ⟨?_, ?_⟩
  · intro a
    match a with
    | 0 => show (Scalar.shrsi v 1#32).toNat + 1 ≤ 960; omega
    | 1 => show 0 + 2 ≤ 2; omega
    | 2 => show 0 + 2560 ≤ 2560; omega
  · intro hinb
    exact Rect.WholeRows.wholeWords (Rect.wholeRows_unit (by decide) rfl rfl) _

/-! ## The body's branch conditions -/

/-- The condition of the body's first branch, from the grid coordinates. -/
abbrev cond0_0 (i : grid0.Coords) : Prop := (Scalar.cmpi .ne (Scalar.extui (Scalar.cmpi .eq (BitVec.ofNat 32 (i 0).val) 0#32)) 0#32) = 1#1
/-- The condition of the body's second branch. -/
abbrev cond0_1 (i : grid0.Coords) : Prop := k0_cond2 i = 1#1

end Cert.KernelIdeal.Hand

end
-- ==== Proof.Hand.KernelIdeal.RunA.lean ====
/-
  Hand-written. The run of the call's body in case A of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.KernelIdeal.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case A: the pieces each buffer ends with, and the triple. -/
noncomputable def kernelRun0_A (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (xi4 : Vec F S1920x2560 .bf16) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ d, owns (c : Thread nD τ) arg9 fullShare d) ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨[], ?_, ?_, ?_, fun xi4 W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg7.eq_unread hf4
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.KernelIdeal.Hand

end
-- ==== Proof.Hand.KernelIdeal.RunB.lean ====
/-
  Hand-written. The run of the call's body in case B of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.KernelIdeal.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case B: the pieces each buffer ends with, and the triple. -/
noncomputable def kernelRun0_B (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (xi4 : Vec F S1920x2560 .bf16) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ owns (c : Thread nD τ) arg9 fullShare xs0 ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨[], ?_, ?_, ?_, fun xi4 W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg7.eq_unread hf4; obtain rfl := harg9.eq_unread hfs0
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.KernelIdeal.Hand

end
-- ==== Proof.Hand.KernelIdeal.RunC.lean ====
/-
  Hand-written. The run of the call's body in case C of its two branches: forty copies issued on one semaphore, each
  reading a pair row named by a word of the row order through a read share of its own and writing its own row of the
  array written; the two operands of the product filled column chunk by column chunk; the product added to the
  accumulator slice by slice; one wait for the forty copies.
-/
module

public import proofs.«01_k».proof.Proof.Hand.KernelIdeal.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 20000000 in
/-- The run of case C: the pieces each buffer ends with, and the triple. -/
noncomputable def kernelRun0_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) :
    Σ' (L4 : List (View.Piece (Elt F) S1920x2560 .bf16)), Σ' (LS0 : List (View.Piece (Elt F) S1920x2560 .f32)), Σ' (LT1 : List (View.Piece (Elt F) S1920x1024 .bf16)), { LT2 : List (View.Piece (Elt F) S1024x2560 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ owns (c : Thread nD τ) arg9 fullShare xs0 ∗ (∃ d, owns (c : Thread nD τ) arg10 fullShare d) ∗ (∃ d, owns (c : Thread nD τ) arg11 fullShare d)
            ∗ mPt c tbM fullShare.right ft ∗ mPt c hbS fullShare fh ∗ (∃ f, mPt c hbG fullShare f) ∗ semVal ((c : Thread nD τ), SemLoc.dma 9) 0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)
                ∗ mPt c tbM fullShare.right ft ∗ mPt c hbS fullShare fh ∗ (∃ f, mPt c hbG fullShare f) ∗ semVal ((c : Thread nD τ), SemLoc.dma 9) 0 ∗ (∃ W', owes (c : Thread nD τ) 0 W')) -∗ K ⟨⟩))
          ⊢ wp frame (wpE (defs₀ (F := F)) Variants.none c none) Set.univ (cc0_dh i tbM (Memref.isWhole_whole _) arg2 harg2 arg3 harg3 arg4 harg4 arg5 harg5 hbS (Memref.isWhole_whole _) arg7 harg7 hbG (Memref.isWhole_whole _) arg9 harg9 arg10 harg10 arg11 harg11 cc0_scratch3) K } := by
  refine ⟨?_, ?_, ?_, ?_, fun W K => ?run⟩
  case run =>
    simp only [cc0_dh_eq_skeleton]; unfold cc0_dh_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, HT, HS, ⟨%fg, HG⟩, Hq, HW, Hk⟩
    obtain rfl := harg2.eq_unread hf0; obtain rfl := harg3.eq_unread hf1; obtain rfl := harg4.eq_unread hf2; obtain rfl := harg5.eq_unread hf3; obtain rfl := harg9.eq_unread hfs0
    have _plan : Transfers.BatchOf (c : Thread nD τ) (SemLoc.dma (sig := sig) 9) 40 := Transfers.BatchOf.intro _ _ _
    ihave ⟨HR, HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39⟩ := (src_eq c fh).1 $$ HS
    ihave ⟨HGR, HG0, HG1, HG2, HG3, HG4, HG5, HG6, HG7, HG8, HG9, HG10, HG11, HG12, HG13, HG14, HG15, HG16, HG17, HG18, HG19, HG20, HG21, HG22, HG23, HG24, HG25, HG26, HG27, HG28, HG29, HG30, HG31, HG32, HG33, HG34, HG35, HG36, HG37, HG38, HG39⟩ := (gath_split c i) $$ [HG]
    · iexists _; iexact HG
    icases HG0 with ⟨%fg0, HG0⟩
    icases HG1 with ⟨%fg1, HG1⟩
    icases HG2 with ⟨%fg2, HG2⟩
    icases HG3 with ⟨%fg3, HG3⟩
    icases HG4 with ⟨%fg4, HG4⟩
    icases HG5 with ⟨%fg5, HG5⟩
    icases HG6 with ⟨%fg6, HG6⟩
    icases HG7 with ⟨%fg7, HG7⟩
    icases HG8 with ⟨%fg8, HG8⟩
    icases HG9 with ⟨%fg9, HG9⟩
    icases HG10 with ⟨%fg10, HG10⟩
    icases HG11 with ⟨%fg11, HG11⟩
    icases HG12 with ⟨%fg12, HG12⟩
    icases HG13 with ⟨%fg13, HG13⟩
    icases HG14 with ⟨%fg14, HG14⟩
    icases HG15 with ⟨%fg15, HG15⟩
    icases HG16 with ⟨%fg16, HG16⟩
    icases HG17 with ⟨%fg17, HG17⟩
    icases HG18 with ⟨%fg18, HG18⟩
    icases HG19 with ⟨%fg19, HG19⟩
    icases HG20 with ⟨%fg20, HG20⟩
    icases HG21 with ⟨%fg21, HG21⟩
    icases HG22 with ⟨%fg22, HG22⟩
    icases HG23 with ⟨%fg23, HG23⟩
    icases HG24 with ⟨%fg24, HG24⟩
    icases HG25 with ⟨%fg25, HG25⟩
    icases HG26 with ⟨%fg26, HG26⟩
    icases HG27 with ⟨%fg27, HG27⟩
    icases HG28 with ⟨%fg28, HG28⟩
    icases HG29 with ⟨%fg29, HG29⟩
    icases HG30 with ⟨%fg30, HG30⟩
    icases HG31 with ⟨%fg31, HG31⟩
    icases HG32 with ⟨%fg32, HG32⟩
    icases HG33 with ⟨%fg33, HG33⟩
    icases HG34 with ⟨%fg34, HG34⟩
    icases HG35 with ⟨%fg35, HG35⟩
    icases HG36 with ⟨%fg36, HG36⟩
    icases HG37 with ⟨%fg37, HG37⟩
    icases HG38 with ⟨%fg38, HG38⟩
    icases HG39 with ⟨%fg39, HG39⟩
    sl_exec (disch := first | sl_exact hc0 | sl_exact hc1 | exact chk_of _ (hb _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HT]; · iexact HT
    isplitl [HR HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39]
    · iapply (src_eq c fh).2
      isplitl [HR]; · iexact HR
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      isplitl [HR31]; · iexact HR31
      isplitl [HR32]; · iexact HR32
      isplitl [HR33]; · iexact HR33
      isplitl [HR34]; · iexact HR34
      isplitl [HR35]; · iexact HR35
      isplitl [HR36]; · iexact HR36
      isplitl [HR37]; · iexact HR37
      isplitl [HR38]; · iexact HR38
      iexact HR39
    isplitl [HGR HG0 HG1 HG2 HG3 HG4 HG5 HG6 HG7 HG8 HG9 HG10 HG11 HG12 HG13 HG14 HG15 HG16 HG17 HG18 HG19 HG20 HG21 HG22 HG23 HG24 HG25 HG26 HG27 HG28 HG29 HG30 HG31 HG32 HG33 HG34 HG35 HG36 HG37 HG38 HG39]
    · iapply (gath_join c i)
      isplitl [HGR]; · iexact HGR
      isplitl [HG0]; · iexists _; iexact HG0
      isplitl [HG1]; · iexists _; iexact HG1
      isplitl [HG2]; · iexists _; iexact HG2
      isplitl [HG3]; · iexists _; iexact HG3
      isplitl [HG4]; · iexists _; iexact HG4
      isplitl [HG5]; · iexists _; iexact HG5
      isplitl [HG6]; · iexists _; iexact HG6
      isplitl [HG7]; · iexists _; iexact HG7
      isplitl [HG8]; · iexists _; iexact HG8
      isplitl [HG9]; · iexists _; iexact HG9
      isplitl [HG10]; · iexists _; iexact HG10
      isplitl [HG11]; · iexists _; iexact HG11
      isplitl [HG12]; · iexists _; iexact HG12
      isplitl [HG13]; · iexists _; iexact HG13
      isplitl [HG14]; · iexists _; iexact HG14
      isplitl [HG15]; · iexists _; iexact HG15
      isplitl [HG16]; · iexists _; iexact HG16
      isplitl [HG17]; · iexists _; iexact HG17
      isplitl [HG18]; · iexists _; iexact HG18
      isplitl [HG19]; · iexists _; iexact HG19
      isplitl [HG20]; · iexists _; iexact HG20
      isplitl [HG21]; · iexists _; iexact HG21
      isplitl [HG22]; · iexists _; iexact HG22
      isplitl [HG23]; · iexists _; iexact HG23
      isplitl [HG24]; · iexists _; iexact HG24
      isplitl [HG25]; · iexists _; iexact HG25
      isplitl [HG26]; · iexists _; iexact HG26
      isplitl [HG27]; · iexists _; iexact HG27
      isplitl [HG28]; · iexists _; iexact HG28
      isplitl [HG29]; · iexists _; iexact HG29
      isplitl [HG30]; · iexists _; iexact HG30
      isplitl [HG31]; · iexists _; iexact HG31
      isplitl [HG32]; · iexists _; iexact HG32
      isplitl [HG33]; · iexists _; iexact HG33
      isplitl [HG34]; · iexists _; iexact HG34
      isplitl [HG35]; · iexists _; iexact HG35
      isplitl [HG36]; · iexists _; iexact HG36
      isplitl [HG37]; · iexists _; iexact HG37
      isplitl [HG38]; · iexists _; iexact HG38
      iexists _; iexact HG39
    isplitl [Hq]; · iexact Hq
    iexists _; iexact HW

end Cert.KernelIdeal.Hand

end
-- ==== Proof.Hand.KernelIdeal.Kit.lean ====
/-
  Hand-written. The launch of the call with its row order prefetched into scalar memory: what the host operations leave in
  the buffers the region reads, the bound of the row order's words, the pipeline at that order, the windows' blocks, where
  the output window is idle, and the region's invariant part by part.
-/
module

public import proofs.«01_k».proof.Proof.Hand.KernelIdeal.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## @main up to the region -/

/-- The three stretches of host operations before the region. -/
abbrev opss : List (List (HloOp τ sig (Elt F))) := [hostOps0, hostOps0_1, hostOps0_2]
/-- Core `c`'s TensorCore buffers when the region is entered. -/
abbrev V (c : Dev nD) (b : Ref sig .tc) : Buf (Elt F) ((c : Thread nD τ).loc b) := StableHlo.after (opss (F := F)).flatten (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main opss ⟨hostOps0_sub, hostOps0_1_sub, hostOps0_2_sub⟩
    ⟨hostOps0_fresh, hostOps0_1_fresh, hostOps0_2_fresh⟩ main_chain

/-- No host operation before the region writes `main_arg0`: the region finds it as launched. -/
theorem V_main_arg0 (c : Dev nD) : V m c main_arg0 = m ((c : Thread nD τ).loc main_arg0) := by
  show StableHlo.after (opss (F := F)).flatten _ (Proc.devRef .tc main_arg0) = _
  simp only [opss, hostOps0, hostOps0_1, hostOps0_2, List.flatten_cons, List.flatten_nil, List.cons_append, List.nil_append, List.append_nil]
  after_results
/-- No host operation before the region writes `main_arg1`: the region finds it as launched. -/
theorem V_main_arg1 (c : Dev nD) : V m c main_arg1 = m ((c : Thread nD τ).loc main_arg1) := by
  show StableHlo.after (opss (F := F)).flatten _ (Proc.devRef .tc main_arg1) = _
  simp only [opss, hostOps0, hostOps0_1, hostOps0_2, List.flatten_cons, List.flatten_nil, List.cons_append, List.nil_append, List.append_nil]
  after_results
/-- No host operation before the region writes `main_arg2`: the region finds it as launched. -/
theorem V_main_arg2 (c : Dev nD) : V m c main_arg2 = m ((c : Thread nD τ).loc main_arg2) := by
  show StableHlo.after (opss (F := F)).flatten _ (Proc.devRef .tc main_arg2) = _
  simp only [opss, hostOps0, hostOps0_1, hostOps0_2, List.flatten_cons, List.flatten_nil, List.cons_append, List.nil_append, List.append_nil]
  after_results
/-- No host operation before the region writes `main_arg3`: the region finds it as launched. -/
theorem V_main_arg3 (c : Dev nD) : V m c main_arg3 = m ((c : Thread nD τ).loc main_arg3) := by
  show StableHlo.after (opss (F := F)).flatten _ (Proc.devRef .tc main_arg3) = _
  simp only [opss, hostOps0, hostOps0_1, hostOps0_2, List.flatten_cons, List.flatten_nil, List.cons_append, List.nil_append, List.append_nil]
  after_results
/-- No host operation before the region writes `main_arg4`: the region finds it as launched. -/
theorem V_main_arg4 (c : Dev nD) : V m c main_arg4 = m ((c : Thread nD τ).loc main_arg4) := by
  show StableHlo.after (opss (F := F)).flatten _ (Proc.devRef .tc main_arg4) = _
  simp only [opss, hostOps0, hostOps0_1, hostOps0_2, List.flatten_cons, List.flatten_nil, List.cons_append, List.nil_append, List.append_nil]
  after_results
/-- No host operation before the region writes `main_arg5`: the region finds it as launched. -/
theorem V_main_arg5 (c : Dev nD) : V m c main_arg5 = m ((c : Thread nD τ).loc main_arg5) := by
  show StableHlo.after (opss (F := F)).flatten _ (Proc.devRef .tc main_arg5) = _
  simp only [opss, hostOps0, hostOps0_1, hostOps0_2, List.flatten_cons, List.flatten_nil, List.cons_append, List.nil_append, List.append_nil]
  after_results

/-! ## The row order -/

/-- What the host operations leave in the row order's buffer: the sorted keys, masked. -/
theorem V_order (c : Dev nD) : V m c main_v11
    = (andi (Host.sort S1920 0 comparator_i32_d0 (addi (muli (shapeCast S1920 (m ((c : Thread nD τ).loc main_arg4) : IVec S3x640 32) shapeCasts_S3x640_S1920)
          (broadcastInDim S1920 ![] bcast_S_S1920 (constantI S_ 32 2048#32) : IVec S1920 32)) (iotaInDim S1920 32 0)))
        (broadcastInDim S1920 ![] bcast_S_S1920 (constantI S_ 32 2047#32) : IVec S1920 32) : IVec S1920 32) := by
  show StableHlo.after (opss (F := F)).flatten _ (Proc.devRef .tc main_v11) = _
  simp only [opss, hostOps0, hostOps0_1, hostOps0_2, List.flatten_cons, List.flatten_nil, List.cons_append, List.nil_append, List.append_nil]
  after_results
  try rfl
/-- A key's low eleven bits are its position, below 1920. -/
theorem key_bound (a b : BitVec 32) (h : b.toNat < 1920) : ((a * 2048#32 + b) &&& 2047#32).toNat < 1920 := by
  rw [BitVec.toNat_and, BitVec.toNat_add, BitVec.toNat_mul, show (2047#32 : BitVec 32).toNat = 2 ^ 11 - 1 from rfl, Nat.and_two_pow_sub_one_eq_mod,
    show (2048#32 : BitVec 32).toNat = 2048 from rfl]
  omega
/-- Every word of the row order is below 1920. -/
theorem order_bound (c : Dev nD) (j) : ((V m c main_v11 : IVec S1920 32) j).toNat < 1920 := by
  rw [V_order]
  have hs : ∀ (x : IVec S1920 32) (j : S1920.Idx), ∃ k, Host.sort S1920 0 comparator_i32_d0 x j = x k :=
    fun x j => by unfold Host.sort; split <;> exact ⟨_, rfl⟩
  obtain ⟨k, hk⟩ := hs (addi (muli (shapeCast S1920 (m ((c : Thread nD τ).loc main_arg4) : IVec S3x640 32) shapeCasts_S3x640_S1920)
          (broadcastInDim S1920 ![] bcast_S_S1920 (constantI S_ 32 2048#32) : IVec S1920 32)) (iotaInDim S1920 32 0)) j
  show ((Host.sort S1920 0 comparator_i32_d0 _ j) &&& 2047#32).toNat < 1920
  rw [hk]
  refine key_bound _ _ ?_
  have h : (k 0).val < 1920 := (k 0).isLt
  show (BitVec.ofNat 32 (k 0).val).toNat < 1920
  rw [BitVec.toNat_ofNat]; omega

/-- The prefetched table's contents (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- They are admissible (no index map reads the table), -/
abbrev adm : (pcfg0 (F := F)).Adm := ⟨tbl m, trivial⟩
/-- and the pipeline at them. -/
abbrev cfgM : Pipeline.Cfg sig Λ₀ := cfg0 (adm m)
abbrev adms : (p : Fin 1) → (pcfgs (F := F) p).Adm := fun _ => adm m

/-- The half of the table the region hands the body. -/
theorem PhiT0_eq (c : Dev nD) : (Pipeline.ΦT pre0 (tbl m) c : sProp 𝕄) = mPt c tbM fullShare.right (V m c main_v11) := by
  obtain rfl : c = 0 := Subsingleton.elim _ _
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, and where the output window is idle -/

theorem hcond0_0 : ∀ t : Fin grid0.N, cond0_0 (grid0.coords t) ↔ t.val % 48 = 0 :=
  fun t => by
    have ht : t.val < 48 := Nat.lt_of_lt_of_eq t.isLt N_0
    have e0 : (grid0.coords t 0).val = t.val / 1 % 48 := Pipeline.Grid.coords_val t 0 (by decide) rfl
    simp only [cond0_0, e0]
    word_cmp
theorem hcond0_1 : ∀ t : Fin grid0.N, cond0_1 (grid0.coords t) ↔ t.val % 48 = 47 :=
  fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
theorem liveAt0_0 : ∀ t : Fin (cfgM m).N, (cfgM m).idle 0 (grid0.coords t) = false := fun _ => rfl
theorem liveAt0_1 : ∀ t : Fin (cfgM m).N, (cfgM m).idle 1 (grid0.coords t) = false := fun _ => rfl
theorem liveAt0_2 : ∀ t : Fin (cfgM m).N, (cfgM m).idle 2 (grid0.coords t) = false := fun _ => rfl
theorem liveAt0_3 : ∀ t : Fin (cfgM m).N, (cfgM m).idle 3 (grid0.coords t) = false := fun _ => rfl
theorem idleAt0_4 : ∀ t : Fin (cfgM m).N, ¬cond0_1 (grid0.coords t) → (cfgM m).idle 4 (grid0.coords t) = true :=
  (by decide +kernel : ∀ t : Fin grid0.N, ¬cond0_1 (grid0.coords t) → idle0 4 (grid0.coords t) = true)
theorem noFlush0_4 : ∀ t : Fin (cfgM m).N, ¬cond0_1 (grid0.coords t) → ((cfgM m).win 4).flush t = false :=
  (by decide +kernel : ∀ t : Fin grid0.N, ¬cond0_1 (grid0.coords t) → Pipeline.Window.flushOf grid0 true cc0_transform_5 t = false)
theorem liveAt0_4 : ∀ t : Fin (cfgM m).N, cond0_1 (grid0.coords t) → (cfgM m).idle 4 (grid0.coords t) = false :=
  (by decide +kernel : ∀ t : Fin grid0.N, cond0_1 (grid0.coords t) → idle0 4 (grid0.coords t) = false)

/-! ## The memrefs the body runs on -/

/-- One staging buffer of the output window, through which its contents are stated. -/
abbrev VO0_4 : View sig .tc .vmem S1920x2560 .bf16 := (Memref.whole cc0_stg4_0 : Memref sig .tc .vmem S1920x2560 .bf16).view
abbrev ms0_0 (t : Fin (cfgM m).N) : Memref sig .tc .vmem S1920x1024 .fp8e5m2 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1920x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1024x2560 .i8 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1x1024 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1920x2560 .bf16 := spec0_4.stage ((cfgM m).slots t 4)
abbrev hs0_4 (t : Fin (cfgM m).N) : (ms0_4 m t).IsWhole := hstage0_4 (((cfgM m).slots t 4).cast nbuf0_4)
abbrev scM0_0 : Memref sig .tc .vmem S1920x2560 .f32 := Memref.whole cc0_scratch0
abbrev scM0_1 : Memref sig .tc .vmem S1920x1024 .bf16 := Memref.whole cc0_scratch1
abbrev scM0_2 : Memref sig .tc .vmem S1024x2560 .bf16 := Memref.whole cc0_scratch2
/-- The accumulator, as a view. -/
abbrev VS0_0 : View sig .tc .vmem S1920x2560 .f32 := scM0_0.view

/-! ## The launch's invariant, part by part -/

/-- The kernel's own semaphore. -/
abbrev osem0 : Fin 1 → SemLoc sig := ![SemLoc.dma 9]
theorem ownSemFacts0 : Pipeline.OwnSemFacts spec0 osem0 := by decide
theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 9) 0 := by
  rw [Pipeline.ownSems0_eq_of_list c osem0 [0] (by decide) (by decide)]; rfl
/-- The array the copies read, and the array they write. -/
abbrev rdSet : Finset (Ref sig .tc) := {main_v3}
abbrev wrSet : Finset (Ref sig .tc) := {main_v12_1}
theorem hbmPts0_eq (c : Dev nD) : (bigSep rdSet (fun b => ((c.tc : Thread nD τ).loc b) ↦{fullShare} V m c b) : sProp 𝕄) = mPt c hbS fullShare (V m c main_v3) := by
  rw [BI.bigSep_eq_bigSepL_of_eq [main_v3] (by decide) (by decide)]; rfl
theorem ownedPts0_eq (c : Dev nD) : (Pipeline.owned wrSet c : sProp 𝕄) = iprop(∃ f, mPt c hbG fullShare f) := by
  unfold Pipeline.owned; rw [BI.bigSep_eq_bigSepL_of_eq [main_v12_1] (by decide) (by decide)]; rfl
theorem PhiDR0_eq (c : Dev nD) :
    (Pipeline.ΦDR osem0 spec0 rdSet wrSet (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)
          ∗ semVal ((c : Thread nD τ), SemLoc.dma 9) 0 ∗ mPt c hbS fullShare (V m c main_v3) ∗ (∃ f, mPt c hbG fullShare f)) := by
  rw [Pipeline.ΦDR_eq, scopedRest0_eq, ownSems00_eq, hbmPts0_eq, ownedPts0_eq]; simp only [scM0_0, scM0_1, scM0_2, owns_whole]; try rfl

end Cert.KernelIdeal.Hand

end
-- ==== Proof.Hand.KernelIdeal.Frame.lean ====
/-
  Hand-written. The frame of the call: what its output window and its accumulator hold after each grid point, the
  pipeline's proof data, the body's obligation from the three runs, the launch.
-/
module

public import proofs.«01_k».proof.Proof.Hand.KernelIdeal.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) : Vec F S1920x2560 .bf16 :=
  VO0_4.read (Elt F) (VO0_4.writes (Elt F) VO0_4.junk (kernelRun0_A c i arg2 harg2 arg3 harg3 arg4 harg4 arg5 harg5 arg7 harg7 arg9 harg9 arg10 harg10 arg11 harg11 hc0 hc1 ft hb fh x0 x1 x2 x3).1)

/-- Case A's pieces for scratch `arg9`, which the kernel carries between points, cover it: one of them a store of the WHOLE buffer (Lib/Ring.lean `sl_whole_mem`). -/
theorem scover0_A_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (y : S1920x2560.Idx) :
    ∃ pc ∈ (kernelRun0_A c i arg2 harg2 arg3 harg3 arg4 harg4 arg5 harg5 arg7 harg7 arg9 harg9 arg10 harg10 arg11 harg11 hc0 hc1 ft hb fh x0 x1 x2 x3).2.1, y ∈ pc.1.set :=
  View.cover_of_wholeMem (kernelRun0_A c i arg2 harg2 arg3 harg3 arg4 harg4 arg5 harg5 arg7 harg7 arg9 harg9 arg10 harg10 arg11 harg11 hc0 hc1 ft hb fh x0 x1 x2 x3).2.1 (by sl_whole_mem) y

/-- What case A leaves in scratch `arg9`: its pieces read back over junk. -/
def sout0_A_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) : Vec F S1920x2560 .f32 :=
  VS0_0.read (Elt F) (VS0_0.writes (Elt F) VS0_0.junk (kernelRun0_A c i arg2 harg2 arg3 harg3 arg4 harg4 arg5 harg5 arg7 harg7 arg9 harg9 arg10 harg10 arg11 harg11 hc0 hc1 ft hb fh x0 x1 x2 x3).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .bf16 :=
  VO0_4.read (Elt F) (VO0_4.writes (Elt F) VO0_4.junk (kernelRun0_B c i arg2 harg2 arg3 harg3 arg4 harg4 arg5 harg5 arg7 harg7 arg9 harg9 arg10 harg10 arg11 harg11 hc0 hc1 ft hb fh x0 x1 x2 x3 xs0).1)

/-- Case B's pieces for scratch `arg9`, which the kernel carries between points, cover it: 10 pieces of `S1920x256` tiling it (Lib/Ring.lean `Piece.tiledL`). -/
theorem scover0_B_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_B c i arg2 harg2 arg3 harg3 arg4 harg4 arg5 harg5 arg7 harg7 arg9 harg9 arg10 harg10 arg11 harg11 hc0 hc1 ft hb fh x0 x1 x2 x3 xs0).2.1, y ∈ pc.1.set :=
  View.cover_of_tiledL (kernelRun0_B c i arg2 harg2 arg3 harg3 arg4 harg4 arg5 harg5 arg7 harg7 arg9 harg9 arg10 harg10 arg11 harg11 hc0 hc1 ft hb fh x0 x1 x2 x3 xs0).2.1 S1920x256.size (by sl_kernel_rfl) y

/-- What case B leaves in scratch `arg9`: its pieces read back over junk. -/
def sout0_B_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .f32 :=
  VS0_0.read (Elt F) (VS0_0.writes (Elt F) VS0_0.junk (kernelRun0_B c i arg2 harg2 arg3 harg3 arg4 harg4 arg5 harg5 arg7 harg7 arg9 harg9 arg10 harg10 arg11 harg11 hc0 hc1 ft hb fh x0 x1 x2 x3 xs0).2.1)

/-- Case C's pieces for output 4 tile its block (1 store of `S1920x2560`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_C c i arg2 harg2 arg3 harg3 arg4 harg4 arg5 harg5 arg7 harg7 arg9 harg9 arg10 harg10 arg11 harg11 hc0 hc1 ft hb fh x0 x1 x2 x3 xs0).1, y ∈ pc.1.set :=
  View.cover_of_tiledL (kernelRun0_C c i arg2 harg2 arg3 harg3 arg4 harg4 arg5 harg5 arg7 harg7 arg9 harg9 arg10 harg10 arg11 harg11 hc0 hc1 ft hb fh x0 x1 x2 x3 xs0).1 S1920x2560.size (by sl_kernel_rfl) y

/-- What case C leaves in output 4's staging buffer: its pieces read back over junk. -/
def out0_C_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .bf16 :=
  VO0_4.read (Elt F) (VO0_4.writes (Elt F) VO0_4.junk (kernelRun0_C c i arg2 harg2 arg3 harg3 arg4 harg4 arg5 harg5 arg7 harg7 arg9 harg9 arg10 harg10 arg11 harg11 hc0 hc1 ft hb fh x0 x1 x2 x3 xs0).1)

/-- Case C's pieces for scratch `arg9`, which the kernel carries between points, cover it: 10 pieces of `S1920x256` tiling it (Lib/Ring.lean `Piece.tiledL`). -/
theorem scover0_C_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) (y : S1920x2560.Idx) :
    ∃ pc ∈ (kernelRun0_C c i arg2 harg2 arg3 harg3 arg4 harg4 arg5 harg5 arg7 harg7 arg9 harg9 arg10 harg10 arg11 harg11 hc0 hc1 ft hb fh x0 x1 x2 x3 xs0).2.1, y ∈ pc.1.set :=
  View.cover_of_tiledL (kernelRun0_C c i arg2 harg2 arg3 harg3 arg4 harg4 arg5 harg5 arg7 harg7 arg9 harg9 arg10 harg10 arg11 harg11 hc0 hc1 ft hb fh x0 x1 x2 x3 xs0).2.1 S1920x256.size (by sl_kernel_rfl) y

/-- What case C leaves in scratch `arg9`: its pieces read back over junk. -/
def sout0_C_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := F) c tbM) (hb : ∀ j, (ft j).toNat < 1920) (fh : MBuf (F := F) c hbS)
    (x0 : Vec F S1920x1024 .fp8e5m2) (x1 : Vec F S1920x128 .f32) (x2 : Vec F S1024x2560 .i8) (x3 : Vec F S1x1x1024 .f32) (xs0 : Vec F S1920x2560 .f32) : Vec F S1920x2560 .f32 :=
  VS0_0.read (Elt F) (VS0_0.writes (Elt F) VS0_0.junk (kernelRun0_C c i arg2 harg2 arg3 harg3 arg4 harg4 arg5 harg5 arg7 harg7 arg9 harg9 arg10 harg10 arg11 harg11 hc0 hc1 ft hb fh x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < (cfgM m).N → Vec F S1920x2560 .bf16 × Vec F S1920x2560 .f32
  | 0, hn => (out0_A_4 c (grid0.coords ⟨0, hn⟩) (ms0_0 m ⟨0, hn⟩) (hs0_0 m ⟨0, hn⟩) (ms0_1 m ⟨0, hn⟩) (hs0_1 m ⟨0, hn⟩) (ms0_2 m ⟨0, hn⟩) (hs0_2 m ⟨0, hn⟩) (ms0_3 m ⟨0, hn⟩) (hs0_3 m ⟨0, hn⟩) (ms0_4 m ⟨0, hn⟩) (hs0_4 m ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (V m c main_v11) (order_bound m c) (V m c main_v3) (iblk m c 0 ⟨0, hn⟩) (iblk m c 1 ⟨0, hn⟩) (iblk m c 2 ⟨0, hn⟩) (iblk m c 3 ⟨0, hn⟩), sout0_A_0 c (grid0.coords ⟨0, hn⟩) (ms0_0 m ⟨0, hn⟩) (hs0_0 m ⟨0, hn⟩) (ms0_1 m ⟨0, hn⟩) (hs0_1 m ⟨0, hn⟩) (ms0_2 m ⟨0, hn⟩) (hs0_2 m ⟨0, hn⟩) (ms0_3 m ⟨0, hn⟩) (hs0_3 m ⟨0, hn⟩) (ms0_4 m ⟨0, hn⟩) (hs0_4 m ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (V m c main_v11) (order_bound m c) (V m c main_v3) (iblk m c 0 ⟨0, hn⟩) (iblk m c 1 ⟨0, hn⟩) (iblk m c 2 ⟨0, hn⟩) (iblk m c 3 ⟨0, hn⟩))
  | n + 1, hn =>
    if h0 : (n + 1) % 48 = 0 then
      if h1 : (n + 1) % 48 = 47 then
        False.elim (by have hN : n + 1 < 48 := lt_of_lt_of_eq hn (show (cfgM m).N = 48 from N_0); omega)
      else
        (out0_A_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩))
    else
      if h1 : (n + 1) % 48 = 47 then
        (out0_C_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 m ⟨n + 1, hn⟩) (hs0_0 m ⟨n + 1, hn⟩) (ms0_1 m ⟨n + 1, hn⟩) (hs0_1 m ⟨n + 1, hn⟩) (ms0_2 m ⟨n + 1, hn⟩) (hs0_2 m ⟨n + 1, hn⟩) (ms0_3 m ⟨n + 1, hn⟩) (hs0_3 m ⟨n + 1, hn⟩) (ms0_4 m ⟨n + 1, hn⟩) (hs0_4 m ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (V m c main_v11) (order_bound m c) (V m c main_v3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin (cfgM m).N) (h0 : t.val % 48 = 0) (h1 : ¬t.val % 48 = 47) :
    outsAt0 m c t.val t.isLt = (out0_A_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) ((hcond0_0 t).mpr h0) (fun h => h1 ((hcond0_1 t).mp h)) (V m c main_v11) (order_bound m c) (V m c main_v3) (iblk m c 0 t) (iblk m c 1 t) (iblk m c 2 t) (iblk m c 3 t), sout0_A_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) ((hcond0_0 t).mpr h0) (fun h => h1 ((hcond0_1 t).mp h)) (V m c main_v11) (order_bound m c) (V m c main_v3) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin (cfgM m).N) (h0 : ¬t.val % 48 = 0) (h1 : ¬t.val % 48 = 47) :
    outsAt0 m c t.val t.isLt = (out0_B_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) (fun h => h1 ((hcond0_1 t).mp h)) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) (fun h => h1 ((hcond0_1 t).mp h)) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin (cfgM m).N) (h0 : ¬t.val % 48 = 0) (h1 : t.val % 48 = 47) :
    outsAt0 m c t.val t.isLt = (out0_C_4 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) ((hcond0_1 t).mpr h1) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) ((hcond0_1 t).mpr h1) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ (cfgM m).N → sProp 𝕄
  | 0, _ => iprop(Pipeline.ΦDR osem0 spec0 rdSet wrSet (V m) c ∗ Pipeline.ΦT pre0 (tbl m) c)
  | n + 1, hn => iprop(iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11))

theorem PhiS_zero (c : Dev nD) (n : ℕ) (h : n ≤ (cfgM m).N) (hz : n = 0) : PhiS m c n h = iprop(Pipeline.ΦDR osem0 spec0 rdSet wrSet (V m) c ∗ Pipeline.ΦT pre0 (tbl m) c) := by
  subst hz; rfl

/-- After point `n` (before point `n + 1`): the carried scratch at that point's contents. -/
theorem PhiS_succ (c : Dev nD) (n : ℕ) (hn : n < (cfgM m).N) :
    PhiS m c (n + 1) hn = iprop(iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11)) := rfl

/-- Before a point that is not the first: the carried scratch at what the point before left. -/
theorem PhiS_pos (c : Dev nD) (n : ℕ) (h : n ≤ (cfgM m).N) (hz : n ≠ 0) :
    PhiS m c n h = iprop(iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r) ∗ semVal ((c : Thread nD τ), SemLoc.dma 9) 0 ∗ mPt c hbS fullShare (V m c main_v3) ∗ (∃ f, mPt c hbG fullShare f)) ∗ mPt c tbM fullShare.right (V m c main_v11)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin (cfgM m).W) : (dats m 0 c).A w = V m c (Pipeline.arrRef spec0 w) := by
  dsimp only [dats]

/-- The invariant at a point's start (the proof data at `t.castSucc`), restated at `t.val`. -/
theorem PhiS_castSucc (c : Dev nD) (t : Fin (cfgM m).N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = (outsAt0 m c t.val t.isLt).1 := by dsimp only [dats]; try rfl

/-- Each input's current staging buffer holds its block at every point, fetched there or not (`beforeK_W_of`). -/
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at point `t`, as the pipeline calls it. -/
abbrev bodyAt0 (t : Fin (cfgM m).N) : Prog (TpuEff nD τ sig (Elt F) Λ₀ .tc) PUnit :=
  cc0_dh (grid0.coords t) tbM (Memref.isWhole_whole _) (ms0_0 m t) (hs0_0 m t) (ms0_1 m t) (hs0_1 m t) (ms0_2 m t) (hs0_2 m t) (ms0_3 m t) (hs0_3 m t) hbS (Memref.isWhole_whole _) (ms0_4 m t) (hs0_4 m t) hbG (Memref.isWhole_whole _) scM0_0 (Memref.isWhole_whole _) scM0_1 (Memref.isWhole_whole _) scM0_2 (Memref.isWhole_whole _) cc0_scratch3

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3]
  rw [show (dats m 0 c).owesAt () t.succ = (dats m 0 c).owesAt () t.castSucc from rfl]
  unfold Dat.owesAt Pipeline.owesWithin
  rw [show (dats m 0 c).owed t.castSucc = 0 from rfl]
  rw [show (dats m 0 c).Φ t.succ = PhiS m c (t.val + 1) t.isLt from rfl, PhiS_succ]
  have hN : t.val < 48 := lt_of_lt_of_eq t.isLt (show (cfgM m).N = 48 from N_0)
  by_cases h0 : t.val % 48 = 0
  · by_cases h1 : t.val % 48 = 47
    · exfalso; omega
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [Dat.leavesExact_idle (dats m 0 c) 4 t (idleAt0_4 m t (fun h => h1 ((hcond0_1 t).mp h))) (noFlush0_4 m t (fun h => h1 ((hcond0_1 t).mp h)))]
      by_cases hz : t.val = 0
      · rw [PhiS_castSucc m c t, PhiS_zero m c _ _ hz, PhiDR0_eq, PhiT0_eq]
        rw [outsAt0_A m c t h0 h1]
        unfold sout0_A_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (V m c main_v11) (order_bound m c) (V m c main_v3) (iblk m c 0 t) (iblk m c 1 t) (iblk m c 2 t) (iblk m c 3 t)).2.2.2.2 _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, H4, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        iexists _; iexact H4
      · exfalso; have hN : t.val < 48 := lt_of_lt_of_eq t.isLt (show (cfgM m).N = 48 from N_0); omega
  · by_cases h1 : t.val % 48 = 47
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [show (dats m 0 c).leavesExact 4 t = owns (c : Thread nD τ) (ms0_4 m t) fullShare ((dats m 0 c).after 4 t) from by
      unfold Dat.leavesExact; rw [liveAt0_4 m t ((hcond0_1 t).mpr h1)]; try rfl, after0_4]
      by_cases hz : t.val = 0
      · exfalso; have hN : t.val < 48 := lt_of_lt_of_eq t.isLt (show (cfgM m).N = 48 from N_0); omega
      · rw [PhiS_castSucc m c t, PhiS_pos m c _ _ hz]
        rw [outsAt0_C m c t h0 h1]
        unfold out0_C_4 sout0_C_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (V m c main_v11) (order_bound m c) (V m c main_v3) (iblk m c 0 t) (iblk m c 1 t) (iblk m c 2 t) (iblk m c 3 t) _).2.2.2.2 _ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, ⟨%e4, H4⟩, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _ _)
    · rw [show (dats m 0 c).leavesExact 0 t = owns (c : Thread nD τ) (ms0_0 m t) fullShare ((dats m 0 c).after 0 t) from by
      unfold Dat.leavesExact; rw [liveAt0_0 m t]; try rfl, after0_0]
      rw [show (dats m 0 c).leavesExact 1 t = owns (c : Thread nD τ) (ms0_1 m t) fullShare ((dats m 0 c).after 1 t) from by
      unfold Dat.leavesExact; rw [liveAt0_1 m t]; try rfl, after0_1]
      rw [show (dats m 0 c).leavesExact 2 t = owns (c : Thread nD τ) (ms0_2 m t) fullShare ((dats m 0 c).after 2 t) from by
      unfold Dat.leavesExact; rw [liveAt0_2 m t]; try rfl, after0_2]
      rw [show (dats m 0 c).leavesExact 3 t = owns (c : Thread nD τ) (ms0_3 m t) fullShare ((dats m 0 c).after 3 t) from by
      unfold Dat.leavesExact; rw [liveAt0_3 m t]; try rfl, after0_3]
      rw [Dat.leavesExact_idle (dats m 0 c) 4 t (idleAt0_4 m t (fun h => h1 ((hcond0_1 t).mp h))) (noFlush0_4 m t (fun h => h1 ((hcond0_1 t).mp h)))]
      by_cases hz : t.val = 0
      · exfalso; have hN : t.val < 48 := lt_of_lt_of_eq t.isLt (show (cfgM m).N = 48 from N_0); omega
      · rw [PhiS_castSucc m c t, PhiS_pos m c _ _ hz]
        rw [outsAt0_B m c t h0 h1]
        unfold sout0_B_0; (try dsimp only)
        iintro ⟨⟨⟨⟨HS0, HS1, HS2⟩, Hg, Hq, HH, HG⟩, HT⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (V m c main_v11) (order_bound m c) (V m c main_v3) (iblk m c 0 t) (iblk m c 1 t) (iblk m c 2 t) (iblk m c 3 t) _).2.2.2.2 _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HT]; · iexact HT
        isplitl [HH]; · iexact HH
        isplitl [HG]; · iexact HG
        isplitl [Hq]; · iexact Hq
        isplitl [HW]; · iexact HW
        iintro ⟨H0, H1, H2, H3, H4, ⟨%es0, HS0⟩, ⟨%fT1, HS1⟩, ⟨%fT2, HS2⟩, HT, HH, HG, Hq, ⟨%W', HW⟩⟩
        isplitl [HS0 HS1 HS2 Hg Hq HH HG HT]
        · isplitl [HS0 HS1 HS2 Hg Hq HH HG]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _)
              isplitl [HS1]
              · iexists _; unfold owns; iexists _; isplitr
                swap; · iexact HS1
                ipureintro; rfl
              iexists _; unfold owns; iexists _; isplitr
              swap; · iexact HS2
              ipureintro; rfl
            isplitl [Hg]; · iexact Hg
            isplitl [Hq]; · iexact Hq
            isplitl [HH]; · iexact HH
            iexact HG
          iexact HT
        isplitl [HW]
        · iexists W'; isplitr
          · ipureintro; exact fun _ _ => Or.inl trivial
          iexact HW
        isplitl [H0]; · iexact H0
        isplitl [H1]; · iexact H1
        isplitl [H2]; · iexact H2
        isplitl [H3]; · iexact H3
        iexists _; iexact H4

/-- The body table's row at point `t`'s slots is the body as `bodyAt0` spells it. -/
theorem defs₀_row (t : Fin (cfgM m).N) :
    defs₀ (F := F) .tc (cfgM m).body ((cfgM m).bodyArgs t ((cfgM m).slots t)) = bodyAt0 m t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : iprop(Pipeline.ΦDR osem0 spec0 rdSet wrSet (V m) c ∗ Pipeline.ΦT pre0 (tbl m) c) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the accumulator's contents and the table's half forgotten. -/
theorem hout (c : Dev nD) : (dats m 0 c).Φ (Fin.last (cfgM m).N) ⊢ Pipeline.ΦDR osem0 spec0 rdSet wrSet (V m) c := by
  have hN : (cfgM m).N = 48 := N_0
  rw [show (dats m 0 c).Φ (Fin.last (cfgM m).N) = PhiS m c (cfgM m).N (Nat.le_refl _) from rfl, PhiS_pos m c _ _ (by omega), PhiDR0_eq]
  iintro ⟨⟨⟨HS0, HS1, HS2⟩, HR⟩, -⟩
  isplitl [HS0 HS1 HS2]
  · isplitl [HS0]
    · iexists _; iexact HS0
    isplitl [HS1]
    · iexact HS1
    iexact HS2
  iexact HR

/-! ## The run and the frame -/

/-- The arrays read and written outside the pipeline are none of its windows', nor the table. -/
theorem rd_rest : rdSet ⊆ Pipeline.restRefsP sig pre0 spec0 := by decide
theorem wr_rest : wrSet ⊆ Pipeline.restRefsP sig pre0 spec0 \ rdSet := by decide

set_option backward.isDefEq.respectTransparency.types false in
/-- THE LAUNCH: every array of the pipeline ends at what the proof data says, every other buffer but the array the copies
    write as the region found it, every semaphore counter at zero. -/
theorem run_main_quiescent : θ_run defs (onTc (τ := τ) (main (F := F))) (s₀ m ρ)
    (fun r => Pipeline.FramePostR (Pipeline.pin (pcfgs (F := F)) (adms m)) (dats m) 0 wrSet (V m) r ∧ r.2.sem = fun _ => 0) :=
  Pipeline.θ_run_frameP_dmaR (Q' := _) (pcfgs (F := F)) (adms m) (dats m) (0 : Fin 1) launch0 osem0 defs₀ Variants.none ownSemFacts0 rdSet wrSet
    rd_rest wr_rest m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- The argument arrays end unchanged. -/
theorem args_of (r : PUnit × MemSt nD τ sig (Elt F)) (h : Pipeline.FramePostR (Pipeline.pin (pcfgs (F := F)) (adms m)) (dats m) 0 wrSet (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Finset.mem_sdiff.mpr ⟨Pipeline.mem_restRefs_of main_arg0 (by decide) (show ∀ w : Fin 5, (spec0 w).arr.view.ref ≠ main_arg0 by decide), by decide⟩)).trans (V_main_arg0 m c),
    ((h c).2 main_arg1 (Finset.mem_sdiff.mpr ⟨Pipeline.mem_restRefs_of main_arg1 (by decide) (show ∀ w : Fin 5, (spec0 w).arr.view.ref ≠ main_arg1 by decide), by decide⟩)).trans (V_main_arg1 m c),
    ((h c).1 2).trans (((dats m 0 c).arrAt_in 2 rfl _).trans ((A_eq m c 2).trans (V_main_arg2 m c))),
    ((h c).2 main_arg3 (Finset.mem_sdiff.mpr ⟨Pipeline.mem_restRefs_of main_arg3 (by decide) (show ∀ w : Fin 5, (spec0 w).arr.view.ref ≠ main_arg3 by decide), by decide⟩)).trans (V_main_arg3 m c),
    ((h c).2 main_arg4 (Finset.mem_sdiff.mpr ⟨Pipeline.mem_restRefs_of main_arg4 (by decide) (show ∀ w : Fin 5, (spec0 w).arr.view.ref ≠ main_arg4 by decide), by decide⟩)).trans (V_main_arg4 m c),
    ((h c).2 main_arg5 (Finset.mem_sdiff.mpr ⟨Pipeline.mem_restRefs_of main_arg5 (by decide) (show ∀ w : Fin 5, (spec0 w).arr.view.ref ≠ main_arg5 by decide), by decide⟩)).trans (V_main_arg5 m c)⟩

/-- THE FRAME: every execution terminates, the argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_main_quiescent m ρ)

end Cert.KernelIdeal.Hand

end
-- ==== Proof.Hand.KernelIdeal.Pieces.lean ====
/-
  Hand-written. The stores of one grid point as values: the tiles of the two operands are blocks of two closed forms, and
  the accumulator's column blocks add their product to what the accumulator held.
-/
module

public import proofs.«01_k».proof.Proof.Hand.KernelIdeal.Frame
public import Idealize.ShloMosaic.Lib.Pipeline.Value
public import Idealize.ShloMosaic.Lib.Pipeline.ReadBack
public import Idealize.ShloMosaic.Lib.MatmulPlain
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.SL.Sem
open scoped BigOperators

/-- A load through a rectangle of a whole buffer holding `x` reads `x` there. -/
theorem read_rect {s : Shape} {e : EltTy} (a : Memref sig .tc .vmem s e) (h : a.IsWhole) (x : Vec Ideal s e) (R : Rect s) :
    View.readAt (Elt Ideal) a.view R.toLoadRect (h.unread x) = fun j => x (R.emb j) := by
  rw [View.readAt_eq_ld, h.read_unread]; rfl

/-! ## The right operand: codes times the scale of their row -/

/-- The right operand of a point: entry `(v, d)` is the code there times the row's scale. -/
def eeG (x2 : Vec Ideal S1024x2560 .i8) (x3 : Vec Ideal S1x1x1024 .f32) : Vec Ideal S1024x2560 .bf16 :=
  fun y => ((sitofp .bf16 x2 : FVec Ideal S1024x2560 .bf16) y * x3 (ix3 (0 : Fin 1) (0 : Fin 1) (y 0)) : EReal)

/-- A tile's value at an index. -/
theorem ee_tile (b : Vec Ideal S1x1x128 .f32) (a : Vec Ideal S128x128 .i8) (x : S128x128.Idx) :
    k0_pay7 b a x = ((sitofp .bf16 a : FVec Ideal S128x128 .bf16) x * b (ix3 (0 : Fin 1) (0 : Fin 1) (x 0)) : EReal) := by
  unfold k0_pay7 k0_pay6
  pointwise

theorem ee_piece (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) (r q : ℕ)
    (h : ∀ a, (![r, q] : Fin 2 → ℕ) a + S128x128.size a ≤ S1024x2560.size a) (h' : ∀ a, (![0, 0, r] : Fin 3 → ℕ) a + S1x1x128.size a ≤ S1x1x1024.size a)
    (x : (Rect.unit (s := S1024x2560) ![r, q] S128x128.size h).shape.Idx) :
    k0_pay7 (View.readAt (Elt Ideal) arg5.view (Rect.unit (s := S1x1x1024) ![0, 0, r] S1x1x128.size h').toLoadRect (harg5.unread x3))
        (View.readAt (Elt Ideal) arg4.view (Rect.unit (s := S1024x2560) ![r, q] S128x128.size h).toLoadRect (harg4.unread x2)) x
      = eeG x2 x3 ((Rect.unit (s := S1024x2560) ![r, q] S128x128.size h).emb x) := by
  rw [read_rect, read_rect, ee_tile]
  unfold eeG
  congr 1
  refine congrArg x3 (funext fun a => Fin.ext ?_)
  fin_cases a <;> simp

/-! ## The left operand -/

/-- The word the lane is taken at: the chunk's number in the whole row of lanes, modulo the lanes of a block. -/
abbrev laneW (w j : BitVec 32) : BitVec 32 := Scalar.remsi (Scalar.addi (Scalar.muli w 8#32) j) 128#32

theorem laneW_toNat (n : Fin 48) (j : Fin 8) : (laneW (BitVec.ofNat 32 n.val) (BitVec.ofNat 32 j.val)).toNat = (8 * n.val + j.val) % 128 := by
  revert n j; decide +kernel

/-- The left operand of a point: entry `(t, v)` is the entry there times the scale of its row and lane. -/
def dlsG (n : ℕ) (x0 : Vec Ideal S1920x1024 .fp8e5m2) (x1 : Vec Ideal S1920x128 .f32) : Vec Ideal S1920x1024 .bf16 :=
  fun y => ((x0 y : EReal) * x1 (ix2 (y 0) (⟨(8 * n + (y 1).val / 128) % 128, Nat.mod_lt _ (by decide)⟩ : Fin 128)) : EReal)

/-- A lane below 128 is not negative, so it is taken as it stands. -/
theorem lane_select (w : BitVec 32) (hw : w.toNat < 128) : Scalar.select (IntOp.cmpi CmpIPredicate.slt w 0#32) (IntOp.addi w 128#32) w = w := by
  have hs : BitVec.slt w 0#32 = false := by
    rw [BitVec.slt_eq_decide, BitVec.toInt_eq_toNat_of_lt (by omega)]; simp
  simp [Scalar.select, IntOp.cmpi, hs]

theorem dls_tile (b : Vec Ideal S1920x128 .f32) (a : Vec Ideal S1920x128 .fp8e5m2) (w : BitVec 32) (hw : w.toNat < 128) (x : S1920x128.Idx) :
    k0_pay5 (k0_pay3 b) (broadcast S1920x128 w) a x = ((a x : EReal) * b (ix2 (x 0) (⟨w.toNat, hw⟩ : Fin 128)) : EReal) := by
  unfold k0_pay5 k0_pay3
  pointwise
  refine congrArg (fun z => (a x : EReal) * b (ix2 (x 0) z)) (Fin.ext ?_)
  show _ % 128 = w.toNat
  rw [lane_select w hw, Nat.mod_eq_of_lt hw]

theorem dls_piece (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) (n : Fin 48) (j : Fin 8) (o : ℕ) (ho : o = 128 * j.val)
    (h : ∀ a, (![0, o] : Fin 2 → ℕ) a + S1920x128.size a ≤ S1920x1024.size a) (h' : ∀ a, (![0, 0] : Fin 2 → ℕ) a + S1920x128.size a ≤ S1920x128.size a)
    (x : (Rect.unit (s := S1920x1024) ![0, o] S1920x128.size h).shape.Idx) :
    k0_pay5 (k0_pay3 (View.readAt (Elt Ideal) arg3.view (Rect.unit (s := S1920x128) ![0, 0] S1920x128.size h').toLoadRect (harg3.unread x1)))
        (broadcast S1920x128 (laneW (BitVec.ofNat 32 n.val) (BitVec.ofNat 32 j.val)))
        (View.readAt (Elt Ideal) arg2.view (Rect.unit (s := S1920x1024) ![0, o] S1920x128.size h).toLoadRect (harg2.unread x0)) x
      = dlsG n.val x0 x1 ((Rect.unit (s := S1920x1024) ![0, o] S1920x128.size h).emb x) := by
  have hw := laneW_toNat n j
  rw [read_rect, read_rect, dls_tile _ _ _ (by rw [hw]; exact Nat.mod_lt _ (by decide))]
  unfold dlsG
  congr 1
  refine congrArg x1 (funext fun a => Fin.ext ?_)
  have h1 : (x 1).val < 128 := (x 1).isLt
  fin_cases a
  · simp
  · simp [hw, ho]; omega

/-! ## The accumulator's step -/

/-- What one point adds to the accumulator: the product of its two operands. -/
def stepG (A : Vec Ideal S1920x2560 .f32) (L : Vec Ideal S1920x1024 .bf16) (R : Vec Ideal S1024x2560 .bf16) : Vec Ideal S1920x2560 .f32 :=
  fun y => ((A y : EReal) + ∑ k : Fin 1024, (L (ix2 (y 0) k) : EReal) * R (ix2 k (y 1)) : EReal)

theorem acc_tile (v : Vec Ideal S1920x256 .f32) (l : Vec Ideal S1920x1024 .bf16) (r : Vec Ideal S1024x256 .bf16) (x : S1920x256.Idx) :
    k0_pay204 v l r x = ((v x : EReal) + ∑ k : Fin 1024, (l (ix2 (x 0) k) : EReal) * r (ix2 k (x 1)) : EReal) := by
  unfold k0_pay204
  pointwise

theorem acc_piece (A : Vec Ideal S1920x2560 .f32) (L : Vec Ideal S1920x1024 .bf16) (R : Vec Ideal S1024x2560 .bf16) (q : ℕ)
    (h : ∀ a, (![0, q] : Fin 2 → ℕ) a + S1920x256.size a ≤ S1920x2560.size a)
    (h' : ∀ a, (![0, q] : Fin 2 → ℕ) a + S1024x256.size a ≤ S1024x2560.size a)
    (x : (Rect.unit (s := S1920x2560) ![0, q] S1920x256.size h).shape.Idx) :
    k0_pay204 (fun j => A ((Rect.unit (s := S1920x2560) ![0, q] S1920x256.size h).emb j)) L (fun j => R ((Rect.unit (s := S1024x2560) ![0, q] S1024x256.size h').emb j)) x
      = stepG A L R ((Rect.unit (s := S1920x2560) ![0, q] S1920x256.size h).emb x) := by
  rw [acc_tile]
  unfold stepG
  refine congrArg₂ (fun a b : EReal => a + b) rfl (Finset.sum_congr rfl fun k _ => congrArg₂ (fun a b : EReal => a * b) (congrArg L ?_) (congrArg R ?_))
  · funext a; apply Fin.ext; fin_cases a <;> simp
  · funext a; apply Fin.ext; fin_cases a <;> simp

end Cert.KernelIdeal.Hand

end
-- ==== Proof.Hand.KernelIdeal.Step.lean ====
/-
  Hand-written. What one grid point leaves, in each case of its two branches: the accumulator's contents plus the product
  of the two operands, from zero at the first point; and the result's block, the accumulator rounded, at the last.
-/
module

public import proofs.«01_k».proof.Proof.Hand.KernelIdeal.Pieces

@[expose] public section

set_option maxRecDepth 16384

noncomputable section

namespace Cert.KernelIdeal.Hand

open Cert.KernelIdeal Cert.KernelIdeal.Gen
open Idealize.ShloMosaic Idealize.ShloMosaic.TcCoe Idealize.SL.Sem

/-- A store that is a block of `G`, over stores that are. -/
theorem piecesOf_cons {s : Shape} {e : EltTy} {G : Vec Ideal s e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

/-- A load through a box of covering stores that are blocks of `G` reads `G` there. -/
theorem readCov_of_pieces {s : Shape} {e : EltTy} (v : View sig .tc .vmem s e) {G : Vec Ideal s e} {L : List (View.Piece (Elt Ideal) s e)} (hL : View.PiecesOf G L)
    (hc : ∀ y, ∃ p ∈ L, y ∈ p.1.set) (R : Rect s) : v.readCov L R.toLoadRect = fun j => G (R.emb j) := by
  rw [View.readCov_eq_canon']
  exact funext fun j => View.canon_apply_of_pieces G L hL.mem _ (hc _)

/-- The box of the whole shape embeds each index as itself. -/
theorem emb_unit_zero {s : Shape} {off : Fin s.rank → ℕ} (h : off = fun _ => 0) (inb : ∀ a, off a + s.size a ≤ s.size a) (j : s.Idx) :
    (Rect.unit (s := s) off s.size inb).emb j = j := by
  subst h; exact Rect.emb_whole_apply _ j

/-- A block of contents, index by index. -/
theorem ld_rect {s : Shape} {e : EltTy} (x : Vec Ideal s e) (R : Rect s) : View.ld (Val := Elt Ideal) x R = fun j => x (R.emb j) := rfl

theorem hz2 : (![0, 0] : Fin 2 → ℕ) = fun _ => 0 := funext fun a => by fin_cases a <;> rfl

/-! ## Case A: the operands -/

set_option maxHeartbeats 4000000 in
theorem ee_pieces_A (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) :
    View.PiecesOf (eeG x2 x3) (kernelRun0_A.sl.HS2_160 (F := Ideal) c arg4 harg4 arg5 harg5 x2 x3) := by
  unfold kernelRun0_A.sl.HS2_160
  repeat' (refine piecesOf_cons (ee_piece arg4 harg4 arg5 harg5 x2 x3 _ _ _ _) ?_)
  trivial

theorem ee_cover_A (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) (y : S1024x2560.Idx) :
    ∃ p ∈ kernelRun0_A.sl.HS2_160 (F := Ideal) c arg4 harg4 arg5 harg5 x2 x3, y ∈ p.1.set :=
  View.cover_of_tiledL (kernelRun0_A.sl.HS2_160 (F := Ideal) c arg4 harg4 arg5 harg5 x2 x3) S128x128.size (by sl_kernel_rfl) y

theorem dls_pieces_A (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) :
    View.PiecesOf (dlsG (i 0).val x0 x1) (kernelRun0_A.sl.HS1_8 (F := Ideal) c i arg2 harg2 arg3 harg3 x0 x1) := by
  unfold kernelRun0_A.sl.HS1_8
  refine piecesOf_cons (dls_piece arg2 harg2 arg3 harg3 x0 x1 (i 0) 7 _ rfl _ _) ?_
  refine piecesOf_cons (dls_piece arg2 harg2 arg3 harg3 x0 x1 (i 0) 6 _ rfl _ _) ?_
  refine piecesOf_cons (dls_piece arg2 harg2 arg3 harg3 x0 x1 (i 0) 5 _ rfl _ _) ?_
  refine piecesOf_cons (dls_piece arg2 harg2 arg3 harg3 x0 x1 (i 0) 4 _ rfl _ _) ?_
  refine piecesOf_cons (dls_piece arg2 harg2 arg3 harg3 x0 x1 (i 0) 3 _ rfl _ _) ?_
  refine piecesOf_cons (dls_piece arg2 harg2 arg3 harg3 x0 x1 (i 0) 2 _ rfl _ _) ?_
  refine piecesOf_cons (dls_piece arg2 harg2 arg3 harg3 x0 x1 (i 0) 1 _ rfl _ _) ?_
  refine piecesOf_cons (dls_piece arg2 harg2 arg3 harg3 x0 x1 (i 0) 0 _ rfl _ _) ?_
  trivial

theorem dls_cover_A (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) (y : S1920x1024.Idx) :
    ∃ p ∈ kernelRun0_A.sl.HS1_8 (F := Ideal) c i arg2 harg2 arg3 harg3 x0 x1, y ∈ p.1.set :=
  View.cover_of_tiledL (kernelRun0_A.sl.HS1_8 (F := Ideal) c i arg2 harg2 arg3 harg3 x0 x1) S1920x128.size (by sl_kernel_rfl) y

/-- A column block of the accumulator, whatever the accumulator held there. -/
theorem acc_A (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) (A : Vec Ideal S1920x2560 .f32) (q : ℕ)
    (h : ∀ a, (![0, q] : Fin 2 → ℕ) a + S1920x256.size a ≤ S1920x2560.size a)
    (h' : ∀ a, (![0, q] : Fin 2 → ℕ) a + S1024x256.size a ≤ S1024x2560.size a) (v : Vec Ideal S1920x256 .f32)
    (hv : v = fun j => A ((Rect.unit (s := S1920x2560) ![0, q] S1920x256.size h).emb j))
    (x : (Rect.unit (s := S1920x2560) ![0, q] S1920x256.size h).shape.Idx) :
    k0_pay204 v (arg10.view.readCov (kernelRun0_A.sl.HS1_8 (F := Ideal) c i arg2 harg2 arg3 harg3 x0 x1) (Rect.unit (s := S1920x1024) ![0, 0] S1920x1024.size inb_S1920x1024_S1920x1024_0_0).toLoadRect)
        (arg11.view.readCov (kernelRun0_A.sl.HS2_160 (F := Ideal) c arg4 harg4 arg5 harg5 x2 x3) (Rect.unit (s := S1024x2560) ![0, q] S1024x256.size h').toLoadRect) x
      = stepG A (dlsG (i 0).val x0 x1) (eeG x2 x3) ((Rect.unit (s := S1920x2560) ![0, q] S1920x256.size h).emb x) := by
  rw [readCov_of_pieces _ (dls_pieces_A c i arg2 harg2 arg3 harg3 x0 x1) (dls_cover_A c i arg2 harg2 arg3 harg3 x0 x1),
    readCov_of_pieces _ (ee_pieces_A c arg4 harg4 arg5 harg5 x2 x3) (ee_cover_A c arg4 harg4 arg5 harg5 x2 x3), hv,
    show (fun j => dlsG (i 0).val x0 x1 ((Rect.unit (s := S1920x1024) ![0, 0] S1920x1024.size inb_S1920x1024_S1920x1024_0_0).emb j)) = dlsG (i 0).val x0 x1 from
      funext fun j => congrArg _ (emb_unit_zero hz2 _ j)]
  exact acc_piece A (dlsG (i 0).val x0 x1) (eeG x2 x3) q h h' x

/-! ## Case B: the operands -/

set_option maxHeartbeats 4000000 in
theorem ee_pieces_B (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) :
    View.PiecesOf (eeG x2 x3) (kernelRun0_B.sl.HS2_160 (F := Ideal) c arg4 harg4 arg5 harg5 x2 x3) := by
  unfold kernelRun0_B.sl.HS2_160
  repeat' (refine piecesOf_cons (ee_piece arg4 harg4 arg5 harg5 x2 x3 _ _ _ _) ?_)
  trivial

theorem ee_cover_B (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) (y : S1024x2560.Idx) :
    ∃ p ∈ kernelRun0_B.sl.HS2_160 (F := Ideal) c arg4 harg4 arg5 harg5 x2 x3, y ∈ p.1.set :=
  View.cover_of_tiledL (kernelRun0_B.sl.HS2_160 (F := Ideal) c arg4 harg4 arg5 harg5 x2 x3) S128x128.size (by sl_kernel_rfl) y

theorem dls_pieces_B (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) :
    View.PiecesOf (dlsG (i 0).val x0 x1) (kernelRun0_B.sl.HS1_8 (F := Ideal) c i arg2 harg2 arg3 harg3 x0 x1) := by
  unfold kernelRun0_B.sl.HS1_8
  refine piecesOf_cons (dls_piece arg2 harg2 arg3 harg3 x0 x1 (i 0) 7 _ rfl _ _) ?_
  refine piecesOf_cons (dls_piece arg2 harg2 arg3 harg3 x0 x1 (i 0) 6 _ rfl _ _) ?_
  refine piecesOf_cons (dls_piece arg2 harg2 arg3 harg3 x0 x1 (i 0) 5 _ rfl _ _) ?_
  refine piecesOf_cons (dls_piece arg2 harg2 arg3 harg3 x0 x1 (i 0) 4 _ rfl _ _) ?_
  refine piecesOf_cons (dls_piece arg2 harg2 arg3 harg3 x0 x1 (i 0) 3 _ rfl _ _) ?_
  refine piecesOf_cons (dls_piece arg2 harg2 arg3 harg3 x0 x1 (i 0) 2 _ rfl _ _) ?_
  refine piecesOf_cons (dls_piece arg2 harg2 arg3 harg3 x0 x1 (i 0) 1 _ rfl _ _) ?_
  refine piecesOf_cons (dls_piece arg2 harg2 arg3 harg3 x0 x1 (i 0) 0 _ rfl _ _) ?_
  trivial

theorem dls_cover_B (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) (y : S1920x1024.Idx) :
    ∃ p ∈ kernelRun0_B.sl.HS1_8 (F := Ideal) c i arg2 harg2 arg3 harg3 x0 x1, y ∈ p.1.set :=
  View.cover_of_tiledL (kernelRun0_B.sl.HS1_8 (F := Ideal) c i arg2 harg2 arg3 harg3 x0 x1) S1920x128.size (by sl_kernel_rfl) y

/-- A column block of the accumulator, whatever the accumulator held there. -/
theorem acc_B (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) (A : Vec Ideal S1920x2560 .f32) (q : ℕ)
    (h : ∀ a, (![0, q] : Fin 2 → ℕ) a + S1920x256.size a ≤ S1920x2560.size a)
    (h' : ∀ a, (![0, q] : Fin 2 → ℕ) a + S1024x256.size a ≤ S1024x2560.size a) (v : Vec Ideal S1920x256 .f32)
    (hv : v = fun j => A ((Rect.unit (s := S1920x2560) ![0, q] S1920x256.size h).emb j))
    (x : (Rect.unit (s := S1920x2560) ![0, q] S1920x256.size h).shape.Idx) :
    k0_pay204 v (arg10.view.readCov (kernelRun0_B.sl.HS1_8 (F := Ideal) c i arg2 harg2 arg3 harg3 x0 x1) (Rect.unit (s := S1920x1024) ![0, 0] S1920x1024.size inb_S1920x1024_S1920x1024_0_0).toLoadRect)
        (arg11.view.readCov (kernelRun0_B.sl.HS2_160 (F := Ideal) c arg4 harg4 arg5 harg5 x2 x3) (Rect.unit (s := S1024x2560) ![0, q] S1024x256.size h').toLoadRect) x
      = stepG A (dlsG (i 0).val x0 x1) (eeG x2 x3) ((Rect.unit (s := S1920x2560) ![0, q] S1920x256.size h).emb x) := by
  rw [readCov_of_pieces _ (dls_pieces_B c i arg2 harg2 arg3 harg3 x0 x1) (dls_cover_B c i arg2 harg2 arg3 harg3 x0 x1),
    readCov_of_pieces _ (ee_pieces_B c arg4 harg4 arg5 harg5 x2 x3) (ee_cover_B c arg4 harg4 arg5 harg5 x2 x3), hv,
    show (fun j => dlsG (i 0).val x0 x1 ((Rect.unit (s := S1920x1024) ![0, 0] S1920x1024.size inb_S1920x1024_S1920x1024_0_0).emb j)) = dlsG (i 0).val x0 x1 from
      funext fun j => congrArg _ (emb_unit_zero hz2 _ j)]
  exact acc_piece A (dlsG (i 0).val x0 x1) (eeG x2 x3) q h h' x

/-! ## Case C: the operands -/

set_option maxHeartbeats 4000000 in
theorem ee_pieces_C (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) :
    View.PiecesOf (eeG x2 x3) (kernelRun0_C.sl.HS2_160 (F := Ideal) c arg4 harg4 arg5 harg5 x2 x3) := by
  unfold kernelRun0_C.sl.HS2_160
  repeat' (refine piecesOf_cons (ee_piece arg4 harg4 arg5 harg5 x2 x3 _ _ _ _) ?_)
  trivial

theorem ee_cover_C (c : Dev nD) (arg4 : Memref sig .tc .vmem S1024x2560 .i8) (harg4 : arg4.IsWhole) (arg5 : Memref sig .tc .vmem S1x1x1024 .f32) (harg5 : arg5.IsWhole)
    (x2 : Vec Ideal S1024x2560 .i8) (x3 : Vec Ideal S1x1x1024 .f32) (y : S1024x2560.Idx) :
    ∃ p ∈ kernelRun0_C.sl.HS2_160 (F := Ideal) c arg4 harg4 arg5 harg5 x2 x3, y ∈ p.1.set :=
  View.cover_of_tiledL (kernelRun0_C.sl.HS2_160 (F := Ideal) c arg4 harg4 arg5 harg5 x2 x3) S128x128.size (by sl_kernel_rfl) y

theorem dls_pieces_C (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) :
    View.PiecesOf (dlsG (i 0).val x0 x1) (kernelRun0_C.sl.HS1_8 (F := Ideal) c i arg2 harg2 arg3 harg3 x0 x1) := by
  unfold kernelRun0_C.sl.HS1_8
  refine piecesOf_cons (dls_piece arg2 harg2 arg3 harg3 x0 x1 (i 0) 7 _ rfl _ _) ?_
  refine piecesOf_cons (dls_piece arg2 harg2 arg3 harg3 x0 x1 (i 0) 6 _ rfl _ _) ?_
  refine piecesOf_cons (dls_piece arg2 harg2 arg3 harg3 x0 x1 (i 0) 5 _ rfl _ _) ?_
  refine piecesOf_cons (dls_piece arg2 harg2 arg3 harg3 x0 x1 (i 0) 4 _ rfl _ _) ?_
  refine piecesOf_cons (dls_piece arg2 harg2 arg3 harg3 x0 x1 (i 0) 3 _ rfl _ _) ?_
  refine piecesOf_cons (dls_piece arg2 harg2 arg3 harg3 x0 x1 (i 0) 2 _ rfl _ _) ?_
  refine piecesOf_cons (dls_piece arg2 harg2 arg3 harg3 x0 x1 (i 0) 1 _ rfl _ _) ?_
  refine piecesOf_cons (dls_piece arg2 harg2 arg3 harg3 x0 x1 (i 0) 0 _ rfl _ _) ?_
  trivial

theorem dls_cover_C (c : Dev nD) (i : grid0.Coords) (arg2 : Memref sig .tc .vmem S1920x1024 .fp8e5m2) (harg2 : arg2.IsWhole) (arg3 : Memref sig .tc .vmem S1920x128 .f32) (harg3 : arg3.IsWhole)
    (x0 : Vec Ideal S1920x1024 .fp8e5m2) (x1 : Vec Ideal S1920x128 .f32) (y : S1920x1024.Idx) :
    ∃ p ∈ kernelRun0_C.sl.HS1_8 (F := Ideal) c i arg2 harg2 arg3 harg3 x0 x1, y ∈ p.1.set :=
  View.cover_of_tiledL (kernelRun0_C.sl.HS1_8 (F := Ideal) c i arg2 harg2 arg3 harg3 x0 x1) S1920x128.size (by sl_kernel_rfl) y

/-- A column block of the accumulator, whatever the accumulator held there. -/
theorem acc_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) (A : Vec Ideal S1920x2560 .f32) (q : ℕ)
    (h : ∀ a, (![0, q] : Fin 2 → ℕ) a + S1920x256.size a ≤ S1920x2560.size a)
    (h' : ∀ a, (![0, q] : Fin 2 → ℕ) a + S1024x256.size a ≤ S1024x2560.size a) (v : Vec Ideal S1920x256 .f32)
    (hv : v = fun j => A ((Rect.unit (s := S1920x2560) ![0, q] S1920x256.size h).emb j))
    (x : (Rect.unit (s := S1920x2560) ![0, q] S1920x256.size h).shape.Idx) :
    k0_pay204 v (arg10.view.readCov (kernelRun0_C.sl.HS1_8 (F := Ideal) c i arg2 harg2 arg3 harg3 x0 x1) (Rect.unit (s := S1920x1024) ![0, 0] S1920x1024.size inb_S1920x1024_S1920x1024_0_0).toLoadRect)
        (arg11.view.readCov (kernelRun0_C.sl.HS2_160 (F := Ideal) c arg4 harg4 arg5 harg5 x2 x3) (Rect.unit (s := S1024x2560) ![0, q] S1024x256.size h').toLoadRect) x
      = stepG A (dlsG (i 0).val x0 x1) (eeG x2 x3) ((Rect.unit (s := S1920x2560) ![0, q] S1920x256.size h).emb x) := by
  rw [readCov_of_pieces _ (dls_pieces_C c i arg2 harg2 arg3 harg3 x0 x1) (dls_cover_C c i arg2 harg2 arg3 harg3 x0 x1),
    readCov_of_pieces _ (ee_pieces_C c arg4 harg4 arg5 harg5 x2 x3) (ee_cover_C c arg4 harg4 arg5 harg5 x2 x3), hv,
    show (fun j => dlsG (i 0).val x0 x1 ((Rect.unit (s := S1920x1024) ![0, 0] S1920x1024.size inb_S1920x1024_S1920x1024_0_0).emb j)) = dlsG (i 0).val x0 x1 from
      funext fun j => congrArg _ (emb_unit_zero hz2 _ j)]
  exact acc_piece A (dlsG (i 0).val x0 x1) (eeG x2 x3) q h h' x

/-! ## Case A: from zero -/

/-- The zeros the first point stores. -/
abbrev zeroG : Vec Ideal S1920x2560 .f32 := k0_pay2 (F := Ideal)

theorem zero_A_0 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1483 (F := Ideal) c arg9 = fun j => zeroG ((Rect.unit (s := S1920x2560) ![0, 0] S1920x256.size inb_S1920x2560_S1920x256_0_0).emb j) := by
  unfold kernelRun0_A.sl.v1483 kernelRun0_A.sl.HS0_1
  rw [View.readCov_fill _ _ _ _ _ (by intro a; fin_cases a <;> rfl)]; exact ld_rect _ _

theorem zero_A_1 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1491 (F := Ideal) c i arg2 harg2 arg3 harg3 arg4 harg4 arg5 harg5 arg9 arg10 arg11 x0 x1 x2 x3 = fun j => zeroG ((Rect.unit (s := S1920x2560) ![0, 256] S1920x256.size inb_S1920x2560_S1920x256_0_256).emb j) := by
  unfold kernelRun0_A.sl.v1491 kernelRun0_A.sl.HS0_2 kernelRun0_A.sl.HS0_1
  rw [View.readCov_skip _ _ _ _ _ (by decide)]
  rw [View.readCov_fill _ _ _ _ _ (by intro a; fin_cases a <;> rfl)]; exact ld_rect _ _

theorem zero_A_2 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1499 (F := Ideal) c i arg2 harg2 arg3 harg3 arg4 harg4 arg5 harg5 arg9 arg10 arg11 x0 x1 x2 x3 = fun j => zeroG ((Rect.unit (s := S1920x2560) ![0, 512] S1920x256.size inb_S1920x2560_S1920x256_0_512).emb j) := by
  unfold kernelRun0_A.sl.v1499 kernelRun0_A.sl.HS0_3 kernelRun0_A.sl.HS0_2 kernelRun0_A.sl.HS0_1
  rw [View.readCov_skip _ _ _ _ _ (by decide)]
  rw [View.readCov_skip _ _ _ _ _ (by decide)]
  rw [View.readCov_fill _ _ _ _ _ (by intro a; fin_cases a <;> rfl)]; exact ld_rect _ _

theorem zero_A_3 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1507 (F := Ideal) c i arg2 harg2 arg3 harg3 arg4 harg4 arg5 harg5 arg9 arg10 arg11 x0 x1 x2 x3 = fun j => zeroG ((Rect.unit (s := S1920x2560) ![0, 768] S1920x256.size inb_S1920x2560_S1920x256_0_768).emb j) := by
  unfold kernelRun0_A.sl.v1507 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_4 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1515 (F := Ideal) c i arg2 harg2 arg3 harg3 arg4 harg4 arg5 harg5 arg9 arg10 arg11 x0 x1 x2 x3 = fun j => zeroG ((Rect.unit (s := S1920x2560) ![0, 1024] S1920x256.size inb_S1920x2560_S1920x256_0_1024).emb j) := by
  unfold kernelRun0_A.sl.v1515 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_5 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1523 (F := Ideal) c i arg2 harg2 arg3 harg3 arg4 harg4 arg5 harg5 arg9 arg10 arg11 x0 x1 x2 x3 = fun j => zeroG ((Rect.unit (s := S1920x2560) ![0, 1280] S1920x256.size inb_S1920x2560_S1920x256_0_1280).emb j) := by
  unfold kernelRun0_A.sl.v1523 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_6 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1531 (F := Ideal) c i arg2 harg2 arg3 harg3 arg4 harg4 arg5 harg5 arg9 arg10 arg11 x0 x1 x2 x3 = fun j => zeroG ((Rect.unit (s := S1920x2560) ![0, 1536] S1920x256.size inb_S1920x2560_S1920x256_0_1536).emb j) := by
  unfold kernelRun0_A.sl.v1531 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_7 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1539 (F := Ideal) c i arg2 harg2 arg3 harg3 arg4 harg4 arg5 harg5 arg9 arg10 arg11 x0 x1 x2 x3 = fun j => zeroG ((Rect.unit (s := S1920x2560) ![0, 1792] S1920x256.size inb_S1920x2560_S1920x256_0_1792).emb j) := by
  unfold kernelRun0_A.sl.v1539 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_8 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1547 (F := Ideal) c i arg2 harg2 arg3 harg3 arg4 harg4 arg5 harg5 arg9 arg10 arg11 x0 x1 x2 x3 = fun j => zeroG ((Rect.unit (s := S1920x2560) ![0, 2048] S1920x256.size inb_S1920x2560_S1920x256_0_2048).emb j) := by
  unfold kernelRun0_A.sl.v1547 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

theorem zero_A_9 (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg9 : Memref sig .tc .vmem S1920x2560 .f32) (arg10 : Memref sig .tc .vmem S1920x1024 .bf16) (arg11 : Memref sig .tc .vmem S1024x2560 .bf16)
    (x0 : Vec Ideal S1920x1024 .fp8e5m2) (x1 : Vec Ideal S1920x128 .f32) (x2 : Vec Ideal S1024x2560 .i8) (x3 : Vec Ideal S1x1x1024 .f32) :
    kernelRun0_A.sl.v1555 (F := Ideal) c i arg2 harg2 arg3 harg3 arg4 harg4 arg5 harg5 arg9 arg10 arg11 x0 x1 x2 x3 = fun j => zeroG ((Rect.unit (s := S1920x2560) ![0, 2304] S1920x256.size inb_S1920x2560_S1920x256_0_2304).emb j) := by
  unfold kernelRun0_A.sl.v1555 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_fill _ _ _ _ _ (by intro a; fin_cases a <;> rfl)]; exact ld_rect _ _

set_option maxHeartbeats 4000000 in
theorem acc_pieces_A (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) :
    View.PiecesOf (stepG zeroG (dlsG (i 0).val x0 x1) (eeG x2 x3)) ((kernelRun0_A c i arg2 harg2 arg3 harg3 arg4 harg4 arg5 harg5 arg7 harg7 arg9 harg9 arg10 harg10 arg11 harg11 hc0 hc1 ft hb fh x0 x1 x2 x3).2.1.take 10) := by
  unfold kernelRun0_A
  dsimp only
  unfold kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  refine piecesOf_cons (acc_A c i arg2 harg2 arg3 harg3 arg4 harg4 arg5 harg5 arg10 arg11 x0 x1 x2 x3 _ _ _ _ _ (zero_A_9 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_8 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_7 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_6 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_5 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_4 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_3 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_2 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_1 c i arg2 harg2 arg3 harg3 arg4 harg4 arg5 harg5 arg9 arg10 arg11 x0 x1 x2 x3)) ?_
  refine piecesOf_cons (acc_A c i arg2 harg2 arg3 harg3 arg4 harg4 arg5 harg5 arg10 arg11 x0 x1 x2 x3 _ _ _ _ _ (zero_A_0 c i arg2 harg2 arg3 harg3 arg4 harg4 arg5 harg5 arg9 arg10 arg11 x0 x1 x2 x3)) ?_
  trivial

theorem sout_A (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : cond0_0 i) (hc1 : ¬cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) :
    sout0_A_0 c i arg2 harg2 arg3 harg3 arg4 harg4 arg5 harg5 arg7 harg7 arg9 harg9 arg10 harg10 arg11 harg11 hc0 hc1 ft hb fh x0 x1 x2 x3 = stepG zeroG (dlsG (i 0).val x0 x1) (eeG x2 x3) := by
  unfold sout0_A_0
  rw [View.read_writes_eq_canon _ _ _ (scover0_A_0 c i arg2 harg2 arg3 harg3 arg4 harg4 arg5 harg5 arg7 harg7 arg9 harg9 arg10 harg10 arg11 harg11 hc0 hc1 ft hb fh x0 x1 x2 x3)]
  funext y
  have hc := View.cover_of_tiledL ((kernelRun0_A c i arg2 harg2 arg3 harg3 arg4 harg4 arg5 harg5 arg7 harg7 arg9 harg9 arg10 harg10 arg11 harg11 hc0 hc1 ft hb fh x0 x1 x2 x3).2.1.take 10) S1920x256.size (by sl_kernel_rfl) y
  have h := View.canon_append_of_piecesOf _ ((kernelRun0_A c i arg2 harg2 arg3 harg3 arg4 harg4 arg5 harg5 arg7 harg7 arg9 harg9 arg10 harg10 arg11 harg11 hc0 hc1 ft hb fh x0 x1 x2 x3).2.1.drop 10) _ (acc_pieces_A c i arg2 harg2 arg3 harg3 arg4 harg4 arg5 harg5 arg7 harg7 arg9 harg9 arg10 harg10 arg11 harg11 hc0 hc1 ft hb fh x0 x1 x2 x3) y hc
  rwa [List.take_append_drop] at h

/-! ## Case B: onto what the point before left -/

set_option maxHeartbeats 4000000 in
theorem acc_pieces_B (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) (xs0 : Vec Ideal S1920x2560 .f32) :
    View.PiecesOf (stepG xs0 (dlsG (i 0).val x0 x1) (eeG x2 x3)) (kernelRun0_B c i arg2 harg2 arg3 harg3 arg4 harg4 arg5 harg5 arg7 harg7 arg9 harg9 arg10 harg10 arg11 harg11 hc0 hc1 ft hb fh x0 x1 x2 x3 xs0).2.1 := by
  unfold kernelRun0_B
  dsimp only
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  refine piecesOf_cons (acc_B c i arg2 harg2 arg3 harg3 arg4 harg4 arg5 harg5 arg10 arg11 x0 x1 x2 x3 _ _ _ _ _ (read_rect arg9 harg9 xs0 _)) ?_
  trivial

theorem sout_B (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : ¬cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) (xs0 : Vec Ideal S1920x2560 .f32) :
    sout0_B_0 c i arg2 harg2 arg3 harg3 arg4 harg4 arg5 harg5 arg7 harg7 arg9 harg9 arg10 harg10 arg11 harg11 hc0 hc1 ft hb fh x0 x1 x2 x3 xs0 = stepG xs0 (dlsG (i 0).val x0 x1) (eeG x2 x3) := by
  unfold sout0_B_0
  rw [View.read_writes_eq_canon _ _ _ (scover0_B_0 c i arg2 harg2 arg3 harg3 arg4 harg4 arg5 harg5 arg7 harg7 arg9 harg9 arg10 harg10 arg11 harg11 hc0 hc1 ft hb fh x0 x1 x2 x3 xs0)]
  exact funext fun y => View.canon_apply_of_pieces _ _ (acc_pieces_B c i arg2 harg2 arg3 harg3 arg4 harg4 arg5 harg5 arg7 harg7 arg9 harg9 arg10 harg10 arg11 harg11 hc0 hc1 ft hb fh x0 x1 x2 x3 xs0).mem y (scover0_B_0 c i arg2 harg2 arg3 harg3 arg4 harg4 arg5 harg5 arg7 harg7 arg9 harg9 arg10 harg10 arg11 harg11 hc0 hc1 ft hb fh x0 x1 x2 x3 xs0 y)

/-! ## Case C: onto what the point before left -/

set_option maxHeartbeats 4000000 in
theorem acc_pieces_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) (xs0 : Vec Ideal S1920x2560 .f32) :
    View.PiecesOf (stepG xs0 (dlsG (i 0).val x0 x1) (eeG x2 x3)) (kernelRun0_C c i arg2 harg2 arg3 harg3 arg4 harg4 arg5 harg5 arg7 harg7 arg9 harg9 arg10 harg10 arg11 harg11 hc0 hc1 ft hb fh x0 x1 x2 x3 xs0).2.1 := by
  unfold kernelRun0_C
  dsimp only
  unfold kernelRun0_C.sl.HS0_10
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  refine piecesOf_cons (acc_C c i arg2 harg2 arg3 harg3 arg4 harg4 arg5 harg5 arg10 arg11 x0 x1 x2 x3 _ _ _ _ _ (read_rect arg9 harg9 xs0 _)) ?_
  trivial

theorem sout_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) (xs0 : Vec Ideal S1920x2560 .f32) :
    sout0_C_0 c i arg2 harg2 arg3 harg3 arg4 harg4 arg5 harg5 arg7 harg7 arg9 harg9 arg10 harg10 arg11 harg11 hc0 hc1 ft hb fh x0 x1 x2 x3 xs0 = stepG xs0 (dlsG (i 0).val x0 x1) (eeG x2 x3) := by
  unfold sout0_C_0
  rw [View.read_writes_eq_canon _ _ _ (scover0_C_0 c i arg2 harg2 arg3 harg3 arg4 harg4 arg5 harg5 arg7 harg7 arg9 harg9 arg10 harg10 arg11 harg11 hc0 hc1 ft hb fh x0 x1 x2 x3 xs0)]
  exact funext fun y => View.canon_apply_of_pieces _ _ (acc_pieces_C c i arg2 harg2 arg3 harg3 arg4 harg4 arg5 harg5 arg7 harg7 arg9 harg9 arg10 harg10 arg11 harg11 hc0 hc1 ft hb fh x0 x1 x2 x3 xs0).mem y (scover0_C_0 c i arg2 harg2 arg3 harg3 arg4 harg4 arg5 harg5 arg7 harg7 arg9 harg9 arg10 harg10 arg11 harg11 hc0 hc1 ft hb fh x0 x1 x2 x3 xs0 y)

/-- The result's block at the last point: the accumulator, rounded. -/
theorem out_C (c : Dev nD) (i : grid0.Coords) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg7 : Memref sig .tc .vmem S1920x2560 .bf16) (harg7 : arg7.IsWhole) (arg9 : Memref sig .tc .vmem S1920x2560 .f32) (harg9 : arg9.IsWhole) (arg10 : Memref sig .tc .vmem S1920x1024 .bf16) (harg10 : arg10.IsWhole) (arg11 : Memref sig .tc .vmem S1024x2560 .bf16) (harg11 : arg11.IsWhole) (hc0 : ¬cond0_0 i) (hc1 : cond0_1 i)
    (ft : MBuf (F := Ideal) c tbM) (hb : ∀ j, (ft j).toNat < 1920) (fh : MBuf (F := Ideal) c hbS)
    (x0 : Vec Ideal S1920x1024 .fp8e5m2) (x1 : Vec Ideal S1920x128 .f32) (x2 : Vec Ideal S1024x2560 .i8) (x3 : Vec Ideal S1x1x1024 .f32) (xs0 : Vec Ideal S1920x2560 .f32) :
    out0_C_4 c i arg2 harg2 arg3 harg3 arg4 harg4 arg5 harg5 arg7 harg7 arg9 harg9 arg10 harg10 arg11 harg11 hc0 hc1 ft hb fh x0 x1 x2 x3 xs0 = k0_pay1 (stepG xs0 (dlsG (i 0).val x0 x1) (eeG x2 x3)) := by
  have h := readCov_of_pieces arg9.view (acc_pieces_C c i arg2 harg2 arg3 harg3 arg4 harg4 arg5 harg5 arg7 harg7 arg9 harg9 arg10 harg10 arg11 harg11 hc0 hc1 ft hb fh x0 x1 x2 x3 xs0) (scover0_C_0 c i arg2 harg2 arg3 harg3 arg4 harg4 arg5 harg5 arg7 harg7 arg9 harg9 arg10 harg10 arg11 harg11 hc0 hc1 ft hb fh x0 x1 x2 x3 xs0)
    (Rect.unit (s := S1920x2560) ![0, 0] S1920x2560.size inb_S1920x2560_S1920x2560_0_0)
  rw [show (fun j => stepG xs0 (dlsG (i 0).val x0 x1) (eeG x2 x3) ((Rect.unit (s := S1920x2560) ![0, 0] S1920x2560.size inb_S1920x2560_S1920x2560_0_0).emb j))
      = stepG xs0 (dlsG (i 0).val x0 x1) (eeG x2 x3) from funext fun j => congrArg _ (emb_unit_zero hz2 _ j)] at h
  unfold out0_C_4
  rw [View.read_writes_eq_canon _ _ _ (cover0_C_4 c i arg2 harg2 arg3 harg3 arg4 harg4 arg5 harg5 arg7 harg7 arg9 harg9 arg10 harg10 arg11 harg11 hc0 hc1 ft hb fh x0 x1 x2 x3 xs0), ← h]
  unfold kernelRun0_C
  dsimp only
  rw [View.canon_unit_zero hz2]
  rfl

end Cert.KernelIdeal.Hand

end
-- ==== Proof.Hand.Spec.lean ====
/-
  Hand-written. The mathematics both programs compute: the gradient of the hidden states, row by row and column by
  column, as one sum over the vocabulary of the dequantised logits' gradient times the dequantised table.
-/
module

public import proofs.«01_k».proof.KernelIdeal
public import Idealize.ShloMosaic.Lib.Pointwise

@[expose] public section

noncomputable section

namespace Cert.Spec

open Cert.KernelIdeal Idealize.ShloMosaic
open scoped BigOperators

/-- One word of the vocabulary's contribution to row `r`, column `d`: the logit's gradient there, times the scale of its
    row and of the word's group of 128, times the table's code at the word and the column, times the word's scale. -/
def term (a0 : Vec Ideal S3x640x49152 .fp8e5m2) (a1 : Vec Ideal S3x640x384 .f32) (a2 : Vec Ideal S49152x2560 .i8) (a3 : Vec Ideal S49152 .f32)
    (r : Fin 1920) (d : Fin 2560) (v : Fin 49152) : EReal :=
  ((a0 (ix3 (⟨r.val / 640, by omega⟩ : Fin 3) (⟨r.val % 640, by omega⟩ : Fin 640) v) : EReal)
      * a1 (ix3 (⟨r.val / 640, by omega⟩ : Fin 3) (⟨r.val % 640, by omega⟩ : Fin 640) (⟨v.val / 128, by omega⟩ : Fin 384)))
    * (((BitVec.toInt (a2 (ix2 v d)) : ℝ) : EReal) * a3 (ix1 v))

/-- The gradient of the hidden states. -/
def dh (a0 : Vec Ideal S3x640x49152 .fp8e5m2) (a1 : Vec Ideal S3x640x384 .f32) (a2 : Vec Ideal S49152x2560 .i8) (a3 : Vec Ideal S49152 .f32) :
    Vec Ideal S1920x2560 .bf16 :=
  fun y => ((∑ v : Fin 49152, term a0 a1 a2 a3 (y 0) (y 1) v : EReal))

end Cert.Spec

end
-- ==== Proof.Hand.KernelIdeal.Fold.lean ====
/-
  Hand-written. The accumulator after each grid point is the sum over the part of the vocabulary seen so far, so the
  result the last point writes back is the sum over the whole of it.
-/
module

public import proofs.«01_k».proof.Proof.Hand.KernelIdeal.Step
public import proofs.«01_k».proof.Proof.Hand.Spec

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the region reads -/

/-- The four arguments the result is computed from. -/
abbrev a0 (c : Dev nD) : Vec Ideal S3x640x49152 .fp8e5m2 := m ((c : Thread nD τ).loc main_arg0)
abbrev a1 (c : Dev nD) : Vec Ideal S3x640x384 .f32 := m ((c : Thread nD τ).loc main_arg1)
abbrev a2 (c : Dev nD) : Vec Ideal S49152x2560 .i8 := m ((c : Thread nD τ).loc main_arg2)
abbrev a3 (c : Dev nD) : Vec Ideal S49152 .f32 := m ((c : Thread nD τ).loc main_arg3)

theorem V_v0 (c : Dev nD) : (V m c main_v0 : Vec Ideal S1920x49152 .fp8e5m2) = shapeCast S1920x49152 (a0 m c) shapeCasts_S3x640x49152_S1920x49152 := by
  show StableHlo.after (opss (F := Ideal)).flatten _ (Proc.devRef .tc main_v0) = _
  simp only [opss, hostOps0, hostOps0_1, hostOps0_2, List.flatten_cons, List.flatten_nil, List.cons_append, List.nil_append, List.append_nil]
  after_results
  try rfl
theorem V_v1 (c : Dev nD) : (V m c main_v1 : Vec Ideal S1920x384 .f32) = shapeCast S1920x384 (a1 m c) shapeCasts_S3x640x384_S1920x384 := by
  show StableHlo.after (opss (F := Ideal)).flatten _ (Proc.devRef .tc main_v1) = _
  simp only [opss, hostOps0, hostOps0_1, hostOps0_2, List.flatten_cons, List.flatten_nil, List.cons_append, List.nil_append, List.append_nil]
  after_results
  try rfl
theorem V_v2 (c : Dev nD) : (V m c main_v2 : Vec Ideal S48x1x1024 .f32) = shapeCast S48x1x1024 (a3 m c) shapeCasts_S49152_S48x1x1024 := by
  show StableHlo.after (opss (F := Ideal)).flatten _ (Proc.devRef .tc main_v2) = _
  simp only [opss, hostOps0, hostOps0_1, hostOps0_2, List.flatten_cons, List.flatten_nil, List.cons_append, List.nil_append, List.append_nil]
  after_results
  try rfl

/-! ## The blocks of a point -/

theorem ix_0 : ∀ t : Fin grid0.N, cc0_transform_0 (grid0.coords t) = ![0, t.val] := by decide +kernel
theorem ix_1 : ∀ t : Fin grid0.N, cc0_transform_1 (grid0.coords t) = ![0, t.val / 16] := by decide +kernel
theorem ix_2 : ∀ t : Fin grid0.N, cc0_transform_2 (grid0.coords t) = ![t.val, 0] := by decide +kernel
theorem ix_3 : ∀ t : Fin grid0.N, cc0_transform_3 (grid0.coords t) = ![t.val, 0, 0] := by decide +kernel

theorem lt48 (t : Fin (cfgM m).N) : t.val < 48 := lt_of_lt_of_eq t.isLt N_0

/-- The four blocks of point `t`. -/
def blk0 (c : Dev nD) (t : Fin (cfgM m).N) : Vec Ideal S1920x1024 .fp8e5m2 := iblk m c 0 t
def blk1 (c : Dev nD) (t : Fin (cfgM m).N) : Vec Ideal S1920x128 .f32 := iblk m c 1 t
def blk2 (c : Dev nD) (t : Fin (cfgM m).N) : Vec Ideal S1024x2560 .i8 := iblk m c 2 t
def blk3 (c : Dev nD) (t : Fin (cfgM m).N) : Vec Ideal S1x1x1024 .f32 := iblk m c 3 t

theorem iblk_0 (c : Dev nD) (t : Fin (cfgM m).N) (r : Fin 1920) (k : Fin 1024) :
    blk0 m c t (ix2 r k)
      = a0 m c (ix3 (⟨r.val / 640, by omega⟩ : Fin 3) (⟨r.val % 640, by omega⟩ : Fin 640)
          (⟨1024 * t.val + k.val, by have := lt48 m t; omega⟩ : Fin 49152)) := by
  have ht := lt48 m t
  have e : blk0 m c t (ix2 r k)
      = (V m c main_v0 : Vec Ideal S1920x49152 .fp8e5m2) (ix2 r (⟨1024 * t.val + k.val, by omega⟩ : Fin 49152)) := by
    refine congrArg (V m c main_v0) (funext fun a => Fin.ext ?_)
    match a with
    | ⟨0, _⟩ => show cc0_transform_0 (grid0.coords t) 0 * 1920 + 1 * r.val = r.val
                rw [ix_0]; show 0 * 1920 + 1 * r.val = r.val; omega
    | ⟨1, _⟩ => show cc0_transform_0 (grid0.coords t) 1 * 1024 + 1 * k.val = 1024 * t.val + k.val
                rw [ix_0]; show t.val * 1024 + 1 * k.val = 1024 * t.val + k.val; omega
  rw [e, V_v0]
  pointwise

theorem iblk_1 (c : Dev nD) (t : Fin (cfgM m).N) (r : Fin 1920) (l : Fin 128) :
    blk1 m c t (ix2 r l)
      = a1 m c (ix3 (⟨r.val / 640, by omega⟩ : Fin 3) (⟨r.val % 640, by omega⟩ : Fin 640)
          (⟨128 * (t.val / 16) + l.val, by have := lt48 m t; omega⟩ : Fin 384)) := by
  have ht := lt48 m t
  have e : blk1 m c t (ix2 r l)
      = (V m c main_v1 : Vec Ideal S1920x384 .f32) (ix2 r (⟨128 * (t.val / 16) + l.val, by omega⟩ : Fin 384)) := by
    refine congrArg (V m c main_v1) (funext fun a => Fin.ext ?_)
    match a with
    | ⟨0, _⟩ => show cc0_transform_1 (grid0.coords t) 0 * 1920 + 1 * r.val = r.val
                rw [ix_1]; show 0 * 1920 + 1 * r.val = r.val; omega
    | ⟨1, _⟩ => show cc0_transform_1 (grid0.coords t) 1 * 128 + 1 * l.val = 128 * (t.val / 16) + l.val
                rw [ix_1]; show t.val / 16 * 128 + 1 * l.val = 128 * (t.val / 16) + l.val; omega
  rw [e, V_v1]
  pointwise

theorem iblk_2 (c : Dev nD) (t : Fin (cfgM m).N) (k : Fin 1024) (d : Fin 2560) :
    blk2 m c t (ix2 k d)
      = a2 m c (ix2 (⟨1024 * t.val + k.val, by have := lt48 m t; omega⟩ : Fin 49152) d) := by
  have ht := lt48 m t
  have e : blk2 m c t (ix2 k d)
      = (V m c main_arg2 : Vec Ideal S49152x2560 .i8) (ix2 (⟨1024 * t.val + k.val, by omega⟩ : Fin 49152) d) := by
    refine congrArg (V m c main_arg2) (funext fun a => Fin.ext ?_)
    match a with
    | ⟨0, _⟩ => show cc0_transform_2 (grid0.coords t) 0 * 1024 + 1 * k.val = 1024 * t.val + k.val
                rw [ix_2]; show t.val * 1024 + 1 * k.val = 1024 * t.val + k.val; omega
    | ⟨1, _⟩ => show cc0_transform_2 (grid0.coords t) 1 * 2560 + 1 * d.val = d.val
                rw [ix_2]; show 0 * 2560 + 1 * d.val = d.val; omega
  rw [e, V_main_arg2]

theorem iblk_3 (c : Dev nD) (t : Fin (cfgM m).N) (k : Fin 1024) :
    blk3 m c t (ix3 (0 : Fin 1) (0 : Fin 1) k)
      = a3 m c (ix1 (⟨1024 * t.val + k.val, by have := lt48 m t; omega⟩ : Fin 49152)) := by
  have ht := lt48 m t
  have e : blk3 m c t (ix3 (0 : Fin 1) (0 : Fin 1) k)
      = (V m c main_v2 : Vec Ideal S48x1x1024 .f32) (ix3 (⟨t.val, ht⟩ : Fin 48) (0 : Fin 1) k) := by
    refine congrArg (V m c main_v2) (funext fun a => Fin.ext ?_)
    match a with
    | ⟨0, _⟩ => show cc0_transform_3 (grid0.coords t) 0 * 1 + 1 * 0 = t.val
                rw [ix_3]; show t.val * 1 + 1 * 0 = t.val; omega
    | ⟨1, _⟩ => show cc0_transform_3 (grid0.coords t) 1 * 1 + 1 * 0 = 0
                rw [ix_3]; rfl
    | ⟨2, _⟩ => show cc0_transform_3 (grid0.coords t) 2 * 1024 + 1 * k.val = k.val
                rw [ix_3]; show 0 * 1024 + 1 * k.val = k.val; omega
  rw [e, V_v2]
  refine shapeCast_apply _ _ _ _ ?_
  rw [Shape.rowMajor_val_one, Shape.rowMajor_val_three]
  show 1024 * t.val + k.val = (t.val * 1 + 0) * 1024 + k.val
  omega

/-! ## One point's addition -/

/-- The two operands of point `t`. -/
abbrev opL (c : Dev nD) (t : Fin (cfgM m).N) : Vec Ideal S1920x1024 .bf16 := dlsG t.val (blk0 m c t) (blk1 m c t)
abbrev opR (c : Dev nD) (t : Fin (cfgM m).N) : Vec Ideal S1024x2560 .bf16 := eeG (blk2 m c t) (blk3 m c t)

/-- The terms of the sum, from any natural number. -/
def termN (c : Dev nD) (r : Fin 1920) (d : Fin 2560) (v : ℕ) : EReal :=
  if h : v < 49152 then Spec.term (a0 m c) (a1 m c) (a2 m c) (a3 m c) r d ⟨v, h⟩ else 0

theorem op_term (c : Dev nD) (t : Fin (cfgM m).N) (r : Fin 1920) (d : Fin 2560) (k : Fin 1024) :
    (opL m c t (ix2 r k) * opR m c t (ix2 k d) : EReal) = termN m c r d (1024 * t.val + k.val) := by
  have ht := lt48 m t
  have hv : 1024 * t.val + k.val < 49152 := by omega
  unfold termN
  rw [dif_pos hv]
  unfold opL opR dlsG eeG Spec.term
  show (blk0 m c t (ix2 r k) : EReal)
      * blk1 m c t (ix2 r (⟨(8 * t.val + k.val / 128) % 128, Nat.mod_lt _ (by decide)⟩ : Fin 128))
    * (((BitVec.toInt (blk2 m c t (ix2 k d)) : ℝ) : EReal)
      * blk3 m c t (ix3 (0 : Fin 1) (0 : Fin 1) k)) = _
  rw [iblk_0, iblk_1, iblk_2, iblk_3]
  congr 6
  show 128 * (t.val / 16) + (8 * t.val + k.val / 128) % 128 = (1024 * t.val + k.val) / 128
  omega

theorem step_apply (c : Dev nD) (t : Fin (cfgM m).N) (A : Vec Ideal S1920x2560 .f32) (y : S1920x2560.Idx) :
    (stepG A (opL m c t) (opR m c t) y : EReal) = A y + ∑ k ∈ Finset.range 1024, termN m c (y 0) (y 1) (1024 * t.val + k) := by
  unfold stepG
  rw [Finset.sum_range]
  exact congrArg (fun z : EReal => (A y : EReal) + z) (Finset.sum_congr rfl fun k _ => op_term m c t (y 0) (y 1) k)

theorem zero_apply (y : S1920x2560.Idx) : (zeroG y : EReal) = 0 := Ideal.ofBits_zero_f32

/-! ## The accumulator after each point -/

theorem coord : ∀ t : Fin grid0.N, (grid0.coords t 0).val = t.val := fun t => by
  have ht : t.val < 48 := Nat.lt_of_lt_of_eq t.isLt N_0
  have e0 : (grid0.coords t 0).val = t.val / 1 % 48 := Pipeline.Grid.coords_val t 0 (by decide) rfl
  omega

/-- What a point leaves in the accumulator, in the three cases, and in the result's block at the last. -/
theorem left_A (c : Dev nD) (t : Fin (cfgM m).N) (h0 : t.val % 48 = 0) (h1 : ¬t.val % 48 = 47) :
    (outsAt0 m c t.val t.isLt).2 = stepG zeroG (opL m c t) (opR m c t) := by
  rw [outsAt0_A m c t h0 h1]
  have h := sout_A c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) ((hcond0_0 t).mpr h0) (fun h => h1 ((hcond0_1 t).mp h)) (V m c main_v11) (order_bound m c) (V m c main_v3) (iblk m c 0 t) (iblk m c 1 t) (iblk m c 2 t) (iblk m c 3 t)
  rw [coord t] at h
  dsimp only
  unfold opL opR blk0 blk1 blk2 blk3
  exact h
theorem left_B (c : Dev nD) (t : Fin (cfgM m).N) (h0 : ¬t.val % 48 = 0) (h1 : ¬t.val % 48 = 47) :
    (outsAt0 m c t.val t.isLt).2 = stepG (outsAt0 m c (t.val - 1) (Nat.lt_of_le_of_lt (Nat.sub_le _ _) t.isLt)).2 (opL m c t) (opR m c t) := by
  rw [outsAt0_B m c t h0 h1]
  have h := sout_B c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) (fun h => h1 ((hcond0_1 t).mp h)) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2
  rw [coord t] at h
  dsimp only
  unfold opL opR blk0 blk1 blk2 blk3
  exact h
theorem left_C (c : Dev nD) (t : Fin (cfgM m).N) (h0 : ¬t.val % 48 = 0) (h1 : t.val % 48 = 47) :
    (outsAt0 m c t.val t.isLt).1 = k0_pay1 (stepG (outsAt0 m c (t.val - 1) (Nat.lt_of_le_of_lt (Nat.sub_le _ _) t.isLt)).2 (opL m c t) (opR m c t)) := by
  rw [outsAt0_C m c t h0 h1]
  have h := out_C c (grid0.coords t) (ms0_0 m t) (hs0_0 m t) (ms0_1 m t) (hs0_1 m t) (ms0_2 m t) (hs0_2 m t) (ms0_3 m t) (hs0_3 m t) (ms0_4 m t) (hs0_4 m t) scM0_0 (Memref.isWhole_whole _) scM0_1 (Memref.isWhole_whole _) scM0_2 (Memref.isWhole_whole _) (fun h => h0 ((hcond0_0 t).mp h)) ((hcond0_1 t).mpr h1) (V m c main_v11) (order_bound m c) (V m c main_v3) (iblk m c 0 t) (iblk m c 1 t) (iblk m c 2 t) (iblk m c 3 t) (outsAt0 m c (t.val - 1) (Nat.lt_of_le_of_lt (Nat.sub_le _ _) t.isLt)).2
  rw [coord t] at h
  dsimp only
  unfold opL opR blk0 blk1 blk2 blk3
  exact h

/-- After point `n` the accumulator holds the sum over the first `1024 (n + 1)` words. -/
theorem acc_apply (c : Dev nD) : ∀ (n : ℕ) (h : n < (cfgM m).N) (hn : n < 47) (y : S1920x2560.Idx),
    ((outsAt0 m c n h).2 y : EReal) = ∑ v ∈ Finset.range (1024 * (n + 1)), termN m c (y 0) (y 1) v
  | 0, h, _, y => by
    rw [show (outsAt0 m c 0 h).2 = _ from left_A m c ⟨0, h⟩ rfl (by show ¬0 % 48 = 47; omega), step_apply, zero_apply, zero_add]
    simp only [Nat.mul_zero, Nat.zero_add, Nat.mul_one]
  | n + 1, h, hn, y => by
    rw [show (outsAt0 m c (n + 1) h).2 = _ from left_B m c ⟨n + 1, h⟩ (by show ¬(n + 1) % 48 = 0; omega) (by show ¬(n + 1) % 48 = 47; omega), step_apply,
      show 1024 * (n + 1 + 1) = 1024 * (n + 1) + 1024 by omega, Finset.sum_range_add]
    exact congrArg (fun z : EReal => z + _) (acc_apply c n (Nat.lt_of_succ_lt h) (by omega) y)

/-- The result: the gradient of the hidden states. -/
abbrev result (c : Dev nD) : Buf (Elt Ideal) ((c : Thread nD τ).loc main_v12_0) := Spec.dh (a0 m c) (a1 m c) (a2 m c) (a3 m c)

theorem last_out (c : Dev nD) (t : Fin (cfgM m).N) (ht : t.val = 47) : (outsAt0 m c t.val t.isLt).1 = result m c := by
  rw [left_C m c t (by omega) (by omega)]
  funext y
  show (stepG _ (opL m c t) (opR m c t) y : EReal) = ∑ v : Fin 49152, _
  rw [step_apply, acc_apply m c (t.val - 1) _ (by omega) y, ht, show 1024 * (47 - 1 + 1) = 1024 * 47 from rfl,
    ← Finset.sum_range_add, Finset.sum_range]
  refine Finset.sum_congr rfl fun v _ => ?_
  unfold termN
  rw [dif_pos v.isLt]

/-! ## The result array -/

theorem ix_4 : ∀ t : Fin grid0.N, cc0_transform_5 (grid0.coords t) = ![0, 0] := by decide +kernel
theorem flush_47 : ∀ t : Fin (cfgM m).N, t.val = 47 → ((cfgM m).win 4).flush t = true :=
  (by decide +kernel : ∀ t : Fin grid0.N, t.val = 47 → Pipeline.Window.flushOf grid0 true cc0_transform_5 t = true)

theorem flushed_eq (c : Dev nD) (t : Fin (cfgM m).N) (hf : ((cfgM m).win 4).flush t = true) :
    (dats m 0 c).flushed 4 t = (((cfgM m).win 4).blk t).view.read (Elt Ideal) (result m c) := by
  have hN := lt48 m t
  have h47 : t.val = 47 := by
    by_contra hne
    have := noFlush0_4 m t (fun h => hne (by have := (hcond0_1 t).mp h; omega))
    rw [this] at hf; exact absurd hf (by decide)
  show ((cfgM m).win 4).cut (grid0.coords t) ((dats m 0 c).after 4 t) = _
  rw [after0_4, last_out m c t h47]
  have hz' : (fun a => cc0_transform_5 (grid0.coords t) a * S1920x2560.size a) = fun _ => 0 := by
    rw [ix_4]; funext a; fin_cases a <;> rfl
  exact (Memref.read_access_unit_zero (Elt Ideal) main_v12_0 hz' (fun a => by rw [congrFun hz' a]; simp) (result m c)).symm

/-- The last point. -/
abbrev t47 : Fin (cfgM m).N := ⟨47, by rw [show (cfgM m).N = 48 from N_0]; decide⟩

theorem final_o (c : Dev nD) : (dats m 0 c).arrAt 4 (cfgM m).N = result m c :=
  (dats m 0 c).arrAt_eq_of_cover 4 (result m c) (flushed_eq m c) fun i =>
    ⟨t47 m, flush_47 m _ rfl, by
      have hz' : (fun a => cc0_transform_5 (grid0.coords (t47 m)) a * S1920x2560.size a) = fun _ => 0 := by
        rw [ix_4]; funext a; fin_cases a <;> rfl
      have hi : ∀ a, (fun a => cc0_transform_5 (grid0.coords (t47 m)) a * S1920x2560.size a) a + S1920x2560.size a ≤ S1920x2560.size a := fun a => by
        have := congrFun hz' a; dsimp only at this ⊢; rw [this]; simp
      have h : i ∈ ((View.whole main_v12_0).slice (Rect.unit (s := S1920x2560) _ S1920x2560.size hi)).set := by
        rw [View.set_slice_whole]; exact View.mem_set_unit_zero hz' hi i
      exact h⟩

/-- The run, read: the result array holds the gradient of the hidden states, the arguments are unchanged. -/
theorem run : θ_run defs (onTc (τ := τ) (main (F := Ideal))) ⟨m, fun _ => 0, ρ⟩ fun r => ∀ c : Dev nD,
      r.2.mem ((c.tc : Thread nD τ).loc main_v12_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 4).trans (final_o m c), args_of m r h.1 c⟩) (run_main_quiescent m ρ)

end Cert.KernelIdeal.Hand

end
-- ==== Proof.Hand.ReferenceIdeal.Result.lean ====
/-
  Hand-written. The reference's result array holds the gradient of the hidden states: its one point multiplies the two
  whole operands.
-/
module

public import proofs.«01_k».proof.Proof.Gen.ReferenceIdeal.Value
public import proofs.«01_k».proof.Proof.Hand.Spec
public import Idealize.ShloMosaic.Lib.Pipeline.Value
public import Idealize.ShloMosaic.Lib.Pipeline.ReadBack
public import Idealize.ShloMosaic.Lib.MatmulPlain
public import Idealize.ShloMosaic.Lib.Tactic

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the region reads -/

/-- The four arguments the result is computed from. -/
abbrev a0 (c : Dev nD) : Vec Ideal S3x640x49152 .fp8e5m2 := m ((c : Thread nD τ).loc main_arg0)
abbrev a1 (c : Dev nD) : Vec Ideal S3x640x384 .f32 := m ((c : Thread nD τ).loc main_arg1)
abbrev a2 (c : Dev nD) : Vec Ideal S49152x2560 .i8 := m ((c : Thread nD τ).loc main_arg2)
abbrev a3 (c : Dev nD) : Vec Ideal S49152 .f32 := m ((c : Thread nD τ).loc main_arg3)

theorem V_v4 (c : Dev nD) : (V m c main_v4 : Vec Ideal S1920x49152 .fp8e5m2) = shapeCast S1920x49152 (a0 m c) shapeCasts_S3x640x49152_S1920x49152 := by
  show StableHlo.after (hostOps0 (F := Ideal)) _ (Proc.devRef .tc main_v4) = _
  simp only [hostOps0, List.flatten_cons, List.flatten_nil, List.cons_append, List.nil_append, List.append_nil]
  after_results
  try rfl

theorem V_v3 (c : Dev nD) (r : Fin 1920) (v : Fin 49152) : (V m c main_v3 : Vec Ideal S1920x49152 .bf16) (ix2 r v)
    = a1 m c (ix3 (⟨r.val / 640, by omega⟩ : Fin 3) (⟨r.val % 640, by omega⟩ : Fin 640) (⟨v.val / 128, by omega⟩ : Fin 384)) := by
  have e : (V m c main_v3 : Vec Ideal S1920x49152 .bf16)
      = shapeCast S1920x49152 (broadcastInDim S3x640x384x128 ![0, 1, 2, 3] bcast_S3x640x384x1_S3x640x384x128_0_1_2_3
          (broadcastInDim S3x640x384x1 ![0, 1, 2] bcast_S3x640x384_S3x640x384x1_0_1_2
            (truncf .bf16 (a1 m c) bitsLt_bf16_f32 : FVec Ideal S3x640x384 .bf16) : FVec Ideal S3x640x384x1 .bf16) : FVec Ideal S3x640x384x128 .bf16)
          shapeCasts_S3x640x384x128_S1920x49152 := by
    show StableHlo.after (hostOps0 (F := Ideal)) _ (Proc.devRef .tc main_v3) = _
    simp only [hostOps0, List.flatten_cons, List.flatten_nil, List.cons_append, List.nil_append, List.append_nil]
    after_results
    try rfl
  rw [e]
  pointwise

theorem V_v6 (c : Dev nD) (v : Fin 49152) : (V m c main_v6 : Vec Ideal S49152x1 .bf16) (ix2 v (0 : Fin 1)) = a3 m c (ix1 v) := by
  have e : (V m c main_v6 : Vec Ideal S49152x1 .bf16)
      = (broadcastInDim S49152x1 ![0] bcast_S49152_S49152x1_0 (truncf .bf16 (a3 m c) bitsLt_bf16_f32 : FVec Ideal S49152 .bf16) : FVec Ideal S49152x1 .bf16) := by
    show StableHlo.after (hostOps0 (F := Ideal)) _ (Proc.devRef .tc main_v6) = _
    simp only [hostOps0, List.flatten_cons, List.flatten_nil, List.cons_append, List.nil_append, List.append_nil]
    after_results
    try rfl
  rw [e]
  pointwise

/-! ## The one point -/

theorem hz2 : (![0, 0] : Fin 2 → ℕ) = fun _ => 0 := funext fun a => by fin_cases a <;> rfl

/-- The product of the two whole operands, at an index. -/
theorem pay_apply (x0 : Vec Ideal S1920x49152 .fp8e5m2) (x1 : Vec Ideal S1920x49152 .bf16) (x2 : Vec Ideal S49152x2560 .i8) (x3 : Vec Ideal S49152x1 .bf16)
    (y : S1920x2560.Idx) : (k0_pay1 x0 x1 x2 x3 y : EReal)
      = ∑ v : Fin 49152, ((x0 (ix2 (y 0) v) : EReal) * x1 (ix2 (y 0) v)) * (((BitVec.toInt (x2 (ix2 v (y 1))) : ℝ) : EReal) * x3 (ix2 v (0 : Fin 1))) := by
  unfold k0_pay1
  pointwise
  rfl

/-- The four blocks of the point are the whole arrays. -/
def blk0 (c : Dev nD) (t : Fin cfg0.N) : Vec Ideal S1920x49152 .fp8e5m2 := iblk m c 0 t
def blk1 (c : Dev nD) (t : Fin cfg0.N) : Vec Ideal S1920x49152 .bf16 := iblk m c 1 t
def blk2 (c : Dev nD) (t : Fin cfg0.N) : Vec Ideal S49152x2560 .i8 := iblk m c 2 t
def blk3 (c : Dev nD) (t : Fin cfg0.N) : Vec Ideal S49152x1 .bf16 := iblk m c 3 t

theorem idx_0 : ∀ t : Fin grid0.N, win0_0.index t = ![0, 0] := by decide +kernel
theorem idx_1 : ∀ t : Fin grid0.N, win0_1.index t = ![0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![0, 0] := by decide +kernel

theorem off_zero {f : Fin 2 → ℕ} (h : f = ![0, 0]) (s : Fin 2 → ℕ) : (fun a => f a * s a) = fun _ => 0 := by
  subst h; funext a; fin_cases a <;> simp

theorem blk0_eq (c : Dev nD) (t : Fin cfg0.N) : blk0 m c t = V m c main_v4 := by
  unfold blk0 iblk
  exact Memref.read_access_unit_zero (Elt Ideal) main_v4 (off_zero (idx_0 t) S1920x49152.size) (fun a => by rw [congrFun (off_zero (idx_0 t) S1920x49152.size) a]; simp) (V m c main_v4)
theorem blk1_eq (c : Dev nD) (t : Fin cfg0.N) : blk1 m c t = V m c main_v3 := by
  unfold blk1 iblk
  exact Memref.read_access_unit_zero (Elt Ideal) main_v3 (off_zero (idx_1 t) S1920x49152.size) (fun a => by rw [congrFun (off_zero (idx_1 t) S1920x49152.size) a]; simp) (V m c main_v3)
theorem blk2_eq (c : Dev nD) (t : Fin cfg0.N) : blk2 m c t = V m c main_arg2 := by
  unfold blk2 iblk
  exact Memref.read_access_unit_zero (Elt Ideal) main_arg2 (off_zero (idx_2 t) S49152x2560.size) (fun a => by rw [congrFun (off_zero (idx_2 t) S49152x2560.size) a]; simp) (V m c main_arg2)
theorem blk3_eq (c : Dev nD) (t : Fin cfg0.N) : blk3 m c t = V m c main_v6 := by
  unfold blk3 iblk
  exact Memref.read_access_unit_zero (Elt Ideal) main_v6 (off_zero (idx_3 t) S49152x1.size) (fun a => by rw [congrFun (off_zero (idx_3 t) S49152x1.size) a]; simp) (V m c main_v6)

theorem term_eq (c : Dev nD) (t : Fin cfg0.N) (r : Fin 1920) (d : Fin 2560) (v : Fin 49152) :
    ((blk0 m c t (ix2 r v) : EReal) * blk1 m c t (ix2 r v)) * (((BitVec.toInt (blk2 m c t (ix2 v d)) : ℝ) : EReal) * blk3 m c t (ix2 v (0 : Fin 1)))
      = Spec.term (a0 m c) (a1 m c) (a2 m c) (a3 m c) r d v := by
  rw [blk0_eq, blk1_eq, blk2_eq, blk3_eq, V_v3, V_v6, V_v4, V_main_arg2]
  unfold Spec.term
  refine congrArg (fun z : EReal => z * _ * _) ?_
  pointwise

/-- The result: the gradient of the hidden states. -/
abbrev result (c : Dev nD) : Buf (Elt Ideal) ((c : Thread nD τ).loc main_v7) := Spec.dh (a0 m c) (a1 m c) (a2 m c) (a3 m c)

theorem out_eq (c : Dev nD) (t : Fin cfg0.N) : out0_4 (blk0 m c t) (blk1 m c t) (blk2 m c t) (blk3 m c t) = result m c := by
  unfold out0_4
  rw [View.canon_unit_zero hz2]
  simp only [View.ld_unit_zero (S := S1920x49152) hz2, View.ld_unit_zero (S := S49152x2560) hz2, View.ld_unit_zero (S := S49152x1) hz2]
  funext y
  exact (pay_apply _ _ _ _ y).trans (Finset.sum_congr rfl fun v _ => term_eq m c t (y 0) (y 1) v)

theorem flushed_eq (c : Dev nD) (t : Fin cfg0.N) (hf : (cfg0.win 4).flush t = true) :
    (dats m 0 c).flushed 4 t = ((cfg0.win 4).blk t).view.read (Elt Ideal) (result m c) := by
  rw [Value.flushed4]
  refine (congrArg ((cfg0.win 4).cut (grid0.coords t)) (out_eq m c t)).trans ?_
  exact (Memref.read_access_unit_zero (Elt Ideal) main_v7 (off_zero (idx_4 t) S1920x2560.size) (fun a => by rw [congrFun (off_zero (idx_4 t) S1920x2560.size) a]; simp) (result m c)).symm

theorem final_o (c : Dev nD) : (dats m 0 c).arrAt 4 cfg0.N = result m c :=
  (dats m 0 c).arrAt_eq_of_cover 4 (result m c) (flushed_eq m c) fun i =>
    ⟨t0_0, flush0_4 t0_0, by
      have hi : ∀ a, (fun a => win0_4.index t0_0 a * S1920x2560.size a) a + S1920x2560.size a ≤ S1920x2560.size a := fun a => by
        have := congrFun (off_zero (idx_4 t0_0) S1920x2560.size) a; dsimp only at this ⊢; rw [this]; simp
      have h : i ∈ ((View.whole main_v7).slice (Rect.unit (s := S1920x2560) _ S1920x2560.size hi)).set := by
        rw [View.set_slice_whole]; exact View.mem_set_unit_zero (off_zero (idx_4 t0_0) _) hi i
      exact h⟩

/-- The run, read: the result array holds the gradient of the hidden states, the arguments are unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final_o m c), (h c).2⟩) (Value.run_blocks m ρ)

end Cert.ReferenceIdeal.Hand

end
-- ==== Proof.Hand.UpdateIdeal.Pieces.lean ====
/-
  Hand-written. The stores of one grid point of the second kernel as values: the tiles of its two operands are blocks of
  two closed forms, and the tiles of the table after the step are blocks of a third.
-/
module

public import proofs.«01_k».proof.Proof.Gen.UpdateIdeal.Frame
public import Idealize.ShloMosaic.Lib.Pipeline.Value
public import Idealize.ShloMosaic.Lib.Pipeline.ReadBack
public import Idealize.ShloMosaic.Lib.MatmulPlain
public import Idealize.ShloMosaic.Lib.Pointwise
public import Idealize.ShloMosaic.Lib.Tactic

@[expose] public section

set_option maxRecDepth 16384

noncomputable section

namespace Cert.UpdateIdeal.Hand

open Cert.UpdateIdeal Cert.UpdateIdeal.Gen
open Idealize.ShloMosaic Idealize.ShloMosaic.TcCoe Idealize.SL.Sem
open scoped BigOperators

/-- A load through a rectangle of a whole buffer holding `x` reads `x` there. -/
theorem read_rect {s : Shape} {e : EltTy} (a : Memref sig .tc .vmem s e) (h : a.IsWhole) (x : Vec Ideal s e) (R : Rect s) :
    View.readAt (Elt Ideal) a.view R.toLoadRect (h.unread x) = fun j => x (R.emb j) := by
  rw [View.readAt_eq_ld, h.read_unread]; rfl

/-- A store that is a block of `G`, over stores that are. -/
theorem piecesOf_cons {s : Shape} {e : EltTy} {G : Vec Ideal s e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

/-- A load through a box of covering stores that are blocks of `G` reads `G` there. -/
theorem readCov_of_pieces {s : Shape} {e : EltTy} (v : View sig .tc .vmem s e) {G : Vec Ideal s e} {L : List (View.Piece (Elt Ideal) s e)} (hL : View.PiecesOf G L)
    (hc : ∀ y, ∃ p ∈ L, y ∈ p.1.set) (R : Rect s) : v.readCov L R.toLoadRect = fun j => G (R.emb j) := by
  rw [View.readCov_eq_canon']
  exact funext fun j => View.canon_apply_of_pieces G L hL.mem _ (hc _)

/-- The box of the whole shape embeds each index as itself. -/
theorem emb_unit_zero {s : Shape} {off : Fin s.rank → ℕ} (h : off = fun _ => 0) (inb : ∀ a, off a + s.size a ≤ s.size a) (j : s.Idx) :
    (Rect.unit (s := s) off s.size inb).emb j = j := by
  subst h; exact Rect.emb_whole_apply _ j

theorem hz2 : (![0, 0] : Fin 2 → ℕ) = fun _ => 0 := funext fun a => by fin_cases a <;> rfl

/-! ## The right operand: the hidden states, codes times the scale of their row -/

/-- The right operand: entry `(t, d)` is the code there times the row's scale. -/
def hhG (x5 : Vec Ideal S1920x2560 .fp8e4m3) (x6 : Vec Ideal S1x1920 .f32) : Vec Ideal S1920x2560 .bf16 :=
  fun y => ((x5 y : EReal) * x6 (ix2 (0 : Fin 1) (y 0)) : EReal)

/-- A tile's value at an index. -/
theorem hh_tile (b : Vec Ideal S1x128 .f32) (a : Vec Ideal S128x128 .fp8e4m3) (x : S128x128.Idx) :
    k0_pay5 b a x = ((a x : EReal) * b (ix2 (0 : Fin 1) (x 0)) : EReal) := by
  unfold k0_pay5 k0_pay4
  pointwise

theorem hh_piece (arg6 : Memref sig .tc .vmem S1920x2560 .fp8e4m3) (harg6 : arg6.IsWhole) (arg7 : Memref sig .tc .vmem S1x1920 .f32) (harg7 : arg7.IsWhole)
    (x5 : Vec Ideal S1920x2560 .fp8e4m3) (x6 : Vec Ideal S1x1920 .f32) (r q : ℕ)
    (h : ∀ a, (![r, q] : Fin 2 → ℕ) a + S128x128.size a ≤ S1920x2560.size a) (h' : ∀ a, (![0, r] : Fin 2 → ℕ) a + S1x128.size a ≤ S1x1920.size a)
    (x : (Rect.unit (s := S1920x2560) ![r, q] S128x128.size h).shape.Idx) :
    k0_pay5 (View.readAt (Elt Ideal) arg7.view (Rect.unit (s := S1x1920) ![0, r] S1x128.size h').toLoadRect (harg7.unread x6))
        (View.readAt (Elt Ideal) arg6.view (Rect.unit (s := S1920x2560) ![r, q] S128x128.size h).toLoadRect (harg6.unread x5)) x
      = hhG x5 x6 ((Rect.unit (s := S1920x2560) ![r, q] S128x128.size h).emb x) := by
  rw [read_rect, read_rect, hh_tile]
  unfold hhG
  congr 1
  refine congrArg x6 (funext fun a => Fin.ext ?_)
  fin_cases a <;> simp

/-! ## The left operand: the logits' gradient, transposed -/

/-- The word the lane is taken at: the chunk's number in the whole row of lanes, modulo the lanes of a block. -/
abbrev laneW (w j : BitVec 32) : BitVec 32 := Scalar.remsi (Scalar.addi (Scalar.muli w 8#32) j) 128#32

theorem laneW_toNat (n : Fin 48) (j : Fin 8) : (laneW (BitVec.ofNat 32 n.val) (BitVec.ofNat 32 j.val)).toNat = (8 * n.val + j.val) % 128 := by
  revert n j; decide +kernel

/-- The left operand of a point: entry `(v, t)` is the entry at `(t, v)` times the scale of its row and lane. -/
def dltG (n : ℕ) (x1 : Vec Ideal S1920x1024 .fp8e5m2) (x2 : Vec Ideal S1920x128 .f32) : Vec Ideal S1024x1920 .bf16 :=
  fun y => ((x1 (ix2 (y 1) (y 0)) : EReal) * x2 (ix2 (y 1) (⟨(8 * n + (y 0).val / 128) % 128, Nat.mod_lt _ (by decide)⟩ : Fin 128)) : EReal)

/-- A lane below 128 is not negative, so it is taken as it stands. -/
theorem lane_select (w : BitVec 32) (hw : w.toNat < 128) : Scalar.select (IntOp.cmpi CmpIPredicate.slt w 0#32) (IntOp.addi w 128#32) w = w := by
  have hs : BitVec.slt w 0#32 = false := by
    rw [BitVec.slt_eq_decide, BitVec.toInt_eq_toNat_of_lt (by omega)]; simp
  simp [Scalar.select, IntOp.cmpi, hs]

theorem dlt_tile (b : Vec Ideal S1920x128 .f32) (a : Vec Ideal S1920x128 .fp8e5m2) (w : BitVec 32) (hw : w.toNat < 128) (x : S128x1920.Idx) :
    k0_pay369 w b a x = ((a (ix2 (x 1) (x 0)) : EReal) * b (ix2 (x 1) (⟨w.toNat, hw⟩ : Fin 128)) : EReal) := by
  unfold k0_pay369
  pointwise
  refine congrArg (fun z => (a (ix2 (x 1) (x 0)) : EReal) * b (ix2 (x 1) z)) (Fin.ext ?_)
  show _ % 128 = w.toNat
  rw [lane_select w hw, Nat.mod_eq_of_lt hw]

theorem dlt_piece (arg2 : Memref sig .tc .vmem S1920x1024 .fp8e5m2) (harg2 : arg2.IsWhole) (arg3 : Memref sig .tc .vmem S1920x128 .f32) (harg3 : arg3.IsWhole)
    (x1 : Vec Ideal S1920x1024 .fp8e5m2) (x2 : Vec Ideal S1920x128 .f32) (n : Fin 48) (j : Fin 8) (o : ℕ) (ho : o = 128 * j.val)
    (h : ∀ a, (![o, 0] : Fin 2 → ℕ) a + S128x1920.size a ≤ S1024x1920.size a)
    (h'' : ∀ a, (![0, o] : Fin 2 → ℕ) a + S1920x128.size a ≤ S1920x1024.size a) (h' : ∀ a, (![0, 0] : Fin 2 → ℕ) a + S1920x128.size a ≤ S1920x128.size a)
    (x : (Rect.unit (s := S1024x1920) ![o, 0] S128x1920.size h).shape.Idx) :
    k0_pay369 (laneW (BitVec.ofNat 32 n.val) (BitVec.ofNat 32 j.val))
        (View.readAt (Elt Ideal) arg3.view (Rect.unit (s := S1920x128) ![0, 0] S1920x128.size h').toLoadRect (harg3.unread x2))
        (View.readAt (Elt Ideal) arg2.view (Rect.unit (s := S1920x1024) ![0, o] S1920x128.size h'').toLoadRect (harg2.unread x1)) x
      = dltG n.val x1 x2 ((Rect.unit (s := S1024x1920) ![o, 0] S128x1920.size h).emb x) := by
  have hw := laneW_toNat n j
  rw [read_rect, read_rect, dlt_tile _ _ _ (by rw [hw]; exact Nat.mod_lt _ (by decide))]
  unfold dltG
  refine congrArg₂ (fun z w : EReal => z * w) (congrArg x1 (funext fun a => Fin.ext ?_)) (congrArg x2 (funext fun a => Fin.ext ?_))
  · fin_cases a <;> simp
  · have h1 : (x 0).val < 128 := (x 0).isLt
    fin_cases a
    · simp
    · simp [hw, ho]; omega

/-! ## The table after the step -/

/-- The table's block after the step: the dequantised block less the rate times the product of the two operands. -/
def wG (lr : EReal) (x3 : Vec Ideal S1024x2560 .i8) (x4 : Vec Ideal S1x1x1024 .f32) (L : Vec Ideal S1024x1920 .bf16) (R : Vec Ideal S1920x2560 .bf16) : Vec Ideal S1024x2560 .f32 :=
  fun y => ((((BitVec.toInt (x3 y) : ℝ) : EReal) * x4 (ix3 (0 : Fin 1) (0 : Fin 1) (y 0))) - lr * ∑ k : Fin 1920, (L (ix2 (y 0) k) : EReal) * R (ix2 k (y 1)) : EReal)

/-- One tile of it, as the kernel computes it: a tile of the codes times its column of scales, less the rate times a tile
    of a product of 256 columns. -/
def wTile (lr : Elt Ideal .f32) (b : Vec Ideal S1x1x128 .f32) (l : Vec Ideal S1024x1920 .bf16) (r : Vec Ideal S1920x256 .bf16) (a : Vec Ideal S128x128 .i8)
    (off : Fin 2 → ℕ) (ho : S1024x256.Slices off S128x128) : FVec Ideal S128x128 .f32 :=
  subf (extf .f32 (mulf (sitofp .bf16 a : FVec Ideal S128x128 .bf16) (k0_pay372 b)) bitsLt_bf16_f32)
    (mulf (broadcast S128x128 lr) (extractStridedSlice S128x128 off (k0_pay380 l r) ho))

theorem wTile_apply (lr : Elt Ideal .f32) (b : Vec Ideal S1x1x128 .f32) (l : Vec Ideal S1024x1920 .bf16) (r : Vec Ideal S1920x256 .bf16) (a : Vec Ideal S128x128 .i8)
    (p q : ℕ) (ho : S1024x256.Slices ![p, q] S128x128) (hp : p + 128 ≤ 1024) (hq : q + 128 ≤ 256) (x : S128x128.Idx) :
    wTile lr b l r a ![p, q] ho x = ((((BitVec.toInt (a x) : ℝ) : EReal) * b (ix3 (0 : Fin 1) (0 : Fin 1) (x 0)))
      - lr * ∑ k : Fin 1920, (l (ix2 (⟨p + (x 0).val, by have : (x 0).val < 128 := (x 0).isLt; omega⟩ : Fin 1024) k) : EReal) * r (ix2 k (⟨q + (x 1).val, by have : (x 1).val < 128 := (x 1).isLt; omega⟩ : Fin 256)) : EReal) := by
  unfold wTile k0_pay372 k0_pay380
  pointwise
  rfl

theorem w_piece (arg4 : Memref sig .tc .vmem S1024x2560 .i8) (harg4 : arg4.IsWhole) (arg5 : Memref sig .tc .vmem S1x1x1024 .f32) (harg5 : arg5.IsWhole)
    (x3 : Vec Ideal S1024x2560 .i8) (x4 : Vec Ideal S1x1x1024 .f32) (lr : Elt Ideal .f32) (L l : Vec Ideal S1024x1920 .bf16) (HH : Vec Ideal S1920x2560 .bf16) (r : Vec Ideal S1920x256 .bf16)
    (hl : l = L) (o p q c : ℕ) (hR : ∀ a, (![0, o] : Fin 2 → ℕ) a + S1920x256.size a ≤ S1920x2560.size a)
    (hr : r = fun j => HH ((Rect.unit (s := S1920x2560) ![0, o] S1920x256.size hR).emb j)) (hc : c = o + q)
    (ho : S1024x256.Slices ![p, q] S128x128) (hp : p + 128 ≤ 1024) (hq : q + 128 ≤ 256)
    (h : ∀ a, (![p, c] : Fin 2 → ℕ) a + S128x128.size a ≤ S1024x2560.size a)
    (h' : ∀ a, (![0, 0, p] : Fin 3 → ℕ) a + S1x1x128.size a ≤ S1x1x1024.size a)
    (x : (Rect.unit (s := S1024x2560) ![p, c] S128x128.size h).shape.Idx) :
    wTile lr (View.readAt (Elt Ideal) arg5.view (Rect.unit (s := S1x1x1024) ![0, 0, p] S1x1x128.size h').toLoadRect (harg5.unread x4)) l r
        (View.readAt (Elt Ideal) arg4.view (Rect.unit (s := S1024x2560) ![p, c] S128x128.size h).toLoadRect (harg4.unread x3)) ![p, q] ho x
      = wG lr x3 x4 L HH ((Rect.unit (s := S1024x2560) ![p, c] S128x128.size h).emb x) := by
  subst hl hr
  rw [read_rect, read_rect, wTile_apply _ _ _ _ _ _ _ _ hp hq]
  unfold wG
  refine congrArg₂ (fun z w : EReal => z - w) (congrArg (fun z : EReal => _ * z) (congrArg x4 (funext fun a => Fin.ext ?_)))
    (congrArg (fun z : EReal => lr * z) (Finset.sum_congr rfl fun k _ =>
      congrArg₂ (fun z w : EReal => z * w) (congrArg l (funext fun a => Fin.ext ?_)) (congrArg HH (funext fun a => Fin.ext ?_))))
  · fin_cases a <;> simp
  · fin_cases a <;> simp
  · fin_cases a
    · simp
    · simp [hc]; omega

/-- The same with the block first: the tile at row `p` and column `c` is cut out of the product of the 256 columns it lies in. -/
theorem w_block (arg4 : Memref sig .tc .vmem S1024x2560 .i8) (harg4 : arg4.IsWhole) (arg5 : Memref sig .tc .vmem S1x1x1024 .f32) (harg5 : arg5.IsWhole)
    (x3 : Vec Ideal S1024x2560 .i8) (x4 : Vec Ideal S1x1x1024 .f32) (lr : Elt Ideal .f32) (L l : Vec Ideal S1024x1920 .bf16) (HH : Vec Ideal S1920x2560 .bf16)
    (rd : (R : Rect S1920x2560) → R.shape.Idx → Elt Ideal .bf16) (hl : l = L) (hr : ∀ R, rd R = fun j => HH (R.emb j)) (p c : ℕ)
    (hR : ∀ a, (![0, c / 256 * 256] : Fin 2 → ℕ) a + S1920x256.size a ≤ S1920x2560.size a)
    (ho : S1024x256.Slices ![p, c % 256] S128x128) (hp : p + 128 ≤ 1024) (hq : c % 256 + 128 ≤ 256)
    (h : ∀ a, (![p, c] : Fin 2 → ℕ) a + S128x128.size a ≤ S1024x2560.size a)
    (h' : ∀ a, (![0, 0, p] : Fin 3 → ℕ) a + S1x1x128.size a ≤ S1x1x1024.size a)
    (x : (Rect.unit (s := S1024x2560) ![p, c] S128x128.size h).shape.Idx) :
    wG lr x3 x4 L HH ((Rect.unit (s := S1024x2560) ![p, c] S128x128.size h).emb x)
      = wTile lr (View.readAt (Elt Ideal) arg5.view (Rect.unit (s := S1x1x1024) ![0, 0, p] S1x1x128.size h').toLoadRect (harg5.unread x4)) l
        (rd (Rect.unit (s := S1920x2560) ![0, c / 256 * 256] S1920x256.size hR))
        (View.readAt (Elt Ideal) arg4.view (Rect.unit (s := S1024x2560) ![p, c] S128x128.size h).toLoadRect (harg4.unread x3)) ![p, c % 256] ho x :=
  (w_piece arg4 harg4 arg5 harg5 x3 x4 lr L l HH _ hl _ p _ c hR (hr _) (by omega) ho hp hq h h' x).symm

/-- A store that is a block of `G`, the block first, over stores that are. -/
theorem piecesOf_cons' {s : Shape} {e : EltTy} {G : Vec Ideal s e} {p : View.Piece (Elt Ideal) s e} {L : List (View.Piece (Elt Ideal) s e)}
    (h : ∀ x : p.1.shape.Idx, G (p.1.emb x) = p.2 x) (hL : View.PiecesOf G L) : View.PiecesOf G (p :: L) := ⟨fun x => (h x).symm, hL⟩

end Cert.UpdateIdeal.Hand

end
-- ==== Proof.Hand.UpdateIdeal.Step.lean ====
/-
  Hand-written. What one grid point leaves: the right operand, filled in at the first point and kept afterwards, and the
  table's block after the step.
-/
module

public import proofs.«01_k».proof.Proof.Hand.UpdateIdeal.Pieces

@[expose] public section

set_option maxRecDepth 16384

noncomputable section

namespace Cert.UpdateIdeal.Hand

open Cert.UpdateIdeal Cert.UpdateIdeal.Gen
open Idealize.ShloMosaic Idealize.ShloMosaic.TcCoe Idealize.SL.Sem
open scoped BigOperators

/-! ## The right operand, filled in at the first point -/

set_option maxHeartbeats 8000000 in
theorem hh_pieces (c : Dev nD) (arg6 : Memref sig .tc .vmem S1920x2560 .fp8e4m3) (harg6 : arg6.IsWhole) (arg7 : Memref sig .tc .vmem S1x1920 .f32) (harg7 : arg7.IsWhole) (x5 : Vec Ideal S1920x2560 .fp8e4m3) (x6 : Vec Ideal S1x1920 .f32) :
    View.PiecesOf (hhG x5 x6) (kernelRun0_A.sl.HS0_300 (F := Ideal) c arg6 harg6 arg7 harg7 x5 x6) := by
  unfold kernelRun0_A.sl.HS0_300
  repeat' (refine piecesOf_cons (hh_piece arg6 harg6 arg7 harg7 x5 x6 _ _ _ _) ?_)
  trivial

theorem hh_cover (c : Dev nD) (arg6 : Memref sig .tc .vmem S1920x2560 .fp8e4m3) (harg6 : arg6.IsWhole) (arg7 : Memref sig .tc .vmem S1x1920 .f32) (harg7 : arg7.IsWhole) (x5 : Vec Ideal S1920x2560 .fp8e4m3) (x6 : Vec Ideal S1x1920 .f32) (y : S1920x2560.Idx) :
    ∃ p ∈ kernelRun0_A.sl.HS0_300 (F := Ideal) c arg6 harg6 arg7 harg7 x5 x6, y ∈ p.1.set :=
  View.cover_of_tiledL (kernelRun0_A.sl.HS0_300 (F := Ideal) c arg6 harg6 arg7 harg7 x5 x6) S128x128.size (by sl_kernel_rfl) y

/-! ## Case A: the left operand and the rate -/

theorem rate_A (c : Dev nD) (arg1 : Memref sig .tc .smem S1 .f32) (harg1 : arg1.IsWhole) (x0 : Vec Ideal S1 .f32) : kernelRun0_A.sl.r (F := Ideal) c arg1 harg1 x0 = x0 (ix1 (0 : Fin 1)) := by
  unfold kernelRun0_A.sl.r
  rw [View.readAt_eq_ld, Memref.IsWhole.read_unread]
  exact congrArg x0 (funext fun a => Fin.ext (by fin_cases a; rfl))

theorem dlt_pieces_A (c : Dev nD) (i : grid0.Coords) (arg2 : Memref sig .tc .vmem S1920x1024 .fp8e5m2) (harg2 : arg2.IsWhole) (arg3 : Memref sig .tc .vmem S1920x128 .f32) (harg3 : arg3.IsWhole) (x1 : Vec Ideal S1920x1024 .fp8e5m2) (x2 : Vec Ideal S1920x128 .f32) :
    View.PiecesOf (dltG (i 0).val x1 x2) (kernelRun0_A.sl.HS1_8 (F := Ideal) c i arg2 harg2 arg3 harg3 x1 x2) := by
  unfold kernelRun0_A.sl.HS1_8
  refine piecesOf_cons (dlt_piece arg2 harg2 arg3 harg3 x1 x2 (i 0) 7 896 rfl inb_S1024x1920_S128x1920_896_0 inb_S1920x1024_S1920x128_0_896 inb_S1920x128_S1920x128_0_0) ?_
  refine piecesOf_cons (dlt_piece arg2 harg2 arg3 harg3 x1 x2 (i 0) 6 768 rfl inb_S1024x1920_S128x1920_768_0 inb_S1920x1024_S1920x128_0_768 inb_S1920x128_S1920x128_0_0) ?_
  refine piecesOf_cons (dlt_piece arg2 harg2 arg3 harg3 x1 x2 (i 0) 5 640 rfl inb_S1024x1920_S128x1920_640_0 inb_S1920x1024_S1920x128_0_640 inb_S1920x128_S1920x128_0_0) ?_
  refine piecesOf_cons (dlt_piece arg2 harg2 arg3 harg3 x1 x2 (i 0) 4 512 rfl inb_S1024x1920_S128x1920_512_0 inb_S1920x1024_S1920x128_0_512 inb_S1920x128_S1920x128_0_0) ?_
  refine piecesOf_cons (dlt_piece arg2 harg2 arg3 harg3 x1 x2 (i 0) 3 384 rfl inb_S1024x1920_S128x1920_384_0 inb_S1920x1024_S1920x128_0_384 inb_S1920x128_S1920x128_0_0) ?_
  refine piecesOf_cons (dlt_piece arg2 harg2 arg3 harg3 x1 x2 (i 0) 2 256 rfl inb_S1024x1920_S128x1920_256_0 inb_S1920x1024_S1920x128_0_256 inb_S1920x128_S1920x128_0_0) ?_
  refine piecesOf_cons (dlt_piece arg2 harg2 arg3 harg3 x1 x2 (i 0) 1 128 rfl inb_S1024x1920_S128x1920_128_0 inb_S1920x1024_S1920x128_0_128 inb_S1920x128_S1920x128_0_0) ?_
  refine piecesOf_cons (dlt_piece arg2 harg2 arg3 harg3 x1 x2 (i 0) 0 0 rfl inb_S1024x1920_S128x1920_0_0 inb_S1920x1024_S1920x128_0_0 inb_S1920x128_S1920x128_0_0) ?_
  trivial

theorem dlt_cover_A (c : Dev nD) (i : grid0.Coords) (arg2 : Memref sig .tc .vmem S1920x1024 .fp8e5m2) (harg2 : arg2.IsWhole) (arg3 : Memref sig .tc .vmem S1920x128 .f32) (harg3 : arg3.IsWhole) (x1 : Vec Ideal S1920x1024 .fp8e5m2) (x2 : Vec Ideal S1920x128 .f32) (y : S1024x1920.Idx) :
    ∃ p ∈ kernelRun0_A.sl.HS1_8 (F := Ideal) c i arg2 harg2 arg3 harg3 x1 x2, y ∈ p.1.set :=
  View.cover_of_tiledL (kernelRun0_A.sl.HS1_8 (F := Ideal) c i arg2 harg2 arg3 harg3 x1 x2) S128x1920.size (by sl_kernel_rfl) y

theorem dlt_read_A (c : Dev nD) (i : grid0.Coords) (arg2 : Memref sig .tc .vmem S1920x1024 .fp8e5m2) (harg2 : arg2.IsWhole) (arg3 : Memref sig .tc .vmem S1920x128 .f32) (harg3 : arg3.IsWhole) (arg10 : Memref sig .tc .vmem S1024x1920 .bf16) (x1 : Vec Ideal S1920x1024 .fp8e5m2) (x2 : Vec Ideal S1920x128 .f32) :
    kernelRun0_A.sl.v252 (F := Ideal) c i arg2 harg2 arg3 harg3 arg10 x1 x2 = dltG (i 0).val x1 x2 := by
  unfold kernelRun0_A.sl.v252
  rw [readCov_of_pieces _ (dlt_pieces_A c i arg2 harg2 arg3 harg3 x1 x2) (dlt_cover_A c i arg2 harg2 arg3 harg3 x1 x2)]
  exact funext fun j => congrArg _ (emb_unit_zero hz2 _ j)

/-! ## Case A: the table's block -/

set_option maxHeartbeats 16000000 in
theorem w_pieces_A (c : Dev nD) (i : grid0.Coords) (arg1 : Memref sig .tc .smem S1 .f32) (harg1 : arg1.IsWhole) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg6 : Memref sig .tc .vmem S1920x2560 .fp8e4m3) (harg6 : arg6.IsWhole) (arg7 : Memref sig .tc .vmem S1x1920 .f32) (harg7 : arg7.IsWhole) (arg8 : Memref sig .tc .vmem S1024x2560 .f32) (harg8 : arg8.IsWhole) (arg9 : Memref sig .tc .vmem S1920x2560 .bf16) (harg9 : arg9.IsWhole) (arg10 : Memref sig .tc .vmem S1024x1920 .bf16) (harg10 : arg10.IsWhole) (hc0 : cond0_0 i) (x0 : Vec Ideal S1 .f32) (x1 : Vec Ideal S1920x1024 .fp8e5m2) (x2 : Vec Ideal S1920x128 .f32) (x3 : Vec Ideal S1024x2560 .i8) (x4 : Vec Ideal S1x1x1024 .f32) (x5 : Vec Ideal S1920x2560 .fp8e4m3) (x6 : Vec Ideal S1x1920 .f32) :
    View.PiecesOf (wG (x0 (ix1 (0 : Fin 1))) x3 x4 (dltG (i 0).val x1 x2) (hhG x5 x6)) (kernelRun0_A (F := Ideal) c i arg1 harg1 arg2 harg2 arg3 harg3 arg4 harg4 arg5 harg5 arg6 harg6 arg7 harg7 arg8 harg8 arg9 harg9 arg10 harg10 hc0 x0 x1 x2 x3 x4 x5 x6).1 := by
  rw [← rate_A c arg1 harg1 x0]
  have hl := dlt_read_A c i arg2 harg2 arg3 harg3 arg10 x1 x2
  have hr := fun R => readCov_of_pieces arg9.view (hh_pieces c arg6 harg6 arg7 harg7 x5 x6) (hh_cover c arg6 harg6 arg7 harg7 x5 x6) R
  repeat' (refine piecesOf_cons' (w_block arg4 harg4 arg5 harg5 x3 x4 _ _ _ _ _ hl hr _ _ (by decide) (by decide) (by decide) (by decide) _ (by decide)) ?_)
  trivial

theorem out_A (c : Dev nD) (i : grid0.Coords) (arg1 : Memref sig .tc .smem S1 .f32) (harg1 : arg1.IsWhole) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg6 : Memref sig .tc .vmem S1920x2560 .fp8e4m3) (harg6 : arg6.IsWhole) (arg7 : Memref sig .tc .vmem S1x1920 .f32) (harg7 : arg7.IsWhole) (arg8 : Memref sig .tc .vmem S1024x2560 .f32) (harg8 : arg8.IsWhole) (arg9 : Memref sig .tc .vmem S1920x2560 .bf16) (harg9 : arg9.IsWhole) (arg10 : Memref sig .tc .vmem S1024x1920 .bf16) (harg10 : arg10.IsWhole) (hc0 : cond0_0 i) (x0 : Vec Ideal S1 .f32) (x1 : Vec Ideal S1920x1024 .fp8e5m2) (x2 : Vec Ideal S1920x128 .f32) (x3 : Vec Ideal S1024x2560 .i8) (x4 : Vec Ideal S1x1x1024 .f32) (x5 : Vec Ideal S1920x2560 .fp8e4m3) (x6 : Vec Ideal S1x1920 .f32) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 = wG (x0 (ix1 (0 : Fin 1))) x3 x4 (dltG (i 0).val x1 x2) (hhG x5 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  exact funext fun y => View.canon_apply_of_pieces _ _ (w_pieces_A c i arg1 harg1 arg2 harg2 arg3 harg3 arg4 harg4 arg5 harg5 arg6 harg6 arg7 harg7 arg8 harg8 arg9 harg9 arg10 harg10 hc0 x0 x1 x2 x3 x4 x5 x6).mem y (cover0_A_7 c i arg1 harg1 arg2 harg2 arg3 harg3 arg4 harg4 arg5 harg5 arg6 harg6 arg7 harg7 arg8 harg8 arg9 harg9 arg10 harg10 hc0 x0 x1 x2 x3 x4 x5 x6 y)

theorem sout_A (c : Dev nD) (i : grid0.Coords) (arg1 : Memref sig .tc .smem S1 .f32) (harg1 : arg1.IsWhole) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg6 : Memref sig .tc .vmem S1920x2560 .fp8e4m3) (harg6 : arg6.IsWhole) (arg7 : Memref sig .tc .vmem S1x1920 .f32) (harg7 : arg7.IsWhole) (arg8 : Memref sig .tc .vmem S1024x2560 .f32) (harg8 : arg8.IsWhole) (arg9 : Memref sig .tc .vmem S1920x2560 .bf16) (harg9 : arg9.IsWhole) (arg10 : Memref sig .tc .vmem S1024x1920 .bf16) (harg10 : arg10.IsWhole) (hc0 : cond0_0 i) (x0 : Vec Ideal S1 .f32) (x1 : Vec Ideal S1920x1024 .fp8e5m2) (x2 : Vec Ideal S1920x128 .f32) (x3 : Vec Ideal S1024x2560 .i8) (x4 : Vec Ideal S1x1x1024 .f32) (x5 : Vec Ideal S1920x2560 .fp8e4m3) (x6 : Vec Ideal S1x1920 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 = hhG x5 x6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6)]
  exact funext fun y => View.canon_apply_of_pieces _ _ (hh_pieces c arg6 harg6 arg7 harg7 x5 x6).mem y (scover0_A_0 c i arg1 harg1 arg2 harg2 arg3 harg3 arg4 harg4 arg5 harg5 arg6 harg6 arg7 harg7 arg8 harg8 arg9 harg9 arg10 harg10 hc0 x0 x1 x2 x3 x4 x5 x6 y)

/-! ## Case B: the left operand and the rate -/

theorem rate_B (c : Dev nD) (arg1 : Memref sig .tc .smem S1 .f32) (harg1 : arg1.IsWhole) (x0 : Vec Ideal S1 .f32) : kernelRun0_B.sl.r (F := Ideal) c arg1 harg1 x0 = x0 (ix1 (0 : Fin 1)) := by
  unfold kernelRun0_B.sl.r
  rw [View.readAt_eq_ld, Memref.IsWhole.read_unread]
  exact congrArg x0 (funext fun a => Fin.ext (by fin_cases a; rfl))

theorem dlt_pieces_B (c : Dev nD) (i : grid0.Coords) (arg2 : Memref sig .tc .vmem S1920x1024 .fp8e5m2) (harg2 : arg2.IsWhole) (arg3 : Memref sig .tc .vmem S1920x128 .f32) (harg3 : arg3.IsWhole) (x1 : Vec Ideal S1920x1024 .fp8e5m2) (x2 : Vec Ideal S1920x128 .f32) :
    View.PiecesOf (dltG (i 0).val x1 x2) (kernelRun0_B.sl.HS1_8 (F := Ideal) c i arg2 harg2 arg3 harg3 x1 x2) := by
  unfold kernelRun0_B.sl.HS1_8
  refine piecesOf_cons (dlt_piece arg2 harg2 arg3 harg3 x1 x2 (i 0) 7 896 rfl inb_S1024x1920_S128x1920_896_0 inb_S1920x1024_S1920x128_0_896 inb_S1920x128_S1920x128_0_0) ?_
  refine piecesOf_cons (dlt_piece arg2 harg2 arg3 harg3 x1 x2 (i 0) 6 768 rfl inb_S1024x1920_S128x1920_768_0 inb_S1920x1024_S1920x128_0_768 inb_S1920x128_S1920x128_0_0) ?_
  refine piecesOf_cons (dlt_piece arg2 harg2 arg3 harg3 x1 x2 (i 0) 5 640 rfl inb_S1024x1920_S128x1920_640_0 inb_S1920x1024_S1920x128_0_640 inb_S1920x128_S1920x128_0_0) ?_
  refine piecesOf_cons (dlt_piece arg2 harg2 arg3 harg3 x1 x2 (i 0) 4 512 rfl inb_S1024x1920_S128x1920_512_0 inb_S1920x1024_S1920x128_0_512 inb_S1920x128_S1920x128_0_0) ?_
  refine piecesOf_cons (dlt_piece arg2 harg2 arg3 harg3 x1 x2 (i 0) 3 384 rfl inb_S1024x1920_S128x1920_384_0 inb_S1920x1024_S1920x128_0_384 inb_S1920x128_S1920x128_0_0) ?_
  refine piecesOf_cons (dlt_piece arg2 harg2 arg3 harg3 x1 x2 (i 0) 2 256 rfl inb_S1024x1920_S128x1920_256_0 inb_S1920x1024_S1920x128_0_256 inb_S1920x128_S1920x128_0_0) ?_
  refine piecesOf_cons (dlt_piece arg2 harg2 arg3 harg3 x1 x2 (i 0) 1 128 rfl inb_S1024x1920_S128x1920_128_0 inb_S1920x1024_S1920x128_0_128 inb_S1920x128_S1920x128_0_0) ?_
  refine piecesOf_cons (dlt_piece arg2 harg2 arg3 harg3 x1 x2 (i 0) 0 0 rfl inb_S1024x1920_S128x1920_0_0 inb_S1920x1024_S1920x128_0_0 inb_S1920x128_S1920x128_0_0) ?_
  trivial

theorem dlt_cover_B (c : Dev nD) (i : grid0.Coords) (arg2 : Memref sig .tc .vmem S1920x1024 .fp8e5m2) (harg2 : arg2.IsWhole) (arg3 : Memref sig .tc .vmem S1920x128 .f32) (harg3 : arg3.IsWhole) (x1 : Vec Ideal S1920x1024 .fp8e5m2) (x2 : Vec Ideal S1920x128 .f32) (y : S1024x1920.Idx) :
    ∃ p ∈ kernelRun0_B.sl.HS1_8 (F := Ideal) c i arg2 harg2 arg3 harg3 x1 x2, y ∈ p.1.set :=
  View.cover_of_tiledL (kernelRun0_B.sl.HS1_8 (F := Ideal) c i arg2 harg2 arg3 harg3 x1 x2) S128x1920.size (by sl_kernel_rfl) y

theorem dlt_read_B (c : Dev nD) (i : grid0.Coords) (arg2 : Memref sig .tc .vmem S1920x1024 .fp8e5m2) (harg2 : arg2.IsWhole) (arg3 : Memref sig .tc .vmem S1920x128 .f32) (harg3 : arg3.IsWhole) (arg10 : Memref sig .tc .vmem S1024x1920 .bf16) (x1 : Vec Ideal S1920x1024 .fp8e5m2) (x2 : Vec Ideal S1920x128 .f32) :
    kernelRun0_B.sl.v252 (F := Ideal) c i arg2 harg2 arg3 harg3 arg10 x1 x2 = dltG (i 0).val x1 x2 := by
  unfold kernelRun0_B.sl.v252
  rw [readCov_of_pieces _ (dlt_pieces_B c i arg2 harg2 arg3 harg3 x1 x2) (dlt_cover_B c i arg2 harg2 arg3 harg3 x1 x2)]
  exact funext fun j => congrArg _ (emb_unit_zero hz2 _ j)

/-! ## Case B: the table's block -/

set_option maxHeartbeats 16000000 in
theorem w_pieces_B (c : Dev nD) (i : grid0.Coords) (arg1 : Memref sig .tc .smem S1 .f32) (harg1 : arg1.IsWhole) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg6 : Memref sig .tc .vmem S1920x2560 .fp8e4m3) (harg6 : arg6.IsWhole) (arg7 : Memref sig .tc .vmem S1x1920 .f32) (harg7 : arg7.IsWhole) (arg8 : Memref sig .tc .vmem S1024x2560 .f32) (harg8 : arg8.IsWhole) (arg9 : Memref sig .tc .vmem S1920x2560 .bf16) (harg9 : arg9.IsWhole) (arg10 : Memref sig .tc .vmem S1024x1920 .bf16) (harg10 : arg10.IsWhole) (hc0 : ¬cond0_0 i) (x0 : Vec Ideal S1 .f32) (x1 : Vec Ideal S1920x1024 .fp8e5m2) (x2 : Vec Ideal S1920x128 .f32) (x3 : Vec Ideal S1024x2560 .i8) (x4 : Vec Ideal S1x1x1024 .f32) (x5 : Vec Ideal S1920x2560 .fp8e4m3) (x6 : Vec Ideal S1x1920 .f32) (xs0 : Vec Ideal S1920x2560 .bf16) :
    View.PiecesOf (wG (x0 (ix1 (0 : Fin 1))) x3 x4 (dltG (i 0).val x1 x2) xs0) (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs0).1 := by
  rw [← rate_B c arg1 harg1 x0]
  have hl := dlt_read_B c i arg2 harg2 arg3 harg3 arg10 x1 x2
  have hr := fun R => read_rect arg9 harg9 xs0 R
  repeat' (refine piecesOf_cons' (w_block arg4 harg4 arg5 harg5 x3 x4 _ _ _ _ _ hl hr _ _ (by decide) (by decide) (by decide) (by decide) _ (by decide)) ?_)
  trivial

theorem out_B (c : Dev nD) (i : grid0.Coords) (arg1 : Memref sig .tc .smem S1 .f32) (harg1 : arg1.IsWhole) (arg2 : Memref sig .tc .vmem S1920x1024 .fp8e5m2) (harg2 : arg2.IsWhole) (arg3 : Memref sig .tc .vmem S1920x128 .f32) (harg3 : arg3.IsWhole) (arg4 : Memref sig .tc .vmem S1024x2560 .i8) (harg4 : arg4.IsWhole) (arg5 : Memref sig .tc .vmem S1x1x1024 .f32) (harg5 : arg5.IsWhole) (arg6 : Memref sig .tc .vmem S1920x2560 .fp8e4m3) (harg6 : arg6.IsWhole) (arg7 : Memref sig .tc .vmem S1x1920 .f32) (harg7 : arg7.IsWhole) (arg8 : Memref sig .tc .vmem S1024x2560 .f32) (harg8 : arg8.IsWhole) (arg9 : Memref sig .tc .vmem S1920x2560 .bf16) (harg9 : arg9.IsWhole) (arg10 : Memref sig .tc .vmem S1024x1920 .bf16) (harg10 : arg10.IsWhole) (hc0 : ¬cond0_0 i) (x0 : Vec Ideal S1 .f32) (x1 : Vec Ideal S1920x1024 .fp8e5m2) (x2 : Vec Ideal S1920x128 .f32) (x3 : Vec Ideal S1024x2560 .i8) (x4 : Vec Ideal S1x1x1024 .f32) (x5 : Vec Ideal S1920x2560 .fp8e4m3) (x6 : Vec Ideal S1x1920 .f32) (xs0 : Vec Ideal S1920x2560 .bf16) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xs0 = wG (x0 (ix1 (0 : Fin 1))) x3 x4 (dltG (i 0).val x1 x2) xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xs0)]
  exact funext fun y => View.canon_apply_of_pieces _ _ (w_pieces_B c i arg1 harg1 arg2 harg2 arg3 harg3 arg4 harg4 arg5 harg5 arg6 harg6 arg7 harg7 arg8 harg8 arg9 harg9 arg10 harg10 hc0 x0 x1 x2 x3 x4 x5 x6 xs0).mem y (cover0_B_7 c i arg1 harg1 arg2 harg2 arg3 harg3 arg4 harg4 arg5 harg5 arg6 harg6 arg7 harg7 arg8 harg8 arg9 harg9 arg10 harg10 hc0 x0 x1 x2 x3 x4 x5 x6 xs0 y)

end Cert.UpdateIdeal.Hand

end
-- ==== Proof.Hand.StepSpec.lean ====
/-
  Hand-written. The mathematics of the second pair of programs: the dequantised table less the rate times its gradient,
  word by word and column by column, the gradient being one sum over the rows of hidden states.
-/
module

public import proofs.«01_k».proof.UpdateIdeal
public import Idealize.ShloMosaic.Lib.Pointwise

@[expose] public section

noncomputable section

namespace Cert.StepSpec

open Cert.UpdateIdeal Idealize.ShloMosaic
open scoped BigOperators

/-- Row `r`'s contribution to the gradient at word `v`, column `d`: the logit's gradient there, times the scale of its row
    and of the word's group of 128, times the hidden state's code at the row and the column, times the row's scale. -/
def term (a0 : Vec Ideal S3x640x49152 .fp8e5m2) (a1 : Vec Ideal S3x640x384 .f32) (a2 : Vec Ideal S3x640x2560 .fp8e4m3) (a3 : Vec Ideal S3x640 .f32)
    (v : Fin 49152) (d : Fin 2560) (r : Fin 1920) : EReal :=
  ((a0 (ix3 (⟨r.val / 640, by omega⟩ : Fin 3) (⟨r.val % 640, by omega⟩ : Fin 640) v) : EReal)
      * a1 (ix3 (⟨r.val / 640, by omega⟩ : Fin 3) (⟨r.val % 640, by omega⟩ : Fin 640) (⟨v.val / 128, by omega⟩ : Fin 384)))
    * ((a2 (ix3 (⟨r.val / 640, by omega⟩ : Fin 3) (⟨r.val % 640, by omega⟩ : Fin 640) d) : EReal)
      * a3 (ix2 (⟨r.val / 640, by omega⟩ : Fin 3) (⟨r.val % 640, by omega⟩ : Fin 640)))

/-- The table after the step. -/
def step (a0 : Vec Ideal S3x640x49152 .fp8e5m2) (a1 : Vec Ideal S3x640x384 .f32) (a2 : Vec Ideal S3x640x2560 .fp8e4m3) (a3 : Vec Ideal S3x640 .f32)
    (a4 : Vec Ideal S49152x2560 .i8) (a5 : Vec Ideal S49152 .f32) (a6 : Vec Ideal S1 .f32) : Vec Ideal S49152x2560 .f32 :=
  fun y => (((((BitVec.toInt (a4 y) : ℝ) : EReal) * a5 (ix1 (y 0))) - a6 (ix1 (0 : Fin 1)) * ∑ r : Fin 1920, term a0 a1 a2 a3 (y 0) (y 1) r : EReal))

end Cert.StepSpec

end
-- ==== Proof.Hand.UpdateIdeal.Fold.lean ====
/-
  Hand-written. The right operand after each grid point is the hidden states, so each point writes back its block of the
  table after the step, and the result array holds the whole of it.
-/
module

public import proofs.«01_k».proof.Proof.Gen.UpdateIdeal.Value
public import proofs.«01_k».proof.Proof.Hand.UpdateIdeal.Step
public import proofs.«01_k».proof.Proof.Hand.StepSpec

@[expose] public section

set_option maxRecDepth 16384

noncomputable section

namespace Cert.UpdateIdeal.Hand

open Cert.UpdateIdeal Cert.UpdateIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the region reads -/

/-- The seven arguments the result is computed from. -/
abbrev a0 (c : Dev nD) : Vec Ideal S3x640x49152 .fp8e5m2 := m ((c : Thread nD τ).loc main_arg0)
abbrev a1 (c : Dev nD) : Vec Ideal S3x640x384 .f32 := m ((c : Thread nD τ).loc main_arg1)
abbrev a2 (c : Dev nD) : Vec Ideal S3x640x2560 .fp8e4m3 := m ((c : Thread nD τ).loc main_arg2)
abbrev a3 (c : Dev nD) : Vec Ideal S3x640 .f32 := m ((c : Thread nD τ).loc main_arg3)
abbrev a4 (c : Dev nD) : Vec Ideal S49152x2560 .i8 := m ((c : Thread nD τ).loc main_arg4)
abbrev a5 (c : Dev nD) : Vec Ideal S49152 .f32 := m ((c : Thread nD τ).loc main_arg5)
abbrev a6 (c : Dev nD) : Vec Ideal S1 .f32 := m ((c : Thread nD τ).loc main_arg6)

theorem V_v0 (c : Dev nD) : (V m c main_v0 : Vec Ideal S1920x49152 .fp8e5m2) = shapeCast S1920x49152 (a0 m c) shapeCasts_S3x640x49152_S1920x49152 := by
  show StableHlo.after (hostOps0 (F := Ideal)) _ (Proc.devRef .tc main_v0) = _
  simp only [hostOps0, List.flatten_cons, List.flatten_nil, List.cons_append, List.nil_append, List.append_nil]
  after_results
  try rfl
theorem V_v1 (c : Dev nD) : (V m c main_v1 : Vec Ideal S1920x384 .f32) = shapeCast S1920x384 (a1 m c) shapeCasts_S3x640x384_S1920x384 := by
  show StableHlo.after (hostOps0 (F := Ideal)) _ (Proc.devRef .tc main_v1) = _
  simp only [hostOps0, List.flatten_cons, List.flatten_nil, List.cons_append, List.nil_append, List.append_nil]
  after_results
  try rfl
theorem V_v2 (c : Dev nD) : (V m c main_v2 : Vec Ideal S1920x2560 .fp8e4m3) = shapeCast S1920x2560 (a2 m c) shapeCasts_S3x640x2560_S1920x2560 := by
  show StableHlo.after (hostOps0 (F := Ideal)) _ (Proc.devRef .tc main_v2) = _
  simp only [hostOps0, List.flatten_cons, List.flatten_nil, List.cons_append, List.nil_append, List.append_nil]
  after_results
  try rfl
theorem V_v3 (c : Dev nD) : (V m c main_v3 : Vec Ideal S1x1920 .f32) = shapeCast S1x1920 (a3 m c) shapeCasts_S3x640_S1x1920 := by
  show StableHlo.after (hostOps0 (F := Ideal)) _ (Proc.devRef .tc main_v3) = _
  simp only [hostOps0, List.flatten_cons, List.flatten_nil, List.cons_append, List.nil_append, List.append_nil]
  after_results
  try rfl
theorem V_v4 (c : Dev nD) : (V m c main_v4 : Vec Ideal S48x1x1024 .f32) = shapeCast S48x1x1024 (a5 m c) shapeCasts_S49152_S48x1x1024 := by
  show StableHlo.after (hostOps0 (F := Ideal)) _ (Proc.devRef .tc main_v4) = _
  simp only [hostOps0, List.flatten_cons, List.flatten_nil, List.cons_append, List.nil_append, List.append_nil]
  after_results
  try rfl

/-! ## The blocks of a point -/

theorem ix_0 : ∀ t : Fin grid0.N, cc0_transform_0 (grid0.coords t) = ![0] := by decide +kernel
theorem ix_1 : ∀ t : Fin grid0.N, cc0_transform_1 (grid0.coords t) = ![0, t.val] := by decide +kernel
theorem ix_2 : ∀ t : Fin grid0.N, cc0_transform_2 (grid0.coords t) = ![0, t.val / 16] := by decide +kernel
theorem ix_3 : ∀ t : Fin grid0.N, cc0_transform_3 (grid0.coords t) = ![t.val, 0] := by decide +kernel
theorem ix_4 : ∀ t : Fin grid0.N, cc0_transform_4 (grid0.coords t) = ![t.val, 0, 0] := by decide +kernel
theorem ix_5 : ∀ t : Fin grid0.N, cc0_transform_5 (grid0.coords t) = ![0, 0] := by decide +kernel
theorem ix_6 : ∀ t : Fin grid0.N, cc0_transform_6 (grid0.coords t) = ![0, 0] := by decide +kernel
theorem ix_7 : ∀ t : Fin grid0.N, cc0_transform_7 (grid0.coords t) = ![t.val, 0] := by decide +kernel

theorem lt48 (t : Fin cfg0.N) : t.val < 48 := lt_of_lt_of_eq t.isLt N_0

/-- The seven blocks of point `t`. -/
def blk0 (c : Dev nD) (t : Fin cfg0.N) : Vec Ideal S1 .f32 := iblk m c 0 t
def blk1 (c : Dev nD) (t : Fin cfg0.N) : Vec Ideal S1920x1024 .fp8e5m2 := iblk m c 1 t
def blk2 (c : Dev nD) (t : Fin cfg0.N) : Vec Ideal S1920x128 .f32 := iblk m c 2 t
def blk3 (c : Dev nD) (t : Fin cfg0.N) : Vec Ideal S1024x2560 .i8 := iblk m c 3 t
def blk4 (c : Dev nD) (t : Fin cfg0.N) : Vec Ideal S1x1x1024 .f32 := iblk m c 4 t
def blk5 (c : Dev nD) (t : Fin cfg0.N) : Vec Ideal S1920x2560 .fp8e4m3 := iblk m c 5 t
def blk6 (c : Dev nD) (t : Fin cfg0.N) : Vec Ideal S1x1920 .f32 := iblk m c 6 t

theorem iblk_0 (c : Dev nD) (t : Fin cfg0.N) : blk0 m c t (ix1 (0 : Fin 1)) = a6 m c (ix1 (0 : Fin 1)) := by
  have e : blk0 m c t (ix1 (0 : Fin 1)) = (V m c main_arg6 : Vec Ideal S1 .f32) (ix1 (0 : Fin 1)) := by
    refine congrArg (V m c main_arg6) (funext fun a => Fin.ext ?_)
    match a with
    | ⟨0, _⟩ => show cc0_transform_0 (grid0.coords t) 0 * 1 + 1 * 0 = 0
                rw [ix_0]; rfl
  rw [e, V_main_arg6]

theorem iblk_1 (c : Dev nD) (t : Fin cfg0.N) (r : Fin 1920) (k : Fin 1024) :
    blk1 m c t (ix2 r k)
      = a0 m c (ix3 (⟨r.val / 640, by omega⟩ : Fin 3) (⟨r.val % 640, by omega⟩ : Fin 640)
          (⟨1024 * t.val + k.val, by have := lt48 t; omega⟩ : Fin 49152)) := by
  have ht := lt48 t
  have e : blk1 m c t (ix2 r k)
      = (V m c main_v0 : Vec Ideal S1920x49152 .fp8e5m2) (ix2 r (⟨1024 * t.val + k.val, by omega⟩ : Fin 49152)) := by
    refine congrArg (V m c main_v0) (funext fun a => Fin.ext ?_)
    match a with
    | ⟨0, _⟩ => show cc0_transform_1 (grid0.coords t) 0 * 1920 + 1 * r.val = r.val
                rw [ix_1]; show 0 * 1920 + 1 * r.val = r.val; omega
    | ⟨1, _⟩ => show cc0_transform_1 (grid0.coords t) 1 * 1024 + 1 * k.val = 1024 * t.val + k.val
                rw [ix_1]; show t.val * 1024 + 1 * k.val = 1024 * t.val + k.val; omega
  rw [e, V_v0]
  pointwise

theorem iblk_2 (c : Dev nD) (t : Fin cfg0.N) (r : Fin 1920) (l : Fin 128) :
    blk2 m c t (ix2 r l)
      = a1 m c (ix3 (⟨r.val / 640, by omega⟩ : Fin 3) (⟨r.val % 640, by omega⟩ : Fin 640)
          (⟨128 * (t.val / 16) + l.val, by have := lt48 t; omega⟩ : Fin 384)) := by
  have ht := lt48 t
  have e : blk2 m c t (ix2 r l)
      = (V m c main_v1 : Vec Ideal S1920x384 .f32) (ix2 r (⟨128 * (t.val / 16) + l.val, by omega⟩ : Fin 384)) := by
    refine congrArg (V m c main_v1) (funext fun a => Fin.ext ?_)
    match a with
    | ⟨0, _⟩ => show cc0_transform_2 (grid0.coords t) 0 * 1920 + 1 * r.val = r.val
                rw [ix_2]; show 0 * 1920 + 1 * r.val = r.val; omega
    | ⟨1, _⟩ => show cc0_transform_2 (grid0.coords t) 1 * 128 + 1 * l.val = 128 * (t.val / 16) + l.val
                rw [ix_2]; show t.val / 16 * 128 + 1 * l.val = 128 * (t.val / 16) + l.val; omega
  rw [e, V_v1]
  pointwise

theorem iblk_3 (c : Dev nD) (t : Fin cfg0.N) (k : Fin 1024) (d : Fin 2560) :
    blk3 m c t (ix2 k d)
      = a4 m c (ix2 (⟨1024 * t.val + k.val, by have := lt48 t; omega⟩ : Fin 49152) d) := by
  have ht := lt48 t
  have e : blk3 m c t (ix2 k d)
      = (V m c main_arg4 : Vec Ideal S49152x2560 .i8) (ix2 (⟨1024 * t.val + k.val, by omega⟩ : Fin 49152) d) := by
    refine congrArg (V m c main_arg4) (funext fun a => Fin.ext ?_)
    match a with
    | ⟨0, _⟩ => show cc0_transform_3 (grid0.coords t) 0 * 1024 + 1 * k.val = 1024 * t.val + k.val
                rw [ix_3]; show t.val * 1024 + 1 * k.val = 1024 * t.val + k.val; omega
    | ⟨1, _⟩ => show cc0_transform_3 (grid0.coords t) 1 * 2560 + 1 * d.val = d.val
                rw [ix_3]; show 0 * 2560 + 1 * d.val = d.val; omega
  rw [e, V_main_arg4]

theorem iblk_4 (c : Dev nD) (t : Fin cfg0.N) (k : Fin 1024) :
    blk4 m c t (ix3 (0 : Fin 1) (0 : Fin 1) k)
      = a5 m c (ix1 (⟨1024 * t.val + k.val, by have := lt48 t; omega⟩ : Fin 49152)) := by
  have ht := lt48 t
  have e : blk4 m c t (ix3 (0 : Fin 1) (0 : Fin 1) k)
      = (V m c main_v4 : Vec Ideal S48x1x1024 .f32) (ix3 (⟨t.val, ht⟩ : Fin 48) (0 : Fin 1) k) := by
    refine congrArg (V m c main_v4) (funext fun a => Fin.ext ?_)
    match a with
    | ⟨0, _⟩ => show cc0_transform_4 (grid0.coords t) 0 * 1 + 1 * 0 = t.val
                rw [ix_4]; show t.val * 1 + 1 * 0 = t.val; omega
    | ⟨1, _⟩ => show cc0_transform_4 (grid0.coords t) 1 * 1 + 1 * 0 = 0
                rw [ix_4]; rfl
    | ⟨2, _⟩ => show cc0_transform_4 (grid0.coords t) 2 * 1024 + 1 * k.val = k.val
                rw [ix_4]; show 0 * 1024 + 1 * k.val = k.val; omega
  rw [e, V_v4]
  refine shapeCast_apply _ _ _ _ ?_
  rw [Shape.rowMajor_val_one, Shape.rowMajor_val_three]
  show 1024 * t.val + k.val = (t.val * 1 + 0) * 1024 + k.val
  omega

theorem iblk_5 (c : Dev nD) (t : Fin cfg0.N) (r : Fin 1920) (d : Fin 2560) :
    blk5 m c t (ix2 r d) = a2 m c (ix3 (⟨r.val / 640, by omega⟩ : Fin 3) (⟨r.val % 640, by omega⟩ : Fin 640) d) := by
  have e : blk5 m c t (ix2 r d) = (V m c main_v2 : Vec Ideal S1920x2560 .fp8e4m3) (ix2 r d) := by
    refine congrArg (V m c main_v2) (funext fun a => Fin.ext ?_)
    match a with
    | ⟨0, _⟩ => show cc0_transform_5 (grid0.coords t) 0 * 1920 + 1 * r.val = r.val
                rw [ix_5]; show 0 * 1920 + 1 * r.val = r.val; omega
    | ⟨1, _⟩ => show cc0_transform_5 (grid0.coords t) 1 * 2560 + 1 * d.val = d.val
                rw [ix_5]; show 0 * 2560 + 1 * d.val = d.val; omega
  rw [e, V_v2]
  pointwise

theorem iblk_6 (c : Dev nD) (t : Fin cfg0.N) (r : Fin 1920) :
    blk6 m c t (ix2 (0 : Fin 1) r) = a3 m c (ix2 (⟨r.val / 640, by omega⟩ : Fin 3) (⟨r.val % 640, by omega⟩ : Fin 640)) := by
  have e : blk6 m c t (ix2 (0 : Fin 1) r) = (V m c main_v3 : Vec Ideal S1x1920 .f32) (ix2 (0 : Fin 1) r) := by
    refine congrArg (V m c main_v3) (funext fun a => Fin.ext ?_)
    match a with
    | ⟨0, _⟩ => show cc0_transform_6 (grid0.coords t) 0 * 1 + 1 * 0 = 0
                rw [ix_6]; rfl
    | ⟨1, _⟩ => show cc0_transform_6 (grid0.coords t) 1 * 1920 + 1 * r.val = r.val
                rw [ix_6]; show 0 * 1920 + 1 * r.val = r.val; omega
  rw [e, V_v3]
  pointwise

/-! ## What each point leaves -/

/-- The hidden states, whole: row `r` is row `r % 640` of batch `r / 640`, its codes times its scale. -/
def hidden (c : Dev nD) : Vec Ideal S1920x2560 .bf16 :=
  fun y => ((a2 m c (ix3 (⟨(y 0).val / 640, by have : (y 0).val < 1920 := (y 0).isLt; omega⟩ : Fin 3) (⟨(y 0).val % 640, Nat.mod_lt _ (by decide)⟩ : Fin 640) (y 1)) : EReal)
    * a3 m c (ix2 (⟨(y 0).val / 640, by have : (y 0).val < 1920 := (y 0).isLt; omega⟩ : Fin 3) (⟨(y 0).val % 640, Nat.mod_lt _ (by decide)⟩ : Fin 640)) : EReal)

theorem hh_eq (c : Dev nD) (t : Fin cfg0.N) : hhG (blk5 m c t) (blk6 m c t) = hidden m c := by
  funext y
  obtain ⟨r, d, rfl⟩ : ∃ (r : Fin 1920) (d : Fin 2560), y = ix2 r d := ⟨y 0, y 1, funext fun a => by fin_cases a <;> rfl⟩
  show ((blk5 m c t (ix2 r d) : EReal) * blk6 m c t (ix2 (0 : Fin 1) r)) = _
  rw [iblk_5, iblk_6]
  rfl

theorem coord : ∀ t : Fin grid0.N, (grid0.coords t 0).val = t.val := fun t => by
  have ht : t.val < 48 := Nat.lt_of_lt_of_eq t.isLt N_0
  have e0 : (grid0.coords t 0).val = t.val / 1 % 48 := Pipeline.Grid.coords_val t 0 (by decide) rfl
  omega

/-- The table's block a point writes. -/
abbrev blkW (c : Dev nD) (t : Fin cfg0.N) : Vec Ideal S1024x2560 .f32 :=
  wG (blk0 m c t (ix1 (0 : Fin 1))) (blk3 m c t) (blk4 m c t) (dltG t.val (blk1 m c t) (blk2 m c t)) (hidden m c)

theorem scratch_A (c : Dev nD) (t : Fin cfg0.N) (h0 : t.val % 48 = 0) : (outsAt0 m c t.val t.isLt).2 = hidden m c := by
  rw [outsAt0_A m c t h0]
  refine Eq.trans ?_ (hh_eq m c t)
  have h := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
  dsimp only
  unfold blk5 blk6
  exact h

theorem scratch_B (c : Dev nD) (t : Fin cfg0.N) (h0 : ¬t.val % 48 = 0) :
    (outsAt0 m c t.val t.isLt).2 = (outsAt0 m c (t.val - 1) (Nat.lt_of_le_of_lt (Nat.sub_le _ _) t.isLt)).2 := by
  rw [outsAt0_B m c t h0]
  rfl

/-- After every point the right operand's buffer holds the hidden states. -/
theorem scratch_eq (c : Dev nD) : ∀ (n : ℕ) (h : n < cfg0.N), (outsAt0 m c n h).2 = hidden m c
  | 0, h => scratch_A m c ⟨0, h⟩ rfl
  | n + 1, h => by
    have hN : n + 1 < 48 := lt_of_lt_of_eq h N_0
    exact (scratch_B m c ⟨n + 1, h⟩ (by show ¬(n + 1) % 48 = 0; omega)).trans (scratch_eq c n (Nat.lt_of_succ_lt h))

theorem table_eq (c : Dev nD) (t : Fin cfg0.N) : (outsAt0 m c t.val t.isLt).1 = blkW m c t := by
  by_cases h0 : t.val % 48 = 0
  · rw [outsAt0_A m c t h0]
    have h := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
    rw [coord t] at h
    unfold blkW
    rw [← hh_eq m c t]
    dsimp only
    unfold blk0 blk1 blk2 blk3 blk4 blk5 blk6
    exact h
  · rw [outsAt0_B m c t h0]
    have h := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
    rw [coord t] at h
    unfold blkW
    rw [← scratch_eq m c (t.val - 1) (Nat.lt_of_le_of_lt (Nat.sub_le _ _) t.isLt)]
    dsimp only
    unfold blk0 blk1 blk2 blk3 blk4
    exact h

/-- The result: the table after the step. -/
abbrev result (c : Dev nD) : Buf (Elt Ideal) ((c : Thread nD τ).loc main_v5) := StepSpec.step (a0 m c) (a1 m c) (a2 m c) (a3 m c) (a4 m c) (a5 m c) (a6 m c)

theorem term_eq (c : Dev nD) (t : Fin cfg0.N) (k : Fin 1024) (d : Fin 2560) (r : Fin 1920) :
    ((dltG t.val (blk1 m c t) (blk2 m c t) (ix2 k r) : EReal) * hidden m c (ix2 r d))
      = StepSpec.term (a0 m c) (a1 m c) (a2 m c) (a3 m c) (⟨1024 * t.val + k.val, by have := lt48 t; omega⟩ : Fin 49152) d r := by
  have ht := lt48 t
  unfold dltG hidden StepSpec.term
  show ((blk1 m c t (ix2 r k) : EReal) * blk2 m c t (ix2 r (⟨(8 * t.val + k.val / 128) % 128, Nat.mod_lt _ (by decide)⟩ : Fin 128))) * _ = _
  rw [iblk_1, iblk_2]
  congr 5
  · show 128 * (t.val / 16) + (8 * t.val + k.val / 128) % 128 = (1024 * t.val + k.val) / 128
    omega
  · rfl

theorem blkW_apply (c : Dev nD) (t : Fin cfg0.N) (k : Fin 1024) (d : Fin 2560) :
    blkW m c t (ix2 k d) = StepSpec.step (a0 m c) (a1 m c) (a2 m c) (a3 m c) (a4 m c) (a5 m c) (a6 m c) (ix2 (⟨1024 * t.val + k.val, by have := lt48 t; omega⟩ : Fin 49152) d) := by
  have e : (∑ r : Fin 1920, (dltG t.val (blk1 m c t) (blk2 m c t) (ix2 k r) : EReal) * hidden m c (ix2 r d))
      = ∑ r : Fin 1920, StepSpec.term (a0 m c) (a1 m c) (a2 m c) (a3 m c) (⟨1024 * t.val + k.val, by have := lt48 t; omega⟩ : Fin 49152) d r :=
    Finset.sum_congr rfl fun r _ => term_eq m c t k d r
  show ((((BitVec.toInt (blk3 m c t (ix2 k d)) : ℝ) : EReal) * blk4 m c t (ix3 (0 : Fin 1) (0 : Fin 1) k))
    - blk0 m c t (ix1 (0 : Fin 1)) * ∑ r : Fin 1920, (dltG t.val (blk1 m c t) (blk2 m c t) (ix2 k r) : EReal) * hidden m c (ix2 r d) : EReal) = _
  rw [e, iblk_0, iblk_3, iblk_4]
  rfl

/-! ## The result array -/

theorem flushed_eq (c : Dev nD) (t : Fin cfg0.N) (hf : (cfg0.win 7).flush t = true) :
    (dats m 0 c).flushed 7 t = ((cfg0.win 7).blk t).view.read (Elt Ideal) (result m c) := by
  rw [Value.flushed7, table_eq]
  funext y
  have hy0 : (y 0).val < 1024 := (y 0).isLt
  have hy1 : (y 1).val < 2560 := (y 1).isLt
  have hx : (cfg0.win 7).xinj (grid0.coords t) y = ix2 (⟨(y 0).val, hy0⟩ : Fin 1024) (⟨(y 1).val, hy1⟩ : Fin 2560) :=
    funext fun a => Fin.ext (by fin_cases a <;> rfl)
  show blkW m c t ((cfg0.win 7).xinj (grid0.coords t) y) = result m c (((cfg0.win 7).blk t).view.emb y)
  rw [hx, blkW_apply]
  refine congrArg (result m c) (funext fun a => Fin.ext ?_)
  match a with
  | ⟨0, _⟩ => show 1024 * t.val + (y 0).val = cc0_transform_7 (grid0.coords t) 0 * 1024 + 1 * (y 0).val
              rw [ix_7]; show 1024 * t.val + (y 0).val = t.val * 1024 + 1 * (y 0).val; omega
  | ⟨1, _⟩ => show (y 1).val = cc0_transform_7 (grid0.coords t) 1 * 2560 + 1 * (y 1).val
              rw [ix_7]; show (y 1).val = 0 * 2560 + 1 * (y 1).val; omega

theorem final_o (c : Dev nD) : (dats m 0 c).arrAt 7 cfg0.N = result m c :=
  (dats m 0 c).arrAt_eq_of_cover 7 _ (flushed_eq m c) (fun i => (Value.covered_iff7 i).2 (by
    have h0 : (i 0).val < 49152 := (i 0).isLt; have h1 : (i 1).val < 2560 := (i 1).isLt; omega))

/-- The run, read: the result array holds the table after the step, the arguments are unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final_o m c), (h c).2⟩) (Value.run_blocks m ρ)

end Cert.UpdateIdeal.Hand

end
-- ==== Proof.Hand.StepIdeal.Result.lean ====
/-
  Hand-written. The second reference's result array holds the table after the step: its one point multiplies the two
  whole operands and subtracts the rate times their product from the dequantised table.
-/
module

public import proofs.«01_k».proof.Proof.Gen.StepIdeal.Value
public import proofs.«01_k».proof.Proof.Hand.StepSpec
public import Idealize.ShloMosaic.Lib.Pipeline.Value
public import Idealize.ShloMosaic.Lib.Pipeline.ReadBack
public import Idealize.ShloMosaic.Lib.MatmulPlain
public import Idealize.ShloMosaic.Lib.Tactic

@[expose] public section

set_option maxRecDepth 16384

noncomputable section

namespace Cert.StepIdeal.Hand

open Cert.StepIdeal Cert.StepIdeal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## The arrays the region reads -/

/-- The seven arguments the result is computed from. -/
abbrev a0 (c : Dev nD) : Vec Ideal S3x640x49152 .fp8e5m2 := m ((c : Thread nD τ).loc main_arg0)
abbrev a1 (c : Dev nD) : Vec Ideal S3x640x384 .f32 := m ((c : Thread nD τ).loc main_arg1)
abbrev a2 (c : Dev nD) : Vec Ideal S3x640x2560 .fp8e4m3 := m ((c : Thread nD τ).loc main_arg2)
abbrev a3 (c : Dev nD) : Vec Ideal S3x640 .f32 := m ((c : Thread nD τ).loc main_arg3)
abbrev a4 (c : Dev nD) : Vec Ideal S49152x2560 .i8 := m ((c : Thread nD τ).loc main_arg4)
abbrev a5 (c : Dev nD) : Vec Ideal S49152 .f32 := m ((c : Thread nD τ).loc main_arg5)
abbrev a6 (c : Dev nD) : Vec Ideal S1 .f32 := m ((c : Thread nD τ).loc main_arg6)

theorem V_v4 (c : Dev nD) : (V m c main_v4 : Vec Ideal S1920x49152 .fp8e5m2) = shapeCast S1920x49152 (a0 m c) shapeCasts_S3x640x49152_S1920x49152 := by
  show StableHlo.after (hostOps0 (F := Ideal)) _ (Proc.devRef .tc main_v4) = _
  simp only [hostOps0, List.flatten_cons, List.flatten_nil, List.cons_append, List.nil_append, List.append_nil]
  after_results
  try rfl

theorem V_v5 (c : Dev nD) : (V m c main_v5 : Vec Ideal S1920x2560 .fp8e4m3) = shapeCast S1920x2560 (a2 m c) shapeCasts_S3x640x2560_S1920x2560 := by
  show StableHlo.after (hostOps0 (F := Ideal)) _ (Proc.devRef .tc main_v5) = _
  simp only [hostOps0, List.flatten_cons, List.flatten_nil, List.cons_append, List.nil_append, List.append_nil]
  after_results
  try rfl

theorem V_v3 (c : Dev nD) (r : Fin 1920) (v : Fin 49152) : (V m c main_v3 : Vec Ideal S1920x49152 .bf16) (ix2 r v)
    = a1 m c (ix3 (⟨r.val / 640, by omega⟩ : Fin 3) (⟨r.val % 640, by omega⟩ : Fin 640) (⟨v.val / 128, by omega⟩ : Fin 384)) := by
  have e : (V m c main_v3 : Vec Ideal S1920x49152 .bf16)
      = shapeCast S1920x49152 (broadcastInDim S3x640x384x128 ![0, 1, 2, 3] bcast_S3x640x384x1_S3x640x384x128_0_1_2_3
          (broadcastInDim S3x640x384x1 ![0, 1, 2] bcast_S3x640x384_S3x640x384x1_0_1_2
            (truncf .bf16 (a1 m c) bitsLt_bf16_f32 : FVec Ideal S3x640x384 .bf16) : FVec Ideal S3x640x384x1 .bf16) : FVec Ideal S3x640x384x128 .bf16)
          shapeCasts_S3x640x384x128_S1920x49152 := by
    show StableHlo.after (hostOps0 (F := Ideal)) _ (Proc.devRef .tc main_v3) = _
    simp only [hostOps0, List.flatten_cons, List.flatten_nil, List.cons_append, List.nil_append, List.append_nil]
    after_results
    try rfl
  rw [e]
  pointwise

theorem V_v7 (c : Dev nD) (r : Fin 1920) : (V m c main_v7 : Vec Ideal S1920x1 .bf16) (ix2 r (0 : Fin 1))
    = a3 m c (ix2 (⟨r.val / 640, by omega⟩ : Fin 3) (⟨r.val % 640, by omega⟩ : Fin 640)) := by
  have e : (V m c main_v7 : Vec Ideal S1920x1 .bf16)
      = shapeCast S1920x1 (truncf .bf16 (a3 m c) bitsLt_bf16_f32 : FVec Ideal S3x640 .bf16) shapeCasts_S3x640_S1920x1 := by
    show StableHlo.after (hostOps0 (F := Ideal)) _ (Proc.devRef .tc main_v7) = _
    simp only [hostOps0, List.flatten_cons, List.flatten_nil, List.cons_append, List.nil_append, List.append_nil]
    after_results
    try rfl
  rw [e]
  pointwise

theorem V_v9 (c : Dev nD) (v : Fin 49152) : (V m c main_v9 : Vec Ideal S49152x1 .bf16) (ix2 v (0 : Fin 1)) = a5 m c (ix1 v) := by
  have e : (V m c main_v9 : Vec Ideal S49152x1 .bf16)
      = (broadcastInDim S49152x1 ![0] bcast_S49152_S49152x1_0 (truncf .bf16 (a5 m c) bitsLt_bf16_f32 : FVec Ideal S49152 .bf16) : FVec Ideal S49152x1 .bf16) := by
    show StableHlo.after (hostOps0 (F := Ideal)) _ (Proc.devRef .tc main_v9) = _
    simp only [hostOps0, List.flatten_cons, List.flatten_nil, List.cons_append, List.nil_append, List.append_nil]
    after_results
    try rfl
  rw [e]
  pointwise

/-! ## The one point -/

theorem hz2 : (![0, 0] : Fin 2 → ℕ) = fun _ => 0 := funext fun a => by fin_cases a <;> rfl

/-- What the point stores, at an index. -/
theorem pay_apply (x0 : Vec Ideal S1920x49152 .fp8e5m2) (x1 : Vec Ideal S1920x49152 .bf16) (x2 : Vec Ideal S1920x2560 .fp8e4m3) (x3 : Vec Ideal S1920x1 .bf16)
    (x4 : Vec Ideal S49152x2560 .i8) (x5 : Vec Ideal S49152x1 .bf16) (x6 : EReal)
    (y : S49152x2560.Idx) : (k0_pay1 (F := Ideal) x0 x1 x2 x3 x4 x5 x6 y : EReal)
      = (((BitVec.toInt (x4 y) : ℝ) : EReal) * x5 (ix2 (y 0) (0 : Fin 1)))
        - x6 * ∑ r : Fin 1920, ((x0 (ix2 r (y 0)) : EReal) * x1 (ix2 r (y 0))) * ((x2 (ix2 r (y 1)) : EReal) * x3 (ix2 r (0 : Fin 1))) := by
  unfold k0_pay1
  pointwise
  rfl

/-- The six blocks of the point in vector memory are the whole arrays. -/
def blk0 (c : Dev nD) (t : Fin cfg0.N) : Vec Ideal S1920x49152 .fp8e5m2 := iblk m c 0 t
def blk1 (c : Dev nD) (t : Fin cfg0.N) : Vec Ideal S1920x49152 .bf16 := iblk m c 1 t
def blk2 (c : Dev nD) (t : Fin cfg0.N) : Vec Ideal S1920x2560 .fp8e4m3 := iblk m c 2 t
def blk3 (c : Dev nD) (t : Fin cfg0.N) : Vec Ideal S1920x1 .bf16 := iblk m c 3 t
def blk4 (c : Dev nD) (t : Fin cfg0.N) : Vec Ideal S49152x2560 .i8 := iblk m c 4 t
def blk5 (c : Dev nD) (t : Fin cfg0.N) : Vec Ideal S49152x1 .bf16 := iblk m c 5 t
/-- The rate's block. -/
def blk6 (c : Dev nD) (t : Fin cfg0.N) : Vec Ideal S1 .f32 := iblk m c 6 t

theorem idx_0 : ∀ t : Fin grid0.N, win0_0.index t = ![0, 0] := by decide +kernel
theorem idx_1 : ∀ t : Fin grid0.N, win0_1.index t = ![0, 0] := by decide +kernel
theorem idx_2 : ∀ t : Fin grid0.N, win0_2.index t = ![0, 0] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![0] := by decide +kernel
theorem idx_7 : ∀ t : Fin grid0.N, win0_7.index t = ![0, 0] := by decide +kernel

theorem off_zero {f : Fin 2 → ℕ} (h : f = ![0, 0]) (s : Fin 2 → ℕ) : (fun a => f a * s a) = fun _ => 0 := by
  subst h; funext a; fin_cases a <;> simp

theorem blk0_eq (c : Dev nD) (t : Fin cfg0.N) : blk0 m c t = V m c main_v4 := by
  unfold blk0 iblk
  exact Memref.read_access_unit_zero (Elt Ideal) main_v4 (off_zero (idx_0 t) S1920x49152.size) (fun a => by rw [congrFun (off_zero (idx_0 t) S1920x49152.size) a]; simp) (V m c main_v4)
theorem blk1_eq (c : Dev nD) (t : Fin cfg0.N) : blk1 m c t = V m c main_v3 := by
  unfold blk1 iblk
  exact Memref.read_access_unit_zero (Elt Ideal) main_v3 (off_zero (idx_1 t) S1920x49152.size) (fun a => by rw [congrFun (off_zero (idx_1 t) S1920x49152.size) a]; simp) (V m c main_v3)
theorem blk2_eq (c : Dev nD) (t : Fin cfg0.N) : blk2 m c t = V m c main_v5 := by
  unfold blk2 iblk
  exact Memref.read_access_unit_zero (Elt Ideal) main_v5 (off_zero (idx_2 t) S1920x2560.size) (fun a => by rw [congrFun (off_zero (idx_2 t) S1920x2560.size) a]; simp) (V m c main_v5)
theorem blk3_eq (c : Dev nD) (t : Fin cfg0.N) : blk3 m c t = V m c main_v7 := by
  unfold blk3 iblk
  exact Memref.read_access_unit_zero (Elt Ideal) main_v7 (off_zero (idx_3 t) S1920x1.size) (fun a => by rw [congrFun (off_zero (idx_3 t) S1920x1.size) a]; simp) (V m c main_v7)
theorem blk4_eq (c : Dev nD) (t : Fin cfg0.N) : blk4 m c t = V m c main_arg4 := by
  unfold blk4 iblk
  exact Memref.read_access_unit_zero (Elt Ideal) main_arg4 (off_zero (idx_4 t) S49152x2560.size) (fun a => by rw [congrFun (off_zero (idx_4 t) S49152x2560.size) a]; simp) (V m c main_arg4)
theorem blk5_eq (c : Dev nD) (t : Fin cfg0.N) : blk5 m c t = V m c main_v9 := by
  unfold blk5 iblk
  exact Memref.read_access_unit_zero (Elt Ideal) main_v9 (off_zero (idx_5 t) S49152x1.size) (fun a => by rw [congrFun (off_zero (idx_5 t) S49152x1.size) a]; simp) (V m c main_v9)
theorem blk6_eq (c : Dev nD) (t : Fin cfg0.N) : blk6 m c t = V m c main_arg6 := by
  have hz : (fun a => win0_6.index t a * S1.size a) = fun _ => 0 := by rw [idx_6]; funext a; fin_cases a; simp
  unfold blk6 iblk
  exact Memref.read_access_unit_zero (Elt Ideal) main_arg6 hz (fun a => by rw [congrFun hz a]; simp) (V m c main_arg6)

theorem term_eq (c : Dev nD) (t : Fin cfg0.N) (v : Fin 49152) (d : Fin 2560) (r : Fin 1920) :
    ((blk0 m c t (ix2 r v) : EReal) * blk1 m c t (ix2 r v)) * ((blk2 m c t (ix2 r d) : EReal) * blk3 m c t (ix2 r (0 : Fin 1)))
      = StepSpec.term (a0 m c) (a1 m c) (a2 m c) (a3 m c) v d r := by
  rw [blk0_eq, blk1_eq, blk2_eq, blk3_eq, V_v3, V_v7, V_v4, V_v5]
  unfold StepSpec.term
  refine congrArg₂ (fun z w : EReal => z * _ * (w * _)) ?_ ?_
  · pointwise
  · pointwise

/-- The result: the table after the step. -/
abbrev result (c : Dev nD) : Buf (Elt Ideal) ((c : Thread nD τ).loc main_v10) := StepSpec.step (a0 m c) (a1 m c) (a2 m c) (a3 m c) (a4 m c) (a5 m c) (a6 m c)

theorem pay_eq (c : Dev nD) (t : Fin cfg0.N) (x6 : EReal) (h6 : x6 = blk6 m c t (ix1 (0 : Fin 1))) :
    (k0_pay1 (F := Ideal) (blk0 m c t) (blk1 m c t) (blk2 m c t) (blk3 m c t) (blk4 m c t) (blk5 m c t) x6 : Vec Ideal S49152x2560 .f32) = result m c := by
  funext y
  refine (pay_apply _ _ _ _ _ _ _ y).trans ?_
  refine congrArg₂ (fun z w : EReal => z - w) (congrArg₂ (fun z w : EReal => z * w) ?_ ?_)
    (congrArg₂ (fun z w : EReal => z * w) ?_ (Finset.sum_congr rfl fun r _ => term_eq m c t (y 0) (y 1) r))
  · rw [blk4_eq, V_main_arg4]
  · rw [blk5_eq]; exact V_v9 m c (y 0)
  · rw [h6, blk6_eq, V_main_arg6]

/-- A load of a whole buffer holding `x` reads `x`. -/
theorem read_whole {s : Shape} {e : EltTy} (a : Memref sig .tc .vmem s e) (h : a.IsWhole) (x : Vec Ideal s e) {off : Fin s.rank → ℕ} (h0 : off = fun _ => 0)
    (inb : ∀ a, off a + s.size a ≤ s.size a) : View.readAt (Elt Ideal) a.view (Rect.unit (s := s) off s.size inb).toLoadRect (h.unread x) = x := by
  rw [View.readAt_eq_ld, h.read_unread, View.ld_unit_zero h0]

theorem rate_eq (c : Dev nD) (t : Fin cfg0.N) (x6 : Vec Ideal S1 .f32) : (kernelRun0_A.sl.r c (ms0_6 t) (hs0_6 t) x6 : EReal) = x6 (ix1 (0 : Fin 1)) := by
  unfold kernelRun0_A.sl.r
  rw [View.readAt_eq_ld, Memref.IsWhole.read_unread]
  exact congrArg x6 (funext fun a => Fin.ext (by fin_cases a; rfl))

theorem out_eq (c : Dev nD) (t : Fin cfg0.N) : outsAt0 m c t = result m c := by
  unfold outsAt0 out0_A_7
  rw [View.read_writes_eq_canon _ _ _ (cover0_A_7 c _ _ _ _ _ _ _ _ _ _ _ _ _ _ _ _ _ _ _ _ _ _ _)]
  unfold kernelRun0_A
  dsimp only
  rw [View.canon_unit_zero hz2]
  refine Eq.trans ?_ (pay_eq m c t _ (rate_eq c t _))
  congr 1
  · exact read_whole _ _ _ hz2 _
  · exact read_whole _ _ _ hz2 _
  · exact read_whole _ _ _ hz2 _
  · exact read_whole _ _ _ hz2 _
  · exact read_whole _ _ _ hz2 _
  · exact read_whole _ _ _ hz2 _

theorem flushed_eq (c : Dev nD) (t : Fin cfg0.N) (hf : (cfg0.win 7).flush t = true) :
    (dats m 0 c).flushed 7 t = ((cfg0.win 7).blk t).view.read (Elt Ideal) (result m c) := by
  rw [Value.flushed7]
  refine (congrArg ((cfg0.win 7).cut (grid0.coords t)) (out_eq m c t)).trans ?_
  exact (Memref.read_access_unit_zero (Elt Ideal) main_v10 (off_zero (idx_7 t) S49152x2560.size) (fun a => by rw [congrFun (off_zero (idx_7 t) S49152x2560.size) a]; simp) (result m c)).symm

theorem final_o (c : Dev nD) : (dats m 0 c).arrAt 7 cfg0.N = result m c :=
  (dats m 0 c).arrAt_eq_of_cover 7 (result m c) (flushed_eq m c) fun i =>
    ⟨t0_0, flush0_7 t0_0, by
      have hi : ∀ a, (fun a => win0_7.index t0_0 a * S49152x2560.size a) a + S49152x2560.size a ≤ S49152x2560.size a := fun a => by
        have := congrFun (off_zero (idx_7 t0_0) S49152x2560.size) a; dsimp only at this ⊢; rw [this]; simp
      have h : i ∈ ((View.whole main_v10).slice (Rect.unit (s := S49152x2560) _ S49152x2560.size hi)).set := by
        rw [View.set_slice_whole]; exact View.mem_set_unit_zero (off_zero (idx_7 t0_0) _) hi i
      exact h⟩

/-- The run, read: the result array holds the table after the step, the arguments are unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final_o m c), (h c).2⟩) (Value.run_blocks m ρ)

end Cert.StepIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.ReferenceIdeal.Value
public import proofs.«01_k».proof.Proof.Gen.UpdateIdeal.Value
public import proofs.«01_k».proof.Proof.Gen.StepIdeal.Value
public import proofs.«01_k».proof.Proof.Hand.Kernel.Frame
public import proofs.«01_k».proof.Proof.Hand.KernelIdeal.Fold
public import proofs.«01_k».proof.Proof.Hand.ReferenceIdeal.Result
public import proofs.«01_k».proof.Proof.Hand.UpdateIdeal.Fold
public import proofs.«01_k».proof.Proof.Hand.StepIdeal.Result
public import Idealize.ShloMosaic.Adequacy
public import Idealize.ShloMosaic.Init

@[expose] public section

noncomputable section

namespace Cert.Proof

open Idealize.ShloMosaic Idealize.SL.Sem Cert.Kernel

/-- The two idealized programs' result arrays are equal: each is the gradient of the hidden states of its arguments. -/
theorem algebraic : Cert.algebraic_KernelIdeal_ReferenceIdeal := fun m g m' g' _ hargs =>
  ⟨fun c => Cert.KernelIdeal.Hand.result m c, Cert.KernelIdeal.Hand.run m g, (θ_run _ _ _).mono (fun r h c => ⟨(h c).1.trans (by
    obtain ⟨h0, h1, h2, h3, -, -⟩ := hargs c
    show Cert.Spec.dh (Cert.ReferenceIdeal.Hand.a0 m' c) (Cert.ReferenceIdeal.Hand.a1 m' c) (Cert.ReferenceIdeal.Hand.a2 m' c) (Cert.ReferenceIdeal.Hand.a3 m' c)
      = Cert.Spec.dh (Cert.KernelIdeal.Hand.a0 m c) (Cert.KernelIdeal.Hand.a1 m c) (Cert.KernelIdeal.Hand.a2 m c) (Cert.KernelIdeal.Hand.a3 m c)
    rw [show Cert.ReferenceIdeal.Hand.a0 m' c = Cert.KernelIdeal.Hand.a0 m c from h0, show Cert.ReferenceIdeal.Hand.a1 m' c = Cert.KernelIdeal.Hand.a1 m c from h1,
      show Cert.ReferenceIdeal.Hand.a2 m' c = Cert.KernelIdeal.Hand.a2 m c from h2, show Cert.ReferenceIdeal.Hand.a3 m' c = Cert.KernelIdeal.Hand.a3 m c from h3]), (h c).2⟩)
    (Cert.ReferenceIdeal.Hand.run m' g')⟩

/-- The second pair's result arrays are equal: each is the table after the step, of its arguments. -/
theorem algebraic_step : Cert.algebraic_UpdateIdeal_StepIdeal := fun m g m' g' _ hargs =>
  ⟨fun c => Cert.UpdateIdeal.Hand.result m c, Cert.UpdateIdeal.Hand.run m g, (θ_run _ _ _).mono (fun r h c => ⟨(h c).1.trans (by
    obtain ⟨h0, h1, h2, h3, h4, h5, h6⟩ := hargs c
    show Cert.StepSpec.step (Cert.StepIdeal.Hand.a0 m' c) (Cert.StepIdeal.Hand.a1 m' c) (Cert.StepIdeal.Hand.a2 m' c) (Cert.StepIdeal.Hand.a3 m' c) (Cert.StepIdeal.Hand.a4 m' c) (Cert.StepIdeal.Hand.a5 m' c) (Cert.StepIdeal.Hand.a6 m' c)
      = Cert.StepSpec.step (Cert.UpdateIdeal.Hand.a0 m c) (Cert.UpdateIdeal.Hand.a1 m c) (Cert.UpdateIdeal.Hand.a2 m c) (Cert.UpdateIdeal.Hand.a3 m c) (Cert.UpdateIdeal.Hand.a4 m c) (Cert.UpdateIdeal.Hand.a5 m c) (Cert.UpdateIdeal.Hand.a6 m c)
    rw [show Cert.StepIdeal.Hand.a0 m' c = Cert.UpdateIdeal.Hand.a0 m c from h0,
      show Cert.StepIdeal.Hand.a1 m' c = Cert.UpdateIdeal.Hand.a1 m c from h1,
      show Cert.StepIdeal.Hand.a2 m' c = Cert.UpdateIdeal.Hand.a2 m c from h2,
      show Cert.StepIdeal.Hand.a3 m' c = Cert.UpdateIdeal.Hand.a3 m c from h3,
      show Cert.StepIdeal.Hand.a4 m' c = Cert.UpdateIdeal.Hand.a4 m c from h4,
      show Cert.StepIdeal.Hand.a5 m' c = Cert.UpdateIdeal.Hand.a5 m c from h5,
      show Cert.StepIdeal.Hand.a6 m' c = Cert.UpdateIdeal.Hand.a6 m c from h6]), (h c).2⟩)
    (Cert.StepIdeal.Hand.run m' g')⟩

theorem claim : Cert.Claim := ⟨Cert.Kernel.Gen.facts, Cert.KernelIdeal.Gen.facts, Cert.ReferenceIdeal.Gen.facts,
  Cert.Update.Gen.facts, Cert.UpdateIdeal.Gen.facts, Cert.StepIdeal.Gen.facts,
  fun m g _ => Cert.Kernel.Hand.frame m g, fun m g _ => Cert.KernelIdeal.Hand.frame m g, fun m g _ => Cert.ReferenceIdeal.Gen.frame m g,
  fun m g _ => Cert.Update.Gen.frame m g, fun m g _ => Cert.UpdateIdeal.Gen.frame m g, fun m g _ => Cert.StepIdeal.Gen.frame m g,
  trivial, algebraic, trivial, algebraic_step⟩

end Cert.Proof

end
